-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjIdeal_finite_inproj [hPre_finite_inproj : Cert.Pre_finite_inproj.Facts] (m : (ℓ : Loc Cert.InProjIdeal.nD Cert.InProjIdeal.τ Cert.InProjIdeal.sig) → Buf (Elt Ideal) ℓ) : Prop :=
  ∀ c : Dev Cert.InProjIdeal.nD,
    (Cert.Pre_finite_inproj.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5))).1 = (fun _ => 1#1)
    ∧ (Cert.Pre_finite_inproj.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5))).2.1 = (fun _ => 1#1)
    ∧ (Cert.Pre_finite_inproj.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5))).2.2.1 = (fun _ => 1#1)
    ∧ (Cert.Pre_finite_inproj.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5))).2.2.2.1 = (fun _ => 1#1)
    ∧ (Cert.Pre_finite_inproj.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5))).2.2.2.2.1 = (fun _ => 1#1)
    ∧ (Cert.Pre_finite_inproj.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5))).2.2.2.2.2 = (fun _ => 1#1)

def Pre_InProjRefIdeal (m : (ℓ : Loc Cert.InProjRefIdeal.nD Cert.InProjRefIdeal.τ Cert.InProjRefIdeal.sig) → Buf (Elt Ideal) ℓ) : Prop :=
  True

def Pre_InProjRefIdeal_finite_inproj [hPre_finite_inproj : Cert.Pre_finite_inproj.Facts] (m : (ℓ : Loc Cert.InProjRefIdeal.nD Cert.InProjRefIdeal.τ Cert.InProjRefIdeal.sig) → Buf (Elt Ideal) ℓ) : Prop :=
  ∀ c : Dev Cert.InProjRefIdeal.nD,
    (Cert.Pre_finite_inproj.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4)) (m ((c.tc : Thread Cert.InProjRefIdeal.nD Cert.InProjRefIdeal.τ).loc Cert.InProjRefIdeal.main_arg5))).1 = (fun _ => 1#1)
    ∧ (Cert.Pre_finite_inproj.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4)) (m ((c.tc : Thread Cert.InProjRefIdeal.nD Cert.InProjRefIdeal.τ).loc Cert.InProjRefIdeal.main_arg5))).2.1 = (fun _ => 1#1)
    ∧ (Cert.Pre_finite_inproj.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4)) (m ((c.tc : Thread Cert.InProjRefIdeal.nD Cert.InProjRefIdeal.τ).loc Cert.InProjRefIdeal.main_arg5))).2.2.1 = (fun _ => 1#1)
    ∧ (Cert.Pre_finite_inproj.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4)) (m ((c.tc : Thread Cert.InProjRefIdeal.nD Cert.InProjRefIdeal.τ).loc Cert.InProjRefIdeal.main_arg5))).2.2.2.1 = (fun _ => 1#1)
    ∧ (Cert.Pre_finite_inproj.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4)) (m ((c.tc : Thread Cert.InProjRefIdeal.nD Cert.InProjRefIdeal.τ).loc Cert.InProjRefIdeal.main_arg5))).2.2.2.2.1 = (fun _ => 1#1)
    ∧ (Cert.Pre_finite_inproj.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4)) (m ((c.tc : Thread Cert.InProjRefIdeal.nD Cert.InProjRefIdeal.τ).loc Cert.InProjRefIdeal.main_arg5))).2.2.2.2.2 = (fun _ => 1#1)

def Pre_FfnU (m : (ℓ : Loc Cert.FfnU.nD Cert.FfnU.τ Cert.FfnU.sig) → Buf (Elt Bits) ℓ) : Prop :=
  True

def Pre_FfnUIdeal (m : (ℓ : Loc Cert.FfnUIdeal.nD Cert.FfnUIdeal.τ Cert.FfnUIdeal.sig) → Buf (Elt Ideal) ℓ) : Prop :=
  True

def Pre_FfnUIdeal_finite_u [hPre_finite_u : Cert.Pre_finite_u.Facts] (m : (ℓ : Loc Cert.FfnUIdeal.nD Cert.FfnUIdeal.τ Cert.FfnUIdeal.sig) → Buf (Elt Ideal) ℓ) : Prop :=
  ∀ c : Dev Cert.FfnUIdeal.nD,
    (Cert.Pre_finite_u.fn (F := Ideal) (m ((c.tc : Thread Cert.FfnUIdeal.nD Cert.FfnUIdeal.τ).loc Cert.FfnUIdeal.main_arg0)) (m ((c.tc : Thread Cert.FfnUIdeal.nD Cert.FfnUIdeal.τ).loc Cert.FfnUIdeal.main_arg1)) (m ((c.tc : Thread Cert.FfnUIdeal.nD Cert.FfnUIdeal.τ).loc Cert.FfnUIdeal.main_arg2)) (m ((c.tc : Thread Cert.FfnUIdeal.nD Cert.FfnUIdeal.τ).loc Cert.FfnUIdeal.main_arg3)) (m ((c.tc : Thread Cert.FfnUIdeal.nD Cert.FfnUIdeal.τ).loc Cert.FfnUIdeal.main_arg4)) (m ((c.tc : Thread Cert.FfnUIdeal.nD Cert.FfnUIdeal.τ).loc Cert.FfnUIdeal.main_arg5))).1 = (fun _ => 1#1)
    ∧ (Cert.Pre_finite_u.fn (F := Ideal) (m ((c.tc : Thread Cert.FfnUIdeal.nD Cert.FfnUIdeal.τ).loc Cert.FfnUIdeal.main_arg0)) (m ((c.tc : Thread Cert.FfnUIdeal.nD Cert.FfnUIdeal.τ).loc Cert.FfnUIdeal.main_arg1)) (m ((c.tc : Thread Cert.FfnUIdeal.nD Cert.FfnUIdeal.τ).loc Cert.FfnUIdeal.main_arg2)) (m ((c.tc : Thread Cert.FfnUIdeal.nD Cert.FfnUIdeal.τ).loc Cert.FfnUIdeal.main_arg3)) (m ((c.tc : Thread Cert.FfnUIdeal.nD Cert.FfnUIdeal.τ).loc Cert.FfnUIdeal.main_arg4)) (m ((c.tc : Thread Cert.FfnUIdeal.nD Cert.FfnUIdeal.τ).loc Cert.FfnUIdeal.main_arg5))).2.1 = (fun _ => 1#1)
    ∧ (Cert.Pre_finite_u.fn (F := Ideal) (m ((c.tc : Thread Cert.FfnUIdeal.nD Cert.FfnUIdeal.τ).loc Cert.FfnUIdeal.main_arg0)) (m ((c.tc : Thread Cert.FfnUIdeal.nD Cert.FfnUIdeal.τ).loc Cert.FfnUIdeal.main_arg1)) (m ((c.tc : Thread Cert.FfnUIdeal.nD Cert.FfnUIdeal.τ).loc Cert.FfnUIdeal.main_arg2)) (m ((c.tc : Thread Cert.FfnUIdeal.nD Cert.FfnUIdeal.τ).loc Cert.FfnUIdeal.main_arg3)) (m ((c.tc : Thread Cert.FfnUIdeal.nD Cert.FfnUIdeal.τ).loc Cert.FfnUIdeal.main_arg4)) (m ((c.tc : Thread Cert.FfnUIdeal.nD Cert.FfnUIdeal.τ).loc Cert.FfnUIdeal.main_arg5))).2.2.1 = (fun _ => 1#1)
    ∧ (Cert.Pre_finite_u.fn (F := Ideal) (m ((c.tc : Thread Cert.FfnUIdeal.nD Cert.FfnUIdeal.τ).loc Cert.FfnUIdeal.main_arg0)) (m ((c.tc : Thread Cert.FfnUIdeal.nD Cert.FfnUIdeal.τ).loc Cert.FfnUIdeal.main_arg1)) (m ((c.tc : Thread Cert.FfnUIdeal.nD Cert.FfnUIdeal.τ).loc Cert.FfnUIdeal.main_arg2)) (m ((c.tc : Thread Cert.FfnUIdeal.nD Cert.FfnUIdeal.τ).loc Cert.FfnUIdeal.main_arg3)) (m ((c.tc : Thread Cert.FfnUIdeal.nD Cert.FfnUIdeal.τ).loc Cert.FfnUIdeal.main_arg4)) (m ((c.tc : Thread Cert.FfnUIdeal.nD Cert.FfnUIdeal.τ).loc Cert.FfnUIdeal.main_arg5))).2.2.2.1 = (fun _ => 1#1)
    ∧ (Cert.Pre_finite_u.fn (F := Ideal) (m ((c.tc : Thread Cert.FfnUIdeal.nD Cert.FfnUIdeal.τ).loc Cert.FfnUIdeal.main_arg0)) (m ((c.tc : Thread Cert.FfnUIdeal.nD Cert.FfnUIdeal.τ).loc Cert.FfnUIdeal.main_arg1)) (m ((c.tc : Thread Cert.FfnUIdeal.nD Cert.FfnUIdeal.τ).loc Cert.FfnUIdeal.main_arg2)) (m ((c.tc : Thread Cert.FfnUIdeal.nD Cert.FfnUIdeal.τ).loc Cert.FfnUIdeal.main_arg3)) (m ((c.tc : Thread Cert.FfnUIdeal.nD Cert.FfnUIdeal.τ).loc Cert.FfnUIdeal.main_arg4)) (m ((c.tc : Thread Cert.FfnUIdeal.nD Cert.FfnUIdeal.τ).loc Cert.FfnUIdeal.main_arg5))).2.2.2.2.1 = (fun _ => 1#1)
    ∧ (Cert.Pre_finite_u.fn (F := Ideal) (m ((c.tc : Thread Cert.FfnUIdeal.nD Cert.FfnUIdeal.τ).loc Cert.FfnUIdeal.main_arg0)) (m ((c.tc : Thread Cert.FfnUIdeal.nD Cert.FfnUIdeal.τ).loc Cert.FfnUIdeal.main_arg1)) (m ((c.tc : Thread Cert.FfnUIdeal.nD Cert.FfnUIdeal.τ).loc Cert.FfnUIdeal.main_arg2)) (m ((c.tc : Thread Cert.FfnUIdeal.nD Cert.FfnUIdeal.τ).loc Cert.FfnUIdeal.main_arg3)) (m ((c.tc : Thread Cert.FfnUIdeal.nD Cert.FfnUIdeal.τ).loc Cert.FfnUIdeal.main_arg4)) (m ((c.tc : Thread Cert.FfnUIdeal.nD Cert.FfnUIdeal.τ).loc Cert.FfnUIdeal.main_arg5))).2.2.2.2.2 = (fun _ => 1#1)

def Pre_FfnURefIdeal (m : (ℓ : Loc Cert.FfnURefIdeal.nD Cert.FfnURefIdeal.τ Cert.FfnURefIdeal.sig) → Buf (Elt Ideal) ℓ) : Prop :=
  True

def Pre_FfnURefIdeal_finite_u [hPre_finite_u : Cert.Pre_finite_u.Facts] (m : (ℓ : Loc Cert.FfnURefIdeal.nD Cert.FfnURefIdeal.τ Cert.FfnURefIdeal.sig) → Buf (Elt Ideal) ℓ) : Prop :=
  ∀ c : Dev Cert.FfnURefIdeal.nD,
    (Cert.Pre_finite_u.fn (F := Ideal) (m ((c.tc : Thread Cert.FfnURefIdeal.nD Cert.FfnURefIdeal.τ).loc Cert.FfnURefIdeal.main_arg0)) (m ((c.tc : Thread Cert.FfnURefIdeal.nD Cert.FfnURefIdeal.τ).loc Cert.FfnURefIdeal.main_arg1)) (m ((c.tc : Thread Cert.FfnURefIdeal.nD Cert.FfnURefIdeal.τ).loc Cert.FfnURefIdeal.main_arg2)) (m ((c.tc : Thread Cert.FfnURefIdeal.nD Cert.FfnURefIdeal.τ).loc Cert.FfnURefIdeal.main_arg3)) (m ((c.tc : Thread Cert.FfnURefIdeal.nD Cert.FfnURefIdeal.τ).loc Cert.FfnURefIdeal.main_arg4)) (m ((c.tc : Thread Cert.FfnURefIdeal.nD Cert.FfnURefIdeal.τ).loc Cert.FfnURefIdeal.main_arg5))).1 = (fun _ => 1#1)
    ∧ (Cert.Pre_finite_u.fn (F := Ideal) (m ((c.tc : Thread Cert.FfnURefIdeal.nD Cert.FfnURefIdeal.τ).loc Cert.FfnURefIdeal.main_arg0)) (m ((c.tc : Thread Cert.FfnURefIdeal.nD Cert.FfnURefIdeal.τ).loc Cert.FfnURefIdeal.main_arg1)) (m ((c.tc : Thread Cert.FfnURefIdeal.nD Cert.FfnURefIdeal.τ).loc Cert.FfnURefIdeal.main_arg2)) (m ((c.tc : Thread Cert.FfnURefIdeal.nD Cert.FfnURefIdeal.τ).loc Cert.FfnURefIdeal.main_arg3)) (m ((c.tc : Thread Cert.FfnURefIdeal.nD Cert.FfnURefIdeal.τ).loc Cert.FfnURefIdeal.main_arg4)) (m ((c.tc : Thread Cert.FfnURefIdeal.nD Cert.FfnURefIdeal.τ).loc Cert.FfnURefIdeal.main_arg5))).2.1 = (fun _ => 1#1)
    ∧ (Cert.Pre_finite_u.fn (F := Ideal) (m ((c.tc : Thread Cert.FfnURefIdeal.nD Cert.FfnURefIdeal.τ).loc Cert.FfnURefIdeal.main_arg0)) (m ((c.tc : Thread Cert.FfnURefIdeal.nD Cert.FfnURefIdeal.τ).loc Cert.FfnURefIdeal.main_arg1)) (m ((c.tc : Thread Cert.FfnURefIdeal.nD Cert.FfnURefIdeal.τ).loc Cert.FfnURefIdeal.main_arg2)) (m ((c.tc : Thread Cert.FfnURefIdeal.nD Cert.FfnURefIdeal.τ).loc Cert.FfnURefIdeal.main_arg3)) (m ((c.tc : Thread Cert.FfnURefIdeal.nD Cert.FfnURefIdeal.τ).loc Cert.FfnURefIdeal.main_arg4)) (m ((c.tc : Thread Cert.FfnURefIdeal.nD Cert.FfnURefIdeal.τ).loc Cert.FfnURefIdeal.main_arg5))).2.2.1 = (fun _ => 1#1)
    ∧ (Cert.Pre_finite_u.fn (F := Ideal) (m ((c.tc : Thread Cert.FfnURefIdeal.nD Cert.FfnURefIdeal.τ).loc Cert.FfnURefIdeal.main_arg0)) (m ((c.tc : Thread Cert.FfnURefIdeal.nD Cert.FfnURefIdeal.τ).loc Cert.FfnURefIdeal.main_arg1)) (m ((c.tc : Thread Cert.FfnURefIdeal.nD Cert.FfnURefIdeal.τ).loc Cert.FfnURefIdeal.main_arg2)) (m ((c.tc : Thread Cert.FfnURefIdeal.nD Cert.FfnURefIdeal.τ).loc Cert.FfnURefIdeal.main_arg3)) (m ((c.tc : Thread Cert.FfnURefIdeal.nD Cert.FfnURefIdeal.τ).loc Cert.FfnURefIdeal.main_arg4)) (m ((c.tc : Thread Cert.FfnURefIdeal.nD Cert.FfnURefIdeal.τ).loc Cert.FfnURefIdeal.main_arg5))).2.2.2.1 = (fun _ => 1#1)
    ∧ (Cert.Pre_finite_u.fn (F := Ideal) (m ((c.tc : Thread Cert.FfnURefIdeal.nD Cert.FfnURefIdeal.τ).loc Cert.FfnURefIdeal.main_arg0)) (m ((c.tc : Thread Cert.FfnURefIdeal.nD Cert.FfnURefIdeal.τ).loc Cert.FfnURefIdeal.main_arg1)) (m ((c.tc : Thread Cert.FfnURefIdeal.nD Cert.FfnURefIdeal.τ).loc Cert.FfnURefIdeal.main_arg2)) (m ((c.tc : Thread Cert.FfnURefIdeal.nD Cert.FfnURefIdeal.τ).loc Cert.FfnURefIdeal.main_arg3)) (m ((c.tc : Thread Cert.FfnURefIdeal.nD Cert.FfnURefIdeal.τ).loc Cert.FfnURefIdeal.main_arg4)) (m ((c.tc : Thread Cert.FfnURefIdeal.nD Cert.FfnURefIdeal.τ).loc Cert.FfnURefIdeal.main_arg5))).2.2.2.2.1 = (fun _ => 1#1)
    ∧ (Cert.Pre_finite_u.fn (F := Ideal) (m ((c.tc : Thread Cert.FfnURefIdeal.nD Cert.FfnURefIdeal.τ).loc Cert.FfnURefIdeal.main_arg0)) (m ((c.tc : Thread Cert.FfnURefIdeal.nD Cert.FfnURefIdeal.τ).loc Cert.FfnURefIdeal.main_arg1)) (m ((c.tc : Thread Cert.FfnURefIdeal.nD Cert.FfnURefIdeal.τ).loc Cert.FfnURefIdeal.main_arg2)) (m ((c.tc : Thread Cert.FfnURefIdeal.nD Cert.FfnURefIdeal.τ).loc Cert.FfnURefIdeal.main_arg3)) (m ((c.tc : Thread Cert.FfnURefIdeal.nD Cert.FfnURefIdeal.τ).loc Cert.FfnURefIdeal.main_arg4)) (m ((c.tc : Thread Cert.FfnURefIdeal.nD Cert.FfnURefIdeal.τ).loc Cert.FfnURefIdeal.main_arg5))).2.2.2.2.2 = (fun _ => 1#1)

def Pre_FfnA (m : (ℓ : Loc Cert.FfnA.nD Cert.FfnA.τ Cert.FfnA.sig) → Buf (Elt Bits) ℓ) : Prop :=
  True

def Pre_FfnAIdeal (m : (ℓ : Loc Cert.FfnAIdeal.nD Cert.FfnAIdeal.τ Cert.FfnAIdeal.sig) → Buf (Elt Ideal) ℓ) : Prop :=
  True

def Pre_FfnAIdeal_finite_a [hPre_finite_a : Cert.Pre_finite_a.Facts] (m : (ℓ : Loc Cert.FfnAIdeal.nD Cert.FfnAIdeal.τ Cert.FfnAIdeal.sig) → Buf (Elt Ideal) ℓ) : Prop :=
  ∀ c : Dev Cert.FfnAIdeal.nD,
    (Cert.Pre_finite_a.fn (F := Ideal) (m ((c.tc : Thread Cert.FfnAIdeal.nD Cert.FfnAIdeal.τ).loc Cert.FfnAIdeal.main_arg0)) (m ((c.tc : Thread Cert.FfnAIdeal.nD Cert.FfnAIdeal.τ).loc Cert.FfnAIdeal.main_arg1)) (m ((c.tc : Thread Cert.FfnAIdeal.nD Cert.FfnAIdeal.τ).loc Cert.FfnAIdeal.main_arg2)) (m ((c.tc : Thread Cert.FfnAIdeal.nD Cert.FfnAIdeal.τ).loc Cert.FfnAIdeal.main_arg3))).1 = (fun _ => 1#1)
    ∧ (Cert.Pre_finite_a.fn (F := Ideal) (m ((c.tc : Thread Cert.FfnAIdeal.nD Cert.FfnAIdeal.τ).loc Cert.FfnAIdeal.main_arg0)) (m ((c.tc : Thread Cert.FfnAIdeal.nD Cert.FfnAIdeal.τ).loc Cert.FfnAIdeal.main_arg1)) (m ((c.tc : Thread Cert.FfnAIdeal.nD Cert.FfnAIdeal.τ).loc Cert.FfnAIdeal.main_arg2)) (m ((c.tc : Thread Cert.FfnAIdeal.nD Cert.FfnAIdeal.τ).loc Cert.FfnAIdeal.main_arg3))).2.1 = (fun _ => 1#1)
    ∧ (Cert.Pre_finite_a.fn (F := Ideal) (m ((c.tc : Thread Cert.FfnAIdeal.nD Cert.FfnAIdeal.τ).loc Cert.FfnAIdeal.main_arg0)) (m ((c.tc : Thread Cert.FfnAIdeal.nD Cert.FfnAIdeal.τ).loc Cert.FfnAIdeal.main_arg1)) (m ((c.tc : Thread Cert.FfnAIdeal.nD Cert.FfnAIdeal.τ).loc Cert.FfnAIdeal.main_arg2)) (m ((c.tc : Thread Cert.FfnAIdeal.nD Cert.FfnAIdeal.τ).loc Cert.FfnAIdeal.main_arg3))).2.2.1 = (fun _ => 1#1)
    ∧ (Cert.Pre_finite_a.fn (F := Ideal) (m ((c.tc : Thread Cert.FfnAIdeal.nD Cert.FfnAIdeal.τ).loc Cert.FfnAIdeal.main_arg0)) (m ((c.tc : Thread Cert.FfnAIdeal.nD Cert.FfnAIdeal.τ).loc Cert.FfnAIdeal.main_arg1)) (m ((c.tc : Thread Cert.FfnAIdeal.nD Cert.FfnAIdeal.τ).loc Cert.FfnAIdeal.main_arg2)) (m ((c.tc : Thread Cert.FfnAIdeal.nD Cert.FfnAIdeal.τ).loc Cert.FfnAIdeal.main_arg3))).2.2.2 = (fun _ => 1#1)

def Pre_FfnARefIdeal (m : (ℓ : Loc Cert.FfnARefIdeal.nD Cert.FfnARefIdeal.τ Cert.FfnARefIdeal.sig) → Buf (Elt Ideal) ℓ) : Prop :=
  True

def Pre_FfnARefIdeal_finite_a [hPre_finite_a : Cert.Pre_finite_a.Facts] (m : (ℓ : Loc Cert.FfnARefIdeal.nD Cert.FfnARefIdeal.τ Cert.FfnARefIdeal.sig) → Buf (Elt Ideal) ℓ) : Prop :=
  ∀ c : Dev Cert.FfnARefIdeal.nD,
    (Cert.Pre_finite_a.fn (F := Ideal) (m ((c.tc : Thread Cert.FfnARefIdeal.nD Cert.FfnARefIdeal.τ).loc Cert.FfnARefIdeal.main_arg0)) (m ((c.tc : Thread Cert.FfnARefIdeal.nD Cert.FfnARefIdeal.τ).loc Cert.FfnARefIdeal.main_arg1)) (m ((c.tc : Thread Cert.FfnARefIdeal.nD Cert.FfnARefIdeal.τ).loc Cert.FfnARefIdeal.main_arg2)) (m ((c.tc : Thread Cert.FfnARefIdeal.nD Cert.FfnARefIdeal.τ).loc Cert.FfnARefIdeal.main_arg3))).1 = (fun _ => 1#1)
    ∧ (Cert.Pre_finite_a.fn (F := Ideal) (m ((c.tc : Thread Cert.FfnARefIdeal.nD Cert.FfnARefIdeal.τ).loc Cert.FfnARefIdeal.main_arg0)) (m ((c.tc : Thread Cert.FfnARefIdeal.nD Cert.FfnARefIdeal.τ).loc Cert.FfnARefIdeal.main_arg1)) (m ((c.tc : Thread Cert.FfnARefIdeal.nD Cert.FfnARefIdeal.τ).loc Cert.FfnARefIdeal.main_arg2)) (m ((c.tc : Thread Cert.FfnARefIdeal.nD Cert.FfnARefIdeal.τ).loc Cert.FfnARefIdeal.main_arg3))).2.1 = (fun _ => 1#1)
    ∧ (Cert.Pre_finite_a.fn (F := Ideal) (m ((c.tc : Thread Cert.FfnARefIdeal.nD Cert.FfnARefIdeal.τ).loc Cert.FfnARefIdeal.main_arg0)) (m ((c.tc : Thread Cert.FfnARefIdeal.nD Cert.FfnARefIdeal.τ).loc Cert.FfnARefIdeal.main_arg1)) (m ((c.tc : Thread Cert.FfnARefIdeal.nD Cert.FfnARefIdeal.τ).loc Cert.FfnARefIdeal.main_arg2)) (m ((c.tc : Thread Cert.FfnARefIdeal.nD Cert.FfnARefIdeal.τ).loc Cert.FfnARefIdeal.main_arg3))).2.2.1 = (fun _ => 1#1)
    ∧ (Cert.Pre_finite_a.fn (F := Ideal) (m ((c.tc : Thread Cert.FfnARefIdeal.nD Cert.FfnARefIdeal.τ).loc Cert.FfnARefIdeal.main_arg0)) (m ((c.tc : Thread Cert.FfnARefIdeal.nD Cert.FfnARefIdeal.τ).loc Cert.FfnARefIdeal.main_arg1)) (m ((c.tc : Thread Cert.FfnARefIdeal.nD Cert.FfnARefIdeal.τ).loc Cert.FfnARefIdeal.main_arg2)) (m ((c.tc : Thread Cert.FfnARefIdeal.nD Cert.FfnARefIdeal.τ).loc Cert.FfnARefIdeal.main_arg3))).2.2.2 = (fun _ => 1#1)

def Pre_FfnG (m : (ℓ : Loc Cert.FfnG.nD Cert.FfnG.τ Cert.FfnG.sig) → Buf (Elt Bits) ℓ) : Prop :=
  True

def Pre_FfnGIdeal (m : (ℓ : Loc Cert.FfnGIdeal.nD Cert.FfnGIdeal.τ Cert.FfnGIdeal.sig) → Buf (Elt Ideal) ℓ) : Prop :=
  True

def Pre_FfnGRefIdeal (m : (ℓ : Loc Cert.FfnGRefIdeal.nD Cert.FfnGRefIdeal.τ Cert.FfnGRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdIdeal_finite_mix [hPre_finite_mix : Cert.Pre_finite_mix.Facts] (m : (ℓ : Loc Cert.MixFwdIdeal.nD Cert.MixFwdIdeal.τ Cert.MixFwdIdeal.sig) → Buf (Elt Ideal) ℓ) : Prop :=
  ∀ c : Dev Cert.MixFwdIdeal.nD,
    (Cert.Pre_finite_mix.fn (F := Ideal) (m ((c.tc : Thread Cert.MixFwdIdeal.nD Cert.MixFwdIdeal.τ).loc Cert.MixFwdIdeal.main_arg0)) (m ((c.tc : Thread Cert.MixFwdIdeal.nD Cert.MixFwdIdeal.τ).loc Cert.MixFwdIdeal.main_arg1)) (m ((c.tc : Thread Cert.MixFwdIdeal.nD Cert.MixFwdIdeal.τ).loc Cert.MixFwdIdeal.main_arg2)) (m ((c.tc : Thread Cert.MixFwdIdeal.nD Cert.MixFwdIdeal.τ).loc Cert.MixFwdIdeal.main_arg3)) (m ((c.tc : Thread Cert.MixFwdIdeal.nD Cert.MixFwdIdeal.τ).loc Cert.MixFwdIdeal.main_arg4)) (m ((c.tc : Thread Cert.MixFwdIdeal.nD Cert.MixFwdIdeal.τ).loc Cert.MixFwdIdeal.main_arg5)) (m ((c.tc : Thread Cert.MixFwdIdeal.nD Cert.MixFwdIdeal.τ).loc Cert.MixFwdIdeal.main_arg6)) (m ((c.tc : Thread Cert.MixFwdIdeal.nD Cert.MixFwdIdeal.τ).loc Cert.MixFwdIdeal.main_arg7)) (m ((c.tc : Thread Cert.MixFwdIdeal.nD Cert.MixFwdIdeal.τ).loc Cert.MixFwdIdeal.main_arg8)) (m ((c.tc : Thread Cert.MixFwdIdeal.nD Cert.MixFwdIdeal.τ).loc Cert.MixFwdIdeal.main_arg9))).1 = (fun _ => 1#1)
    ∧ (Cert.Pre_finite_mix.fn (F := Ideal) (m ((c.tc : Thread Cert.MixFwdIdeal.nD Cert.MixFwdIdeal.τ).loc Cert.MixFwdIdeal.main_arg0)) (m ((c.tc : Thread Cert.MixFwdIdeal.nD Cert.MixFwdIdeal.τ).loc Cert.MixFwdIdeal.main_arg1)) (m ((c.tc : Thread Cert.MixFwdIdeal.nD Cert.MixFwdIdeal.τ).loc Cert.MixFwdIdeal.main_arg2)) (m ((c.tc : Thread Cert.MixFwdIdeal.nD Cert.MixFwdIdeal.τ).loc Cert.MixFwdIdeal.main_arg3)) (m ((c.tc : Thread Cert.MixFwdIdeal.nD Cert.MixFwdIdeal.τ).loc Cert.MixFwdIdeal.main_arg4)) (m ((c.tc : Thread Cert.MixFwdIdeal.nD Cert.MixFwdIdeal.τ).loc Cert.MixFwdIdeal.main_arg5)) (m ((c.tc : Thread Cert.MixFwdIdeal.nD Cert.MixFwdIdeal.τ).loc Cert.MixFwdIdeal.main_arg6)) (m ((c.tc : Thread Cert.MixFwdIdeal.nD Cert.MixFwdIdeal.τ).loc Cert.MixFwdIdeal.main_arg7)) (m ((c.tc : Thread Cert.MixFwdIdeal.nD Cert.MixFwdIdeal.τ).loc Cert.MixFwdIdeal.main_arg8)) (m ((c.tc : Thread Cert.MixFwdIdeal.nD Cert.MixFwdIdeal.τ).loc Cert.MixFwdIdeal.main_arg9))).2.1 = (fun _ => 1#1)
    ∧ (Cert.Pre_finite_mix.fn (F := Ideal) (m ((c.tc : Thread Cert.MixFwdIdeal.nD Cert.MixFwdIdeal.τ).loc Cert.MixFwdIdeal.main_arg0)) (m ((c.tc : Thread Cert.MixFwdIdeal.nD Cert.MixFwdIdeal.τ).loc Cert.MixFwdIdeal.main_arg1)) (m ((c.tc : Thread Cert.MixFwdIdeal.nD Cert.MixFwdIdeal.τ).loc Cert.MixFwdIdeal.main_arg2)) (m ((c.tc : Thread Cert.MixFwdIdeal.nD Cert.MixFwdIdeal.τ).loc Cert.MixFwdIdeal.main_arg3)) (m ((c.tc : Thread Cert.MixFwdIdeal.nD Cert.MixFwdIdeal.τ).loc Cert.MixFwdIdeal.main_arg4)) (m ((c.tc : Thread Cert.MixFwdIdeal.nD Cert.MixFwdIdeal.τ).loc Cert.MixFwdIdeal.main_arg5)) (m ((c.tc : Thread Cert.MixFwdIdeal.nD Cert.MixFwdIdeal.τ).loc Cert.MixFwdIdeal.main_arg6)) (m ((c.tc : Thread Cert.MixFwdIdeal.nD Cert.MixFwdIdeal.τ).loc Cert.MixFwdIdeal.main_arg7)) (m ((c.tc : Thread Cert.MixFwdIdeal.nD Cert.MixFwdIdeal.τ).loc Cert.MixFwdIdeal.main_arg8)) (m ((c.tc : Thread Cert.MixFwdIdeal.nD Cert.MixFwdIdeal.τ).loc Cert.MixFwdIdeal.main_arg9))).2.2 = (fun _ => 1#1)

def Pre_MixFwdRefIdeal (m : (ℓ : Loc Cert.MixFwdRefIdeal.nD Cert.MixFwdRefIdeal.τ Cert.MixFwdRefIdeal.sig) → Buf (Elt Ideal) ℓ) : Prop :=
  True

def Pre_MixFwdRefIdeal_finite_mix [hPre_finite_mix : Cert.Pre_finite_mix.Facts] (m : (ℓ : Loc Cert.MixFwdRefIdeal.nD Cert.MixFwdRefIdeal.τ Cert.MixFwdRefIdeal.sig) → Buf (Elt Ideal) ℓ) : Prop :=
  ∀ c : Dev Cert.MixFwdRefIdeal.nD,
    (Cert.Pre_finite_mix.fn (F := Ideal) (m ((c.tc : Thread Cert.MixFwdRefIdeal.nD Cert.MixFwdRefIdeal.τ).loc Cert.MixFwdRefIdeal.main_arg0)) (m ((c.tc : Thread Cert.MixFwdRefIdeal.nD Cert.MixFwdRefIdeal.τ).loc Cert.MixFwdRefIdeal.main_arg1)) (m ((c.tc : Thread Cert.MixFwdRefIdeal.nD Cert.MixFwdRefIdeal.τ).loc Cert.MixFwdRefIdeal.main_arg2)) (m ((c.tc : Thread Cert.MixFwdRefIdeal.nD Cert.MixFwdRefIdeal.τ).loc Cert.MixFwdRefIdeal.main_arg3)) (m ((c.tc : Thread Cert.MixFwdRefIdeal.nD Cert.MixFwdRefIdeal.τ).loc Cert.MixFwdRefIdeal.main_arg4)) (m ((c.tc : Thread Cert.MixFwdRefIdeal.nD Cert.MixFwdRefIdeal.τ).loc Cert.MixFwdRefIdeal.main_arg5)) (m ((c.tc : Thread Cert.MixFwdRefIdeal.nD Cert.MixFwdRefIdeal.τ).loc Cert.MixFwdRefIdeal.main_arg6)) (m ((c.tc : Thread Cert.MixFwdRefIdeal.nD Cert.MixFwdRefIdeal.τ).loc Cert.MixFwdRefIdeal.main_arg7)) (m ((c.tc : Thread Cert.MixFwdRefIdeal.nD Cert.MixFwdRefIdeal.τ).loc Cert.MixFwdRefIdeal.main_arg8)) (m ((c.tc : Thread Cert.MixFwdRefIdeal.nD Cert.MixFwdRefIdeal.τ).loc Cert.MixFwdRefIdeal.main_arg9))).1 = (fun _ => 1#1)
    ∧ (Cert.Pre_finite_mix.fn (F := Ideal) (m ((c.tc : Thread Cert.MixFwdRefIdeal.nD Cert.MixFwdRefIdeal.τ).loc Cert.MixFwdRefIdeal.main_arg0)) (m ((c.tc : Thread Cert.MixFwdRefIdeal.nD Cert.MixFwdRefIdeal.τ).loc Cert.MixFwdRefIdeal.main_arg1)) (m ((c.tc : Thread Cert.MixFwdRefIdeal.nD Cert.MixFwdRefIdeal.τ).loc Cert.MixFwdRefIdeal.main_arg2)) (m ((c.tc : Thread Cert.MixFwdRefIdeal.nD Cert.MixFwdRefIdeal.τ).loc Cert.MixFwdRefIdeal.main_arg3)) (m ((c.tc : Thread Cert.MixFwdRefIdeal.nD Cert.MixFwdRefIdeal.τ).loc Cert.MixFwdRefIdeal.main_arg4)) (m ((c.tc : Thread Cert.MixFwdRefIdeal.nD Cert.MixFwdRefIdeal.τ).loc Cert.MixFwdRefIdeal.main_arg5)) (m ((c.tc : Thread Cert.MixFwdRefIdeal.nD Cert.MixFwdRefIdeal.τ).loc Cert.MixFwdRefIdeal.main_arg6)) (m ((c.tc : Thread Cert.MixFwdRefIdeal.nD Cert.MixFwdRefIdeal.τ).loc Cert.MixFwdRefIdeal.main_arg7)) (m ((c.tc : Thread Cert.MixFwdRefIdeal.nD Cert.MixFwdRefIdeal.τ).loc Cert.MixFwdRefIdeal.main_arg8)) (m ((c.tc : Thread Cert.MixFwdRefIdeal.nD Cert.MixFwdRefIdeal.τ).loc Cert.MixFwdRefIdeal.main_arg9))).2.1 = (fun _ => 1#1)
    ∧ (Cert.Pre_finite_mix.fn (F := Ideal) (m ((c.tc : Thread Cert.MixFwdRefIdeal.nD Cert.MixFwdRefIdeal.τ).loc Cert.MixFwdRefIdeal.main_arg0)) (m ((c.tc : Thread Cert.MixFwdRefIdeal.nD Cert.MixFwdRefIdeal.τ).loc Cert.MixFwdRefIdeal.main_arg1)) (m ((c.tc : Thread Cert.MixFwdRefIdeal.nD Cert.MixFwdRefIdeal.τ).loc Cert.MixFwdRefIdeal.main_arg2)) (m ((c.tc : Thread Cert.MixFwdRefIdeal.nD Cert.MixFwdRefIdeal.τ).loc Cert.MixFwdRefIdeal.main_arg3)) (m ((c.tc : Thread Cert.MixFwdRefIdeal.nD Cert.MixFwdRefIdeal.τ).loc Cert.MixFwdRefIdeal.main_arg4)) (m ((c.tc : Thread Cert.MixFwdRefIdeal.nD Cert.MixFwdRefIdeal.τ).loc Cert.MixFwdRefIdeal.main_arg5)) (m ((c.tc : Thread Cert.MixFwdRefIdeal.nD Cert.MixFwdRefIdeal.τ).loc Cert.MixFwdRefIdeal.main_arg6)) (m ((c.tc : Thread Cert.MixFwdRefIdeal.nD Cert.MixFwdRefIdeal.τ).loc Cert.MixFwdRefIdeal.main_arg7)) (m ((c.tc : Thread Cert.MixFwdRefIdeal.nD Cert.MixFwdRefIdeal.τ).loc Cert.MixFwdRefIdeal.main_arg8)) (m ((c.tc : Thread Cert.MixFwdRefIdeal.nD Cert.MixFwdRefIdeal.τ).loc Cert.MixFwdRefIdeal.main_arg9))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ r.2.sem = fun _ => 0)

def quiescent_InProjIdeal_pre_finite_inproj [hInProjIdeal : Cert.InProjIdeal.Facts] [hPre_finite_inproj : Cert.Pre_finite_inproj.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal_finite_inproj m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5))
      ∧ r.2.sem = fun _ => 0)

def quiescent_InProjRefIdeal_pre_finite_inproj [hInProjRefIdeal : Cert.InProjRefIdeal.Facts] [hPre_finite_inproj : Cert.Pre_finite_inproj.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal_finite_inproj m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5))
      ∧ r.2.sem = fun _ => 0)

def quiescent_FfnU [hFfnU : Cert.FfnU.Facts] : Prop :=
  ∀ (m : (ℓ : Loc Cert.FfnU.nD Cert.FfnU.τ Cert.FfnU.sig) → Buf (Elt Bits) ℓ) (g : Dev Cert.FfnU.nD → PrngReg), Pre_FfnU m →
    θ_run (Cert.FfnU.defs (F := Bits)) (onTc (τ := Cert.FfnU.τ) (Cert.FfnU.main (F := Bits))) ⟨m, fun _ => 0, g⟩ (fun r => (∀ c : Dev Cert.FfnU.nD,
      r.2.mem ((c.tc : Thread Cert.FfnU.nD Cert.FfnU.τ).loc Cert.FfnU.main_arg0) = m ((c.tc : Thread Cert.FfnU.nD Cert.FfnU.τ).loc Cert.FfnU.main_arg0)
      ∧ r.2.mem ((c.tc : Thread Cert.FfnU.nD Cert.FfnU.τ).loc Cert.FfnU.main_arg1) = m ((c.tc : Thread Cert.FfnU.nD Cert.FfnU.τ).loc Cert.FfnU.main_arg1)
      ∧ r.2.mem ((c.tc : Thread Cert.FfnU.nD Cert.FfnU.τ).loc Cert.FfnU.main_arg2) = m ((c.tc : Thread Cert.FfnU.nD Cert.FfnU.τ).loc Cert.FfnU.main_arg2)
      ∧ r.2.mem ((c.tc : Thread Cert.FfnU.nD Cert.FfnU.τ).loc Cert.FfnU.main_arg3) = m ((c.tc : Thread Cert.FfnU.nD Cert.FfnU.τ).loc Cert.FfnU.main_arg3)
      ∧ r.2.mem ((c.tc : Thread Cert.FfnU.nD Cert.FfnU.τ).loc Cert.FfnU.main_arg4) = m ((c.tc : Thread Cert.FfnU.nD Cert.FfnU.τ).loc Cert.FfnU.main_arg4)
      ∧ r.2.mem ((c.tc : Thread Cert.FfnU.nD Cert.FfnU.τ).loc Cert.FfnU.main_arg5) = m ((c.tc : Thread Cert.FfnU.nD Cert.FfnU.τ).loc Cert.FfnU.main_arg5))
      ∧ r.2.sem = fun _ => 0)

def quiescent_FfnUIdeal [hFfnUIdeal : Cert.FfnUIdeal.Facts] : Prop :=
  ∀ (m : (ℓ : Loc Cert.FfnUIdeal.nD Cert.FfnUIdeal.τ Cert.FfnUIdeal.sig) → Buf (Elt Ideal) ℓ) (g : Dev Cert.FfnUIdeal.nD → PrngReg), Pre_FfnUIdeal m →
    θ_run (Cert.FfnUIdeal.defs (F := Ideal)) (onTc (τ := Cert.FfnUIdeal.τ) (Cert.FfnUIdeal.main (F := Ideal))) ⟨m, fun _ => 0, g⟩ (fun r => (∀ c : Dev Cert.FfnUIdeal.nD,
      r.2.mem ((c.tc : Thread Cert.FfnUIdeal.nD Cert.FfnUIdeal.τ).loc Cert.FfnUIdeal.main_arg0) = m ((c.tc : Thread Cert.FfnUIdeal.nD Cert.FfnUIdeal.τ).loc Cert.FfnUIdeal.main_arg0)
      ∧ r.2.mem ((c.tc : Thread Cert.FfnUIdeal.nD Cert.FfnUIdeal.τ).loc Cert.FfnUIdeal.main_arg1) = m ((c.tc : Thread Cert.FfnUIdeal.nD Cert.FfnUIdeal.τ).loc Cert.FfnUIdeal.main_arg1)
      ∧ r.2.mem ((c.tc : Thread Cert.FfnUIdeal.nD Cert.FfnUIdeal.τ).loc Cert.FfnUIdeal.main_arg2) = m ((c.tc : Thread Cert.FfnUIdeal.nD Cert.FfnUIdeal.τ).loc Cert.FfnUIdeal.main_arg2)
      ∧ r.2.mem ((c.tc : Thread Cert.FfnUIdeal.nD Cert.FfnUIdeal.τ).loc Cert.FfnUIdeal.main_arg3) = m ((c.tc : Thread Cert.FfnUIdeal.nD Cert.FfnUIdeal.τ).loc Cert.FfnUIdeal.main_arg3)
      ∧ r.2.mem ((c.tc : Thread Cert.FfnUIdeal.nD Cert.FfnUIdeal.τ).loc Cert.FfnUIdeal.main_arg4) = m ((c.tc : Thread Cert.FfnUIdeal.nD Cert.FfnUIdeal.τ).loc Cert.FfnUIdeal.main_arg4)
      ∧ r.2.mem ((c.tc : Thread Cert.FfnUIdeal.nD Cert.FfnUIdeal.τ).loc Cert.FfnUIdeal.main_arg5) = m ((c.tc : Thread Cert.FfnUIdeal.nD Cert.FfnUIdeal.τ).loc Cert.FfnUIdeal.main_arg5))
      ∧ r.2.sem = fun _ => 0)

def quiescent_FfnUIdeal_pre_finite_u [hFfnUIdeal : Cert.FfnUIdeal.Facts] [hPre_finite_u : Cert.Pre_finite_u.Facts] : Prop :=
  ∀ (m : (ℓ : Loc Cert.FfnUIdeal.nD Cert.FfnUIdeal.τ Cert.FfnUIdeal.sig) → Buf (Elt Ideal) ℓ) (g : Dev Cert.FfnUIdeal.nD → PrngReg), Pre_FfnUIdeal_finite_u m →
    θ_run (Cert.FfnUIdeal.defs (F := Ideal)) (onTc (τ := Cert.FfnUIdeal.τ) (Cert.FfnUIdeal.main (F := Ideal))) ⟨m, fun _ => 0, g⟩ (fun r => (∀ c : Dev Cert.FfnUIdeal.nD,
      r.2.mem ((c.tc : Thread Cert.FfnUIdeal.nD Cert.FfnUIdeal.τ).loc Cert.FfnUIdeal.main_arg0) = m ((c.tc : Thread Cert.FfnUIdeal.nD Cert.FfnUIdeal.τ).loc Cert.FfnUIdeal.main_arg0)
      ∧ r.2.mem ((c.tc : Thread Cert.FfnUIdeal.nD Cert.FfnUIdeal.τ).loc Cert.FfnUIdeal.main_arg1) = m ((c.tc : Thread Cert.FfnUIdeal.nD Cert.FfnUIdeal.τ).loc Cert.FfnUIdeal.main_arg1)
      ∧ r.2.mem ((c.tc : Thread Cert.FfnUIdeal.nD Cert.FfnUIdeal.τ).loc Cert.FfnUIdeal.main_arg2) = m ((c.tc : Thread Cert.FfnUIdeal.nD Cert.FfnUIdeal.τ).loc Cert.FfnUIdeal.main_arg2)
      ∧ r.2.mem ((c.tc : Thread Cert.FfnUIdeal.nD Cert.FfnUIdeal.τ).loc Cert.FfnUIdeal.main_arg3) = m ((c.tc : Thread Cert.FfnUIdeal.nD Cert.FfnUIdeal.τ).loc Cert.FfnUIdeal.main_arg3)
      ∧ r.2.mem ((c.tc : Thread Cert.FfnUIdeal.nD Cert.FfnUIdeal.τ).loc Cert.FfnUIdeal.main_arg4) = m ((c.tc : Thread Cert.FfnUIdeal.nD Cert.FfnUIdeal.τ).loc Cert.FfnUIdeal.main_arg4)
      ∧ r.2.mem ((c.tc : Thread Cert.FfnUIdeal.nD Cert.FfnUIdeal.τ).loc Cert.FfnUIdeal.main_arg5) = m ((c.tc : Thread Cert.FfnUIdeal.nD Cert.FfnUIdeal.τ).loc Cert.FfnUIdeal.main_arg5))
      ∧ r.2.sem = fun _ => 0)

def quiescent_FfnURefIdeal [hFfnURefIdeal : Cert.FfnURefIdeal.Facts] : Prop :=
  ∀ (m : (ℓ : Loc Cert.FfnURefIdeal.nD Cert.FfnURefIdeal.τ Cert.FfnURefIdeal.sig) → Buf (Elt Ideal) ℓ) (g : Dev Cert.FfnURefIdeal.nD → PrngReg), Pre_FfnURefIdeal m →
    θ_run (Cert.FfnURefIdeal.defs (F := Ideal)) (onTc (τ := Cert.FfnURefIdeal.τ) (Cert.FfnURefIdeal.main (F := Ideal))) ⟨m, fun _ => 0, g⟩ (fun r => (∀ c : Dev Cert.FfnURefIdeal.nD,
      r.2.mem ((c.tc : Thread Cert.FfnURefIdeal.nD Cert.FfnURefIdeal.τ).loc Cert.FfnURefIdeal.main_arg0) = m ((c.tc : Thread Cert.FfnURefIdeal.nD Cert.FfnURefIdeal.τ).loc Cert.FfnURefIdeal.main_arg0)
      ∧ r.2.mem ((c.tc : Thread Cert.FfnURefIdeal.nD Cert.FfnURefIdeal.τ).loc Cert.FfnURefIdeal.main_arg1) = m ((c.tc : Thread Cert.FfnURefIdeal.nD Cert.FfnURefIdeal.τ).loc Cert.FfnURefIdeal.main_arg1)
      ∧ r.2.mem ((c.tc : Thread Cert.FfnURefIdeal.nD Cert.FfnURefIdeal.τ).loc Cert.FfnURefIdeal.main_arg2) = m ((c.tc : Thread Cert.FfnURefIdeal.nD Cert.FfnURefIdeal.τ).loc Cert.FfnURefIdeal.main_arg2)
      ∧ r.2.mem ((c.tc : Thread Cert.FfnURefIdeal.nD Cert.FfnURefIdeal.τ).loc Cert.FfnURefIdeal.main_arg3) = m ((c.tc : Thread Cert.FfnURefIdeal.nD Cert.FfnURefIdeal.τ).loc Cert.FfnURefIdeal.main_arg3)
      ∧ r.2.mem ((c.tc : Thread Cert.FfnURefIdeal.nD Cert.FfnURefIdeal.τ).loc Cert.FfnURefIdeal.main_arg4) = m ((c.tc : Thread Cert.FfnURefIdeal.nD Cert.FfnURefIdeal.τ).loc Cert.FfnURefIdeal.main_arg4)
      ∧ r.2.mem ((c.tc : Thread Cert.FfnURefIdeal.nD Cert.FfnURefIdeal.τ).loc Cert.FfnURefIdeal.main_arg5) = m ((c.tc : Thread Cert.FfnURefIdeal.nD Cert.FfnURefIdeal.τ).loc Cert.FfnURefIdeal.main_arg5))
      ∧ r.2.sem = fun _ => 0)

def quiescent_FfnURefIdeal_pre_finite_u [hFfnURefIdeal : Cert.FfnURefIdeal.Facts] [hPre_finite_u : Cert.Pre_finite_u.Facts] : Prop :=
  ∀ (m : (ℓ : Loc Cert.FfnURefIdeal.nD Cert.FfnURefIdeal.τ Cert.FfnURefIdeal.sig) → Buf (Elt Ideal) ℓ) (g : Dev Cert.FfnURefIdeal.nD → PrngReg), Pre_FfnURefIdeal_finite_u m →
    θ_run (Cert.FfnURefIdeal.defs (F := Ideal)) (onTc (τ := Cert.FfnURefIdeal.τ) (Cert.FfnURefIdeal.main (F := Ideal))) ⟨m, fun _ => 0, g⟩ (fun r => (∀ c : Dev Cert.FfnURefIdeal.nD,
      r.2.mem ((c.tc : Thread Cert.FfnURefIdeal.nD Cert.FfnURefIdeal.τ).loc Cert.FfnURefIdeal.main_arg0) = m ((c.tc : Thread Cert.FfnURefIdeal.nD Cert.FfnURefIdeal.τ).loc Cert.FfnURefIdeal.main_arg0)
      ∧ r.2.mem ((c.tc : Thread Cert.FfnURefIdeal.nD Cert.FfnURefIdeal.τ).loc Cert.FfnURefIdeal.main_arg1) = m ((c.tc : Thread Cert.FfnURefIdeal.nD Cert.FfnURefIdeal.τ).loc Cert.FfnURefIdeal.main_arg1)
      ∧ r.2.mem ((c.tc : Thread Cert.FfnURefIdeal.nD Cert.FfnURefIdeal.τ).loc Cert.FfnURefIdeal.main_arg2) = m ((c.tc : Thread Cert.FfnURefIdeal.nD Cert.FfnURefIdeal.τ).loc Cert.FfnURefIdeal.main_arg2)
      ∧ r.2.mem ((c.tc : Thread Cert.FfnURefIdeal.nD Cert.FfnURefIdeal.τ).loc Cert.FfnURefIdeal.main_arg3) = m ((c.tc : Thread Cert.FfnURefIdeal.nD Cert.FfnURefIdeal.τ).loc Cert.FfnURefIdeal.main_arg3)
      ∧ r.2.mem ((c.tc : Thread Cert.FfnURefIdeal.nD Cert.FfnURefIdeal.τ).loc Cert.FfnURefIdeal.main_arg4) = m ((c.tc : Thread Cert.FfnURefIdeal.nD Cert.FfnURefIdeal.τ).loc Cert.FfnURefIdeal.main_arg4)
      ∧ r.2.mem ((c.tc : Thread Cert.FfnURefIdeal.nD Cert.FfnURefIdeal.τ).loc Cert.FfnURefIdeal.main_arg5) = m ((c.tc : Thread Cert.FfnURefIdeal.nD Cert.FfnURefIdeal.τ).loc Cert.FfnURefIdeal.main_arg5))
      ∧ r.2.sem = fun _ => 0)

def quiescent_FfnA [hFfnA : Cert.FfnA.Facts] : Prop :=
  ∀ (m : (ℓ : Loc Cert.FfnA.nD Cert.FfnA.τ Cert.FfnA.sig) → Buf (Elt Bits) ℓ) (g : Dev Cert.FfnA.nD → PrngReg), Pre_FfnA m →
    θ_run (Cert.FfnA.defs (F := Bits)) (onTc (τ := Cert.FfnA.τ) (Cert.FfnA.main (F := Bits))) ⟨m, fun _ => 0, g⟩ (fun r => (∀ c : Dev Cert.FfnA.nD,
      r.2.mem ((c.tc : Thread Cert.FfnA.nD Cert.FfnA.τ).loc Cert.FfnA.main_arg0) = m ((c.tc : Thread Cert.FfnA.nD Cert.FfnA.τ).loc Cert.FfnA.main_arg0)
      ∧ r.2.mem ((c.tc : Thread Cert.FfnA.nD Cert.FfnA.τ).loc Cert.FfnA.main_arg1) = m ((c.tc : Thread Cert.FfnA.nD Cert.FfnA.τ).loc Cert.FfnA.main_arg1)
      ∧ r.2.mem ((c.tc : Thread Cert.FfnA.nD Cert.FfnA.τ).loc Cert.FfnA.main_arg2) = m ((c.tc : Thread Cert.FfnA.nD Cert.FfnA.τ).loc Cert.FfnA.main_arg2)
      ∧ r.2.mem ((c.tc : Thread Cert.FfnA.nD Cert.FfnA.τ).loc Cert.FfnA.main_arg3) = m ((c.tc : Thread Cert.FfnA.nD Cert.FfnA.τ).loc Cert.FfnA.main_arg3))
      ∧ r.2.sem = fun _ => 0)

def quiescent_FfnAIdeal [hFfnAIdeal : Cert.FfnAIdeal.Facts] : Prop :=
  ∀ (m : (ℓ : Loc Cert.FfnAIdeal.nD Cert.FfnAIdeal.τ Cert.FfnAIdeal.sig) → Buf (Elt Ideal) ℓ) (g : Dev Cert.FfnAIdeal.nD → PrngReg), Pre_FfnAIdeal m →
    θ_run (Cert.FfnAIdeal.defs (F := Ideal)) (onTc (τ := Cert.FfnAIdeal.τ) (Cert.FfnAIdeal.main (F := Ideal))) ⟨m, fun _ => 0, g⟩ (fun r => (∀ c : Dev Cert.FfnAIdeal.nD,
      r.2.mem ((c.tc : Thread Cert.FfnAIdeal.nD Cert.FfnAIdeal.τ).loc Cert.FfnAIdeal.main_arg0) = m ((c.tc : Thread Cert.FfnAIdeal.nD Cert.FfnAIdeal.τ).loc Cert.FfnAIdeal.main_arg0)
      ∧ r.2.mem ((c.tc : Thread Cert.FfnAIdeal.nD Cert.FfnAIdeal.τ).loc Cert.FfnAIdeal.main_arg1) = m ((c.tc : Thread Cert.FfnAIdeal.nD Cert.FfnAIdeal.τ).loc Cert.FfnAIdeal.main_arg1)
      ∧ r.2.mem ((c.tc : Thread Cert.FfnAIdeal.nD Cert.FfnAIdeal.τ).loc Cert.FfnAIdeal.main_arg2) = m ((c.tc : Thread Cert.FfnAIdeal.nD Cert.FfnAIdeal.τ).loc Cert.FfnAIdeal.main_arg2)
      ∧ r.2.mem ((c.tc : Thread Cert.FfnAIdeal.nD Cert.FfnAIdeal.τ).loc Cert.FfnAIdeal.main_arg3) = m ((c.tc : Thread Cert.FfnAIdeal.nD Cert.FfnAIdeal.τ).loc Cert.FfnAIdeal.main_arg3))
      ∧ r.2.sem = fun _ => 0)

def quiescent_FfnAIdeal_pre_finite_a [hFfnAIdeal : Cert.FfnAIdeal.Facts] [hPre_finite_a : Cert.Pre_finite_a.Facts] : Prop :=
  ∀ (m : (ℓ : Loc Cert.FfnAIdeal.nD Cert.FfnAIdeal.τ Cert.FfnAIdeal.sig) → Buf (Elt Ideal) ℓ) (g : Dev Cert.FfnAIdeal.nD → PrngReg), Pre_FfnAIdeal_finite_a m →
    θ_run (Cert.FfnAIdeal.defs (F := Ideal)) (onTc (τ := Cert.FfnAIdeal.τ) (Cert.FfnAIdeal.main (F := Ideal))) ⟨m, fun _ => 0, g⟩ (fun r => (∀ c : Dev Cert.FfnAIdeal.nD,
      r.2.mem ((c.tc : Thread Cert.FfnAIdeal.nD Cert.FfnAIdeal.τ).loc Cert.FfnAIdeal.main_arg0) = m ((c.tc : Thread Cert.FfnAIdeal.nD Cert.FfnAIdeal.τ).loc Cert.FfnAIdeal.main_arg0)
      ∧ r.2.mem ((c.tc : Thread Cert.FfnAIdeal.nD Cert.FfnAIdeal.τ).loc Cert.FfnAIdeal.main_arg1) = m ((c.tc : Thread Cert.FfnAIdeal.nD Cert.FfnAIdeal.τ).loc Cert.FfnAIdeal.main_arg1)
      ∧ r.2.mem ((c.tc : Thread Cert.FfnAIdeal.nD Cert.FfnAIdeal.τ).loc Cert.FfnAIdeal.main_arg2) = m ((c.tc : Thread Cert.FfnAIdeal.nD Cert.FfnAIdeal.τ).loc Cert.FfnAIdeal.main_arg2)
      ∧ r.2.mem ((c.tc : Thread Cert.FfnAIdeal.nD Cert.FfnAIdeal.τ).loc Cert.FfnAIdeal.main_arg3) = m ((c.tc : Thread Cert.FfnAIdeal.nD Cert.FfnAIdeal.τ).loc Cert.FfnAIdeal.main_arg3))
      ∧ r.2.sem = fun _ => 0)

def quiescent_FfnARefIdeal [hFfnARefIdeal : Cert.FfnARefIdeal.Facts] : Prop :=
  ∀ (m : (ℓ : Loc Cert.FfnARefIdeal.nD Cert.FfnARefIdeal.τ Cert.FfnARefIdeal.sig) → Buf (Elt Ideal) ℓ) (g : Dev Cert.FfnARefIdeal.nD → PrngReg), Pre_FfnARefIdeal m →
    θ_run (Cert.FfnARefIdeal.defs (F := Ideal)) (onTc (τ := Cert.FfnARefIdeal.τ) (Cert.FfnARefIdeal.main (F := Ideal))) ⟨m, fun _ => 0, g⟩ (fun r => (∀ c : Dev Cert.FfnARefIdeal.nD,
      r.2.mem ((c.tc : Thread Cert.FfnARefIdeal.nD Cert.FfnARefIdeal.τ).loc Cert.FfnARefIdeal.main_arg0) = m ((c.tc : Thread Cert.FfnARefIdeal.nD Cert.FfnARefIdeal.τ).loc Cert.FfnARefIdeal.main_arg0)
      ∧ r.2.mem ((c.tc : Thread Cert.FfnARefIdeal.nD Cert.FfnARefIdeal.τ).loc Cert.FfnARefIdeal.main_arg1) = m ((c.tc : Thread Cert.FfnARefIdeal.nD Cert.FfnARefIdeal.τ).loc Cert.FfnARefIdeal.main_arg1)
      ∧ r.2.mem ((c.tc : Thread Cert.FfnARefIdeal.nD Cert.FfnARefIdeal.τ).loc Cert.FfnARefIdeal.main_arg2) = m ((c.tc : Thread Cert.FfnARefIdeal.nD Cert.FfnARefIdeal.τ).loc Cert.FfnARefIdeal.main_arg2)
      ∧ r.2.mem ((c.tc : Thread Cert.FfnARefIdeal.nD Cert.FfnARefIdeal.τ).loc Cert.FfnARefIdeal.main_arg3) = m ((c.tc : Thread Cert.FfnARefIdeal.nD Cert.FfnARefIdeal.τ).loc Cert.FfnARefIdeal.main_arg3))
      ∧ r.2.sem = fun _ => 0)

def quiescent_FfnARefIdeal_pre_finite_a [hFfnARefIdeal : Cert.FfnARefIdeal.Facts] [hPre_finite_a : Cert.Pre_finite_a.Facts] : Prop :=
  ∀ (m : (ℓ : Loc Cert.FfnARefIdeal.nD Cert.FfnARefIdeal.τ Cert.FfnARefIdeal.sig) → Buf (Elt Ideal) ℓ) (g : Dev Cert.FfnARefIdeal.nD → PrngReg), Pre_FfnARefIdeal_finite_a m →
    θ_run (Cert.FfnARefIdeal.defs (F := Ideal)) (onTc (τ := Cert.FfnARefIdeal.τ) (Cert.FfnARefIdeal.main (F := Ideal))) ⟨m, fun _ => 0, g⟩ (fun r => (∀ c : Dev Cert.FfnARefIdeal.nD,
      r.2.mem ((c.tc : Thread Cert.FfnARefIdeal.nD Cert.FfnARefIdeal.τ).loc Cert.FfnARefIdeal.main_arg0) = m ((c.tc : Thread Cert.FfnARefIdeal.nD Cert.FfnARefIdeal.τ).loc Cert.FfnARefIdeal.main_arg0)
      ∧ r.2.mem ((c.tc : Thread Cert.FfnARefIdeal.nD Cert.FfnARefIdeal.τ).loc Cert.FfnARefIdeal.main_arg1) = m ((c.tc : Thread Cert.FfnARefIdeal.nD Cert.FfnARefIdeal.τ).loc Cert.FfnARefIdeal.main_arg1)
      ∧ r.2.mem ((c.tc : Thread Cert.FfnARefIdeal.nD Cert.FfnARefIdeal.τ).loc Cert.FfnARefIdeal.main_arg2) = m ((c.tc : Thread Cert.FfnARefIdeal.nD Cert.FfnARefIdeal.τ).loc Cert.FfnARefIdeal.main_arg2)
      ∧ r.2.mem ((c.tc : Thread Cert.FfnARefIdeal.nD Cert.FfnARefIdeal.τ).loc Cert.FfnARefIdeal.main_arg3) = m ((c.tc : Thread Cert.FfnARefIdeal.nD Cert.FfnARefIdeal.τ).loc Cert.FfnARefIdeal.main_arg3))
      ∧ r.2.sem = fun _ => 0)

def quiescent_FfnG [hFfnG : Cert.FfnG.Facts] : Prop :=
  ∀ (m : (ℓ : Loc Cert.FfnG.nD Cert.FfnG.τ Cert.FfnG.sig) → Buf (Elt Bits) ℓ) (g : Dev Cert.FfnG.nD → PrngReg), Pre_FfnG m →
    θ_run (Cert.FfnG.defs (F := Bits)) (onTc (τ := Cert.FfnG.τ) (Cert.FfnG.main (F := Bits))) ⟨m, fun _ => 0, g⟩ (fun r => (∀ c : Dev Cert.FfnG.nD,
      r.2.mem ((c.tc : Thread Cert.FfnG.nD Cert.FfnG.τ).loc Cert.FfnG.main_arg0) = m ((c.tc : Thread Cert.FfnG.nD Cert.FfnG.τ).loc Cert.FfnG.main_arg0)
      ∧ r.2.mem ((c.tc : Thread Cert.FfnG.nD Cert.FfnG.τ).loc Cert.FfnG.main_arg1) = m ((c.tc : Thread Cert.FfnG.nD Cert.FfnG.τ).loc Cert.FfnG.main_arg1)
      ∧ r.2.mem ((c.tc : Thread Cert.FfnG.nD Cert.FfnG.τ).loc Cert.FfnG.main_arg2) = m ((c.tc : Thread Cert.FfnG.nD Cert.FfnG.τ).loc Cert.FfnG.main_arg2)
      ∧ r.2.mem ((c.tc : Thread Cert.FfnG.nD Cert.FfnG.τ).loc Cert.FfnG.main_arg3) = m ((c.tc : Thread Cert.FfnG.nD Cert.FfnG.τ).loc Cert.FfnG.main_arg3)
      ∧ r.2.mem ((c.tc : Thread Cert.FfnG.nD Cert.FfnG.τ).loc Cert.FfnG.main_arg4) = m ((c.tc : Thread Cert.FfnG.nD Cert.FfnG.τ).loc Cert.FfnG.main_arg4)
      ∧ r.2.mem ((c.tc : Thread Cert.FfnG.nD Cert.FfnG.τ).loc Cert.FfnG.main_arg5) = m ((c.tc : Thread Cert.FfnG.nD Cert.FfnG.τ).loc Cert.FfnG.main_arg5))
      ∧ r.2.sem = fun _ => 0)

def quiescent_FfnGIdeal [hFfnGIdeal : Cert.FfnGIdeal.Facts] : Prop :=
  ∀ (m : (ℓ : Loc Cert.FfnGIdeal.nD Cert.FfnGIdeal.τ Cert.FfnGIdeal.sig) → Buf (Elt Ideal) ℓ) (g : Dev Cert.FfnGIdeal.nD → PrngReg), Pre_FfnGIdeal m →
    θ_run (Cert.FfnGIdeal.defs (F := Ideal)) (onTc (τ := Cert.FfnGIdeal.τ) (Cert.FfnGIdeal.main (F := Ideal))) ⟨m, fun _ => 0, g⟩ (fun r => (∀ c : Dev Cert.FfnGIdeal.nD,
      r.2.mem ((c.tc : Thread Cert.FfnGIdeal.nD Cert.FfnGIdeal.τ).loc Cert.FfnGIdeal.main_arg0) = m ((c.tc : Thread Cert.FfnGIdeal.nD Cert.FfnGIdeal.τ).loc Cert.FfnGIdeal.main_arg0)
      ∧ r.2.mem ((c.tc : Thread Cert.FfnGIdeal.nD Cert.FfnGIdeal.τ).loc Cert.FfnGIdeal.main_arg1) = m ((c.tc : Thread Cert.FfnGIdeal.nD Cert.FfnGIdeal.τ).loc Cert.FfnGIdeal.main_arg1)
      ∧ r.2.mem ((c.tc : Thread Cert.FfnGIdeal.nD Cert.FfnGIdeal.τ).loc Cert.FfnGIdeal.main_arg2) = m ((c.tc : Thread Cert.FfnGIdeal.nD Cert.FfnGIdeal.τ).loc Cert.FfnGIdeal.main_arg2)
      ∧ r.2.mem ((c.tc : Thread Cert.FfnGIdeal.nD Cert.FfnGIdeal.τ).loc Cert.FfnGIdeal.main_arg3) = m ((c.tc : Thread Cert.FfnGIdeal.nD Cert.FfnGIdeal.τ).loc Cert.FfnGIdeal.main_arg3)
      ∧ r.2.mem ((c.tc : Thread Cert.FfnGIdeal.nD Cert.FfnGIdeal.τ).loc Cert.FfnGIdeal.main_arg4) = m ((c.tc : Thread Cert.FfnGIdeal.nD Cert.FfnGIdeal.τ).loc Cert.FfnGIdeal.main_arg4)
      ∧ r.2.mem ((c.tc : Thread Cert.FfnGIdeal.nD Cert.FfnGIdeal.τ).loc Cert.FfnGIdeal.main_arg5) = m ((c.tc : Thread Cert.FfnGIdeal.nD Cert.FfnGIdeal.τ).loc Cert.FfnGIdeal.main_arg5))
      ∧ r.2.sem = fun _ => 0)

def quiescent_FfnGRefIdeal [hFfnGRefIdeal : Cert.FfnGRefIdeal.Facts] : Prop :=
  ∀ (m : (ℓ : Loc Cert.FfnGRefIdeal.nD Cert.FfnGRefIdeal.τ Cert.FfnGRefIdeal.sig) → Buf (Elt Ideal) ℓ) (g : Dev Cert.FfnGRefIdeal.nD → PrngReg), Pre_FfnGRefIdeal m →
    θ_run (Cert.FfnGRefIdeal.defs (F := Ideal)) (onTc (τ := Cert.FfnGRefIdeal.τ) (Cert.FfnGRefIdeal.main (F := Ideal))) ⟨m, fun _ => 0, g⟩ (fun r => (∀ c : Dev Cert.FfnGRefIdeal.nD,
      r.2.mem ((c.tc : Thread Cert.FfnGRefIdeal.nD Cert.FfnGRefIdeal.τ).loc Cert.FfnGRefIdeal.main_arg0) = m ((c.tc : Thread Cert.FfnGRefIdeal.nD Cert.FfnGRefIdeal.τ).loc Cert.FfnGRefIdeal.main_arg0)
      ∧ r.2.mem ((c.tc : Thread Cert.FfnGRefIdeal.nD Cert.FfnGRefIdeal.τ).loc Cert.FfnGRefIdeal.main_arg1) = m ((c.tc : Thread Cert.FfnGRefIdeal.nD Cert.FfnGRefIdeal.τ).loc Cert.FfnGRefIdeal.main_arg1)
      ∧ r.2.mem ((c.tc : Thread Cert.FfnGRefIdeal.nD Cert.FfnGRefIdeal.τ).loc Cert.FfnGRefIdeal.main_arg2) = m ((c.tc : Thread Cert.FfnGRefIdeal.nD Cert.FfnGRefIdeal.τ).loc Cert.FfnGRefIdeal.main_arg2)
      ∧ r.2.mem ((c.tc : Thread Cert.FfnGRefIdeal.nD Cert.FfnGRefIdeal.τ).loc Cert.FfnGRefIdeal.main_arg3) = m ((c.tc : Thread Cert.FfnGRefIdeal.nD Cert.FfnGRefIdeal.τ).loc Cert.FfnGRefIdeal.main_arg3)
      ∧ r.2.mem ((c.tc : Thread Cert.FfnGRefIdeal.nD Cert.FfnGRefIdeal.τ).loc Cert.FfnGRefIdeal.main_arg4) = m ((c.tc : Thread Cert.FfnGRefIdeal.nD Cert.FfnGRefIdeal.τ).loc Cert.FfnGRefIdeal.main_arg4)
      ∧ r.2.mem ((c.tc : Thread Cert.FfnGRefIdeal.nD Cert.FfnGRefIdeal.τ).loc Cert.FfnGRefIdeal.main_arg5) = m ((c.tc : Thread Cert.FfnGRefIdeal.nD Cert.FfnGRefIdeal.τ).loc Cert.FfnGRefIdeal.main_arg5))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4)
      ∧ r.2.mem ((c.tc : Thread Cert.MixFwd.nD Cert.MixFwd.τ).loc Cert.MixFwd.main_arg5) = m ((c.tc : Thread Cert.MixFwd.nD Cert.MixFwd.τ).loc Cert.MixFwd.main_arg5)
      ∧ r.2.mem ((c.tc : Thread Cert.MixFwd.nD Cert.MixFwd.τ).loc Cert.MixFwd.main_arg6) = m ((c.tc : Thread Cert.MixFwd.nD Cert.MixFwd.τ).loc Cert.MixFwd.main_arg6)
      ∧ r.2.mem ((c.tc : Thread Cert.MixFwd.nD Cert.MixFwd.τ).loc Cert.MixFwd.main_arg7) = m ((c.tc : Thread Cert.MixFwd.nD Cert.MixFwd.τ).loc Cert.MixFwd.main_arg7)
      ∧ r.2.mem ((c.tc : Thread Cert.MixFwd.nD Cert.MixFwd.τ).loc Cert.MixFwd.main_arg8) = m ((c.tc : Thread Cert.MixFwd.nD Cert.MixFwd.τ).loc Cert.MixFwd.main_arg8)
      ∧ r.2.mem ((c.tc : Thread Cert.MixFwd.nD Cert.MixFwd.τ).loc Cert.MixFwd.main_arg9) = m ((c.tc : Thread Cert.MixFwd.nD Cert.MixFwd.τ).loc Cert.MixFwd.main_arg9))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
      ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
      ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
      ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9))
      ∧ r.2.sem = fun _ => 0)

def quiescent_MixFwdIdeal_pre_finite_mix [hMixFwdIdeal : Cert.MixFwdIdeal.Facts] [hPre_finite_mix : Cert.Pre_finite_mix.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal_finite_mix m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
      ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
      ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
      ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9))
      ∧ r.2.sem = fun _ => 0)

def quiescent_MixFwdRefIdeal [hMixFwdRefIdeal : Cert.MixFwdRefIdeal.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3)
      ∧ r.2.mem ((c.tc : Thread Cert.MixFwdRefIdeal.nD Cert.MixFwdRefIdeal.τ).loc Cert.MixFwdRefIdeal.main_arg4) = m ((c.tc : Thread Cert.MixFwdRefIdeal.nD Cert.MixFwdRefIdeal.τ).loc Cert.MixFwdRefIdeal.main_arg4)
      ∧ r.2.mem ((c.tc : Thread Cert.MixFwdRefIdeal.nD Cert.MixFwdRefIdeal.τ).loc Cert.MixFwdRefIdeal.main_arg5) = m ((c.tc : Thread Cert.MixFwdRefIdeal.nD Cert.MixFwdRefIdeal.τ).loc Cert.MixFwdRefIdeal.main_arg5)
      ∧ r.2.mem ((c.tc : Thread Cert.MixFwdRefIdeal.nD Cert.MixFwdRefIdeal.τ).loc Cert.MixFwdRefIdeal.main_arg6) = m ((c.tc : Thread Cert.MixFwdRefIdeal.nD Cert.MixFwdRefIdeal.τ).loc Cert.MixFwdRefIdeal.main_arg6)
      ∧ r.2.mem ((c.tc : Thread Cert.MixFwdRefIdeal.nD Cert.MixFwdRefIdeal.τ).loc Cert.MixFwdRefIdeal.main_arg7) = m ((c.tc : Thread Cert.MixFwdRefIdeal.nD Cert.MixFwdRefIdeal.τ).loc Cert.MixFwdRefIdeal.main_arg7)
      ∧ r.2.mem ((c.tc : Thread Cert.MixFwdRefIdeal.nD Cert.MixFwdRefIdeal.τ).loc Cert.MixFwdRefIdeal.main_arg8) = m ((c.tc : Thread Cert.MixFwdRefIdeal.nD Cert.MixFwdRefIdeal.τ).loc Cert.MixFwdRefIdeal.main_arg8)
      ∧ r.2.mem ((c.tc : Thread Cert.MixFwdRefIdeal.nD Cert.MixFwdRefIdeal.τ).loc Cert.MixFwdRefIdeal.main_arg9) = m ((c.tc : Thread Cert.MixFwdRefIdeal.nD Cert.MixFwdRefIdeal.τ).loc Cert.MixFwdRefIdeal.main_arg9))
      ∧ r.2.sem = fun _ => 0)

def quiescent_MixFwdRefIdeal_pre_finite_mix [hMixFwdRefIdeal : Cert.MixFwdRefIdeal.Facts] [hPre_finite_mix : Cert.Pre_finite_mix.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal_finite_mix m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3)
      ∧ r.2.mem ((c.tc : Thread Cert.MixFwdRefIdeal.nD Cert.MixFwdRefIdeal.τ).loc Cert.MixFwdRefIdeal.main_arg4) = m ((c.tc : Thread Cert.MixFwdRefIdeal.nD Cert.MixFwdRefIdeal.τ).loc Cert.MixFwdRefIdeal.main_arg4)
      ∧ r.2.mem ((c.tc : Thread Cert.MixFwdRefIdeal.nD Cert.MixFwdRefIdeal.τ).loc Cert.MixFwdRefIdeal.main_arg5) = m ((c.tc : Thread Cert.MixFwdRefIdeal.nD Cert.MixFwdRefIdeal.τ).loc Cert.MixFwdRefIdeal.main_arg5)
      ∧ r.2.mem ((c.tc : Thread Cert.MixFwdRefIdeal.nD Cert.MixFwdRefIdeal.τ).loc Cert.MixFwdRefIdeal.main_arg6) = m ((c.tc : Thread Cert.MixFwdRefIdeal.nD Cert.MixFwdRefIdeal.τ).loc Cert.MixFwdRefIdeal.main_arg6)
      ∧ r.2.mem ((c.tc : Thread Cert.MixFwdRefIdeal.nD Cert.MixFwdRefIdeal.τ).loc Cert.MixFwdRefIdeal.main_arg7) = m ((c.tc : Thread Cert.MixFwdRefIdeal.nD Cert.MixFwdRefIdeal.τ).loc Cert.MixFwdRefIdeal.main_arg7)
      ∧ r.2.mem ((c.tc : Thread Cert.MixFwdRefIdeal.nD Cert.MixFwdRefIdeal.τ).loc Cert.MixFwdRefIdeal.main_arg8) = m ((c.tc : Thread Cert.MixFwdRefIdeal.nD Cert.MixFwdRefIdeal.τ).loc Cert.MixFwdRefIdeal.main_arg8)
      ∧ r.2.mem ((c.tc : Thread Cert.MixFwdRefIdeal.nD Cert.MixFwdRefIdeal.τ).loc Cert.MixFwdRefIdeal.main_arg9) = m ((c.tc : Thread Cert.MixFwdRefIdeal.nD Cert.MixFwdRefIdeal.τ).loc Cert.MixFwdRefIdeal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_v84) = v2 c
          ∧ r.2.mem ((c.tc : Thread Cert.ReferenceIdeal.nD Cert.ReferenceIdeal.τ).loc Cert.ReferenceIdeal.main_v83) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_InProj_InProjIdeal : Prop :=
  True

def algebraic_InProjIdeal_InProjRefIdeal_pre_finite_inproj [hInProjIdeal : Cert.InProjIdeal.Facts] [hInProjRefIdeal : Cert.InProjRefIdeal.Facts] [hPre_finite_inproj : Cert.Pre_finite_inproj.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal_finite_inproj m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)) →
    ∃ (v0 : (c : Dev Cert.InProjIdeal.nD) → Buf (Elt Ideal) ((c.tc : Thread Cert.InProjIdeal.nD Cert.InProjIdeal.τ).loc Cert.InProjIdeal.main_v9_0)) (v1 : (c : Dev Cert.InProjIdeal.nD) → Buf (Elt Ideal) ((c.tc : Thread Cert.InProjIdeal.nD Cert.InProjIdeal.τ).loc Cert.InProjIdeal.main_v9_1)) (v2 : (c : Dev Cert.InProjIdeal.nD) → Buf (Elt Ideal) ((c.tc : Thread Cert.InProjIdeal.nD Cert.InProjIdeal.τ).loc Cert.InProjIdeal.main_v9_2)) (v3 : (c : Dev Cert.InProjIdeal.nD) → Buf (Elt Ideal) ((c.tc : Thread Cert.InProjIdeal.nD Cert.InProjIdeal.τ).loc Cert.InProjIdeal.main_v9_3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v9_0) = v0 c
          ∧ r.2.mem ((c.tc : Thread Cert.InProjIdeal.nD Cert.InProjIdeal.τ).loc Cert.InProjIdeal.main_v9_1) = v1 c
          ∧ r.2.mem ((c.tc : Thread Cert.InProjIdeal.nD Cert.InProjIdeal.τ).loc Cert.InProjIdeal.main_v9_2) = v2 c
          ∧ r.2.mem ((c.tc : Thread Cert.InProjIdeal.nD Cert.InProjIdeal.τ).loc Cert.InProjIdeal.main_v9_3) = v3 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v72) = v0 c
          ∧ r.2.mem ((c.tc : Thread Cert.InProjRefIdeal.nD Cert.InProjRefIdeal.τ).loc Cert.InProjRefIdeal.main_v75) = v1 c
          ∧ r.2.mem ((c.tc : Thread Cert.InProjRefIdeal.nD Cert.InProjRefIdeal.τ).loc Cert.InProjRefIdeal.main_v74) = v2 c
          ∧ r.2.mem ((c.tc : Thread Cert.InProjRefIdeal.nD Cert.InProjRefIdeal.τ).loc Cert.InProjRefIdeal.main_v73) = v3 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5))

def preserves_FfnU_FfnUIdeal : Prop :=
  True

def algebraic_FfnUIdeal_FfnURefIdeal_pre_finite_u [hFfnUIdeal : Cert.FfnUIdeal.Facts] [hFfnURefIdeal : Cert.FfnURefIdeal.Facts] [hPre_finite_u : Cert.Pre_finite_u.Facts] : Prop :=
  ∀ (m : (ℓ : Loc Cert.FfnUIdeal.nD Cert.FfnUIdeal.τ Cert.FfnUIdeal.sig) → Buf (Elt Ideal) ℓ) (g : Dev Cert.FfnUIdeal.nD → PrngReg)
    (m' : (ℓ : Loc Cert.FfnURefIdeal.nD Cert.FfnURefIdeal.τ Cert.FfnURefIdeal.sig) → Buf (Elt Ideal) ℓ) (g' : Dev Cert.FfnURefIdeal.nD → PrngReg), Pre_FfnUIdeal_finite_u m →
    (∀ c : Dev Cert.FfnUIdeal.nD,
      m' ((c.tc : Thread Cert.FfnURefIdeal.nD Cert.FfnURefIdeal.τ).loc Cert.FfnURefIdeal.main_arg0) = m ((c.tc : Thread Cert.FfnUIdeal.nD Cert.FfnUIdeal.τ).loc Cert.FfnUIdeal.main_arg0)
      ∧ m' ((c.tc : Thread Cert.FfnURefIdeal.nD Cert.FfnURefIdeal.τ).loc Cert.FfnURefIdeal.main_arg1) = m ((c.tc : Thread Cert.FfnUIdeal.nD Cert.FfnUIdeal.τ).loc Cert.FfnUIdeal.main_arg1)
      ∧ m' ((c.tc : Thread Cert.FfnURefIdeal.nD Cert.FfnURefIdeal.τ).loc Cert.FfnURefIdeal.main_arg2) = m ((c.tc : Thread Cert.FfnUIdeal.nD Cert.FfnUIdeal.τ).loc Cert.FfnUIdeal.main_arg2)
      ∧ m' ((c.tc : Thread Cert.FfnURefIdeal.nD Cert.FfnURefIdeal.τ).loc Cert.FfnURefIdeal.main_arg3) = m ((c.tc : Thread Cert.FfnUIdeal.nD Cert.FfnUIdeal.τ).loc Cert.FfnUIdeal.main_arg3)
      ∧ m' ((c.tc : Thread Cert.FfnURefIdeal.nD Cert.FfnURefIdeal.τ).loc Cert.FfnURefIdeal.main_arg4) = m ((c.tc : Thread Cert.FfnUIdeal.nD Cert.FfnUIdeal.τ).loc Cert.FfnUIdeal.main_arg4)
      ∧ m' ((c.tc : Thread Cert.FfnURefIdeal.nD Cert.FfnURefIdeal.τ).loc Cert.FfnURefIdeal.main_arg5) = m ((c.tc : Thread Cert.FfnUIdeal.nD Cert.FfnUIdeal.τ).loc Cert.FfnUIdeal.main_arg5)) →
    ∃ (v0 : (c : Dev Cert.FfnUIdeal.nD) → Buf (Elt Ideal) ((c.tc : Thread Cert.FfnUIdeal.nD Cert.FfnUIdeal.τ).loc Cert.FfnUIdeal.main_v6_0)) (v1 : (c : Dev Cert.FfnUIdeal.nD) → Buf (Elt Ideal) ((c.tc : Thread Cert.FfnUIdeal.nD Cert.FfnUIdeal.τ).loc Cert.FfnUIdeal.main_v6_1)) (v2 : (c : Dev Cert.FfnUIdeal.nD) → Buf (Elt Ideal) ((c.tc : Thread Cert.FfnUIdeal.nD Cert.FfnUIdeal.τ).loc Cert.FfnUIdeal.main_v6_2)) (v3 : (c : Dev Cert.FfnUIdeal.nD) → Buf (Elt Ideal) ((c.tc : Thread Cert.FfnUIdeal.nD Cert.FfnUIdeal.τ).loc Cert.FfnUIdeal.main_v6_3)),
      θ_run (Cert.FfnUIdeal.defs (F := Ideal)) (onTc (τ := Cert.FfnUIdeal.τ) (Cert.FfnUIdeal.main (F := Ideal))) ⟨m, fun _ => 0, g⟩ (fun r => ∀ c : Dev Cert.FfnUIdeal.nD,
          r.2.mem ((c.tc : Thread Cert.FfnUIdeal.nD Cert.FfnUIdeal.τ).loc Cert.FfnUIdeal.main_v6_0) = v0 c
          ∧ r.2.mem ((c.tc : Thread Cert.FfnUIdeal.nD Cert.FfnUIdeal.τ).loc Cert.FfnUIdeal.main_v6_1) = v1 c
          ∧ r.2.mem ((c.tc : Thread Cert.FfnUIdeal.nD Cert.FfnUIdeal.τ).loc Cert.FfnUIdeal.main_v6_2) = v2 c
          ∧ r.2.mem ((c.tc : Thread Cert.FfnUIdeal.nD Cert.FfnUIdeal.τ).loc Cert.FfnUIdeal.main_v6_3) = v3 c
          ∧ r.2.mem ((c.tc : Thread Cert.FfnUIdeal.nD Cert.FfnUIdeal.τ).loc Cert.FfnUIdeal.main_arg0) = m ((c.tc : Thread Cert.FfnUIdeal.nD Cert.FfnUIdeal.τ).loc Cert.FfnUIdeal.main_arg0)
          ∧ r.2.mem ((c.tc : Thread Cert.FfnUIdeal.nD Cert.FfnUIdeal.τ).loc Cert.FfnUIdeal.main_arg1) = m ((c.tc : Thread Cert.FfnUIdeal.nD Cert.FfnUIdeal.τ).loc Cert.FfnUIdeal.main_arg1)
          ∧ r.2.mem ((c.tc : Thread Cert.FfnUIdeal.nD Cert.FfnUIdeal.τ).loc Cert.FfnUIdeal.main_arg2) = m ((c.tc : Thread Cert.FfnUIdeal.nD Cert.FfnUIdeal.τ).loc Cert.FfnUIdeal.main_arg2)
          ∧ r.2.mem ((c.tc : Thread Cert.FfnUIdeal.nD Cert.FfnUIdeal.τ).loc Cert.FfnUIdeal.main_arg3) = m ((c.tc : Thread Cert.FfnUIdeal.nD Cert.FfnUIdeal.τ).loc Cert.FfnUIdeal.main_arg3)
          ∧ r.2.mem ((c.tc : Thread Cert.FfnUIdeal.nD Cert.FfnUIdeal.τ).loc Cert.FfnUIdeal.main_arg4) = m ((c.tc : Thread Cert.FfnUIdeal.nD Cert.FfnUIdeal.τ).loc Cert.FfnUIdeal.main_arg4)
          ∧ r.2.mem ((c.tc : Thread Cert.FfnUIdeal.nD Cert.FfnUIdeal.τ).loc Cert.FfnUIdeal.main_arg5) = m ((c.tc : Thread Cert.FfnUIdeal.nD Cert.FfnUIdeal.τ).loc Cert.FfnUIdeal.main_arg5))
      ∧ θ_run (Cert.FfnURefIdeal.defs (F := Ideal)) (onTc (τ := Cert.FfnURefIdeal.τ) (Cert.FfnURefIdeal.main (F := Ideal))) ⟨m', fun _ => 0, g'⟩ (fun r => ∀ c : Dev Cert.FfnURefIdeal.nD,
          r.2.mem ((c.tc : Thread Cert.FfnURefIdeal.nD Cert.FfnURefIdeal.τ).loc Cert.FfnURefIdeal.main_v69) = v0 c
          ∧ r.2.mem ((c.tc : Thread Cert.FfnURefIdeal.nD Cert.FfnURefIdeal.τ).loc Cert.FfnURefIdeal.main_v72) = v1 c
          ∧ r.2.mem ((c.tc : Thread Cert.FfnURefIdeal.nD Cert.FfnURefIdeal.τ).loc Cert.FfnURefIdeal.main_v71) = v2 c
          ∧ r.2.mem ((c.tc : Thread Cert.FfnURefIdeal.nD Cert.FfnURefIdeal.τ).loc Cert.FfnURefIdeal.main_v70) = v3 c
          ∧ r.2.mem ((c.tc : Thread Cert.FfnURefIdeal.nD Cert.FfnURefIdeal.τ).loc Cert.FfnURefIdeal.main_arg0) = m' ((c.tc : Thread Cert.FfnURefIdeal.nD Cert.FfnURefIdeal.τ).loc Cert.FfnURefIdeal.main_arg0)
          ∧ r.2.mem ((c.tc : Thread Cert.FfnURefIdeal.nD Cert.FfnURefIdeal.τ).loc Cert.FfnURefIdeal.main_arg1) = m' ((c.tc : Thread Cert.FfnURefIdeal.nD Cert.FfnURefIdeal.τ).loc Cert.FfnURefIdeal.main_arg1)
          ∧ r.2.mem ((c.tc : Thread Cert.FfnURefIdeal.nD Cert.FfnURefIdeal.τ).loc Cert.FfnURefIdeal.main_arg2) = m' ((c.tc : Thread Cert.FfnURefIdeal.nD Cert.FfnURefIdeal.τ).loc Cert.FfnURefIdeal.main_arg2)
          ∧ r.2.mem ((c.tc : Thread Cert.FfnURefIdeal.nD Cert.FfnURefIdeal.τ).loc Cert.FfnURefIdeal.main_arg3) = m' ((c.tc : Thread Cert.FfnURefIdeal.nD Cert.FfnURefIdeal.τ).loc Cert.FfnURefIdeal.main_arg3)
          ∧ r.2.mem ((c.tc : Thread Cert.FfnURefIdeal.nD Cert.FfnURefIdeal.τ).loc Cert.FfnURefIdeal.main_arg4) = m' ((c.tc : Thread Cert.FfnURefIdeal.nD Cert.FfnURefIdeal.τ).loc Cert.FfnURefIdeal.main_arg4)
          ∧ r.2.mem ((c.tc : Thread Cert.FfnURefIdeal.nD Cert.FfnURefIdeal.τ).loc Cert.FfnURefIdeal.main_arg5) = m' ((c.tc : Thread Cert.FfnURefIdeal.nD Cert.FfnURefIdeal.τ).loc Cert.FfnURefIdeal.main_arg5))

def preserves_FfnA_FfnAIdeal : Prop :=
  True

def algebraic_FfnAIdeal_FfnARefIdeal_pre_finite_a [hFfnAIdeal : Cert.FfnAIdeal.Facts] [hFfnARefIdeal : Cert.FfnARefIdeal.Facts] [hPre_finite_a : Cert.Pre_finite_a.Facts] : Prop :=
  ∀ (m : (ℓ : Loc Cert.FfnAIdeal.nD Cert.FfnAIdeal.τ Cert.FfnAIdeal.sig) → Buf (Elt Ideal) ℓ) (g : Dev Cert.FfnAIdeal.nD → PrngReg)
    (m' : (ℓ : Loc Cert.FfnARefIdeal.nD Cert.FfnARefIdeal.τ Cert.FfnARefIdeal.sig) → Buf (Elt Ideal) ℓ) (g' : Dev Cert.FfnARefIdeal.nD → PrngReg), Pre_FfnAIdeal_finite_a m →
    (∀ c : Dev Cert.FfnAIdeal.nD,
      m' ((c.tc : Thread Cert.FfnARefIdeal.nD Cert.FfnARefIdeal.τ).loc Cert.FfnARefIdeal.main_arg0) = m ((c.tc : Thread Cert.FfnAIdeal.nD Cert.FfnAIdeal.τ).loc Cert.FfnAIdeal.main_arg0)
      ∧ m' ((c.tc : Thread Cert.FfnARefIdeal.nD Cert.FfnARefIdeal.τ).loc Cert.FfnARefIdeal.main_arg1) = m ((c.tc : Thread Cert.FfnAIdeal.nD Cert.FfnAIdeal.τ).loc Cert.FfnAIdeal.main_arg1)
      ∧ m' ((c.tc : Thread Cert.FfnARefIdeal.nD Cert.FfnARefIdeal.τ).loc Cert.FfnARefIdeal.main_arg2) = m ((c.tc : Thread Cert.FfnAIdeal.nD Cert.FfnAIdeal.τ).loc Cert.FfnAIdeal.main_arg2)
      ∧ m' ((c.tc : Thread Cert.FfnARefIdeal.nD Cert.FfnARefIdeal.τ).loc Cert.FfnARefIdeal.main_arg3) = m ((c.tc : Thread Cert.FfnAIdeal.nD Cert.FfnAIdeal.τ).loc Cert.FfnAIdeal.main_arg3)) →
    ∃ (v0 : (c : Dev Cert.FfnAIdeal.nD) → Buf (Elt Ideal) ((c.tc : Thread Cert.FfnAIdeal.nD Cert.FfnAIdeal.τ).loc Cert.FfnAIdeal.main_v26_0)) (v1 : (c : Dev Cert.FfnAIdeal.nD) → Buf (Elt Ideal) ((c.tc : Thread Cert.FfnAIdeal.nD Cert.FfnAIdeal.τ).loc Cert.FfnAIdeal.main_v26_1)) (v2 : (c : Dev Cert.FfnAIdeal.nD) → Buf (Elt Ideal) ((c.tc : Thread Cert.FfnAIdeal.nD Cert.FfnAIdeal.τ).loc Cert.FfnAIdeal.main_v26_2)),
      θ_run (Cert.FfnAIdeal.defs (F := Ideal)) (onTc (τ := Cert.FfnAIdeal.τ) (Cert.FfnAIdeal.main (F := Ideal))) ⟨m, fun _ => 0, g⟩ (fun r => ∀ c : Dev Cert.FfnAIdeal.nD,
          r.2.mem ((c.tc : Thread Cert.FfnAIdeal.nD Cert.FfnAIdeal.τ).loc Cert.FfnAIdeal.main_v26_0) = v0 c
          ∧ r.2.mem ((c.tc : Thread Cert.FfnAIdeal.nD Cert.FfnAIdeal.τ).loc Cert.FfnAIdeal.main_v26_1) = v1 c
          ∧ r.2.mem ((c.tc : Thread Cert.FfnAIdeal.nD Cert.FfnAIdeal.τ).loc Cert.FfnAIdeal.main_v26_2) = v2 c
          ∧ r.2.mem ((c.tc : Thread Cert.FfnAIdeal.nD Cert.FfnAIdeal.τ).loc Cert.FfnAIdeal.main_arg0) = m ((c.tc : Thread Cert.FfnAIdeal.nD Cert.FfnAIdeal.τ).loc Cert.FfnAIdeal.main_arg0)
          ∧ r.2.mem ((c.tc : Thread Cert.FfnAIdeal.nD Cert.FfnAIdeal.τ).loc Cert.FfnAIdeal.main_arg1) = m ((c.tc : Thread Cert.FfnAIdeal.nD Cert.FfnAIdeal.τ).loc Cert.FfnAIdeal.main_arg1)
          ∧ r.2.mem ((c.tc : Thread Cert.FfnAIdeal.nD Cert.FfnAIdeal.τ).loc Cert.FfnAIdeal.main_arg2) = m ((c.tc : Thread Cert.FfnAIdeal.nD Cert.FfnAIdeal.τ).loc Cert.FfnAIdeal.main_arg2)
          ∧ r.2.mem ((c.tc : Thread Cert.FfnAIdeal.nD Cert.FfnAIdeal.τ).loc Cert.FfnAIdeal.main_arg3) = m ((c.tc : Thread Cert.FfnAIdeal.nD Cert.FfnAIdeal.τ).loc Cert.FfnAIdeal.main_arg3))
      ∧ θ_run (Cert.FfnARefIdeal.defs (F := Ideal)) (onTc (τ := Cert.FfnARefIdeal.τ) (Cert.FfnARefIdeal.main (F := Ideal))) ⟨m', fun _ => 0, g'⟩ (fun r => ∀ c : Dev Cert.FfnARefIdeal.nD,
          r.2.mem ((c.tc : Thread Cert.FfnARefIdeal.nD Cert.FfnARefIdeal.τ).loc Cert.FfnARefIdeal.main_v11) = v0 c
          ∧ r.2.mem ((c.tc : Thread Cert.FfnARefIdeal.nD Cert.FfnARefIdeal.τ).loc Cert.FfnARefIdeal.main_v14) = v1 c
          ∧ r.2.mem ((c.tc : Thread Cert.FfnARefIdeal.nD Cert.FfnARefIdeal.τ).loc Cert.FfnARefIdeal.main_v4) = v2 c
          ∧ r.2.mem ((c.tc : Thread Cert.FfnARefIdeal.nD Cert.FfnARefIdeal.τ).loc Cert.FfnARefIdeal.main_arg0) = m' ((c.tc : Thread Cert.FfnARefIdeal.nD Cert.FfnARefIdeal.τ).loc Cert.FfnARefIdeal.main_arg0)
          ∧ r.2.mem ((c.tc : Thread Cert.FfnARefIdeal.nD Cert.FfnARefIdeal.τ).loc Cert.FfnARefIdeal.main_arg1) = m' ((c.tc : Thread Cert.FfnARefIdeal.nD Cert.FfnARefIdeal.τ).loc Cert.FfnARefIdeal.main_arg1)
          ∧ r.2.mem ((c.tc : Thread Cert.FfnARefIdeal.nD Cert.FfnARefIdeal.τ).loc Cert.FfnARefIdeal.main_arg2) = m' ((c.tc : Thread Cert.FfnARefIdeal.nD Cert.FfnARefIdeal.τ).loc Cert.FfnARefIdeal.main_arg2)
          ∧ r.2.mem ((c.tc : Thread Cert.FfnARefIdeal.nD Cert.FfnARefIdeal.τ).loc Cert.FfnARefIdeal.main_arg3) = m' ((c.tc : Thread Cert.FfnARefIdeal.nD Cert.FfnARefIdeal.τ).loc Cert.FfnARefIdeal.main_arg3))

def preserves_FfnG_FfnGIdeal : Prop :=
  True

def algebraic_FfnGIdeal_FfnGRefIdeal [hFfnGIdeal : Cert.FfnGIdeal.Facts] [hFfnGRefIdeal : Cert.FfnGRefIdeal.Facts] : Prop :=
  ∀ (m : (ℓ : Loc Cert.FfnGIdeal.nD Cert.FfnGIdeal.τ Cert.FfnGIdeal.sig) → Buf (Elt Ideal) ℓ) (g : Dev Cert.FfnGIdeal.nD → PrngReg)
    (m' : (ℓ : Loc Cert.FfnGRefIdeal.nD Cert.FfnGRefIdeal.τ Cert.FfnGRefIdeal.sig) → Buf (Elt Ideal) ℓ) (g' : Dev Cert.FfnGRefIdeal.nD → PrngReg), Pre_FfnGIdeal m →
    (∀ c : Dev Cert.FfnGIdeal.nD,
      m' ((c.tc : Thread Cert.FfnGRefIdeal.nD Cert.FfnGRefIdeal.τ).loc Cert.FfnGRefIdeal.main_arg0) = m ((c.tc : Thread Cert.FfnGIdeal.nD Cert.FfnGIdeal.τ).loc Cert.FfnGIdeal.main_arg0)
      ∧ m' ((c.tc : Thread Cert.FfnGRefIdeal.nD Cert.FfnGRefIdeal.τ).loc Cert.FfnGRefIdeal.main_arg1) = m ((c.tc : Thread Cert.FfnGIdeal.nD Cert.FfnGIdeal.τ).loc Cert.FfnGIdeal.main_arg1)
      ∧ m' ((c.tc : Thread Cert.FfnGRefIdeal.nD Cert.FfnGRefIdeal.τ).loc Cert.FfnGRefIdeal.main_arg2) = m ((c.tc : Thread Cert.FfnGIdeal.nD Cert.FfnGIdeal.τ).loc Cert.FfnGIdeal.main_arg2)
      ∧ m' ((c.tc : Thread Cert.FfnGRefIdeal.nD Cert.FfnGRefIdeal.τ).loc Cert.FfnGRefIdeal.main_arg3) = m ((c.tc : Thread Cert.FfnGIdeal.nD Cert.FfnGIdeal.τ).loc Cert.FfnGIdeal.main_arg3)
      ∧ m' ((c.tc : Thread Cert.FfnGRefIdeal.nD Cert.FfnGRefIdeal.τ).loc Cert.FfnGRefIdeal.main_arg4) = m ((c.tc : Thread Cert.FfnGIdeal.nD Cert.FfnGIdeal.τ).loc Cert.FfnGIdeal.main_arg4)
      ∧ m' ((c.tc : Thread Cert.FfnGRefIdeal.nD Cert.FfnGRefIdeal.τ).loc Cert.FfnGRefIdeal.main_arg5) = m ((c.tc : Thread Cert.FfnGIdeal.nD Cert.FfnGIdeal.τ).loc Cert.FfnGIdeal.main_arg5)) →
    ∃ (v0 : (c : Dev Cert.FfnGIdeal.nD) → Buf (Elt Ideal) ((c.tc : Thread Cert.FfnGIdeal.nD Cert.FfnGIdeal.τ).loc Cert.FfnGIdeal.main_v6_0)) (v1 : (c : Dev Cert.FfnGIdeal.nD) → Buf (Elt Ideal) ((c.tc : Thread Cert.FfnGIdeal.nD Cert.FfnGIdeal.τ).loc Cert.FfnGIdeal.main_v6_1)),
      θ_run (Cert.FfnGIdeal.defs (F := Ideal)) (onTc (τ := Cert.FfnGIdeal.τ) (Cert.FfnGIdeal.main (F := Ideal))) ⟨m, fun _ => 0, g⟩ (fun r => ∀ c : Dev Cert.FfnGIdeal.nD,
          r.2.mem ((c.tc : Thread Cert.FfnGIdeal.nD Cert.FfnGIdeal.τ).loc Cert.FfnGIdeal.main_v6_0) = v0 c
          ∧ r.2.mem ((c.tc : Thread Cert.FfnGIdeal.nD Cert.FfnGIdeal.τ).loc Cert.FfnGIdeal.main_v6_1) = v1 c
          ∧ r.2.mem ((c.tc : Thread Cert.FfnGIdeal.nD Cert.FfnGIdeal.τ).loc Cert.FfnGIdeal.main_arg0) = m ((c.tc : Thread Cert.FfnGIdeal.nD Cert.FfnGIdeal.τ).loc Cert.FfnGIdeal.main_arg0)
          ∧ r.2.mem ((c.tc : Thread Cert.FfnGIdeal.nD Cert.FfnGIdeal.τ).loc Cert.FfnGIdeal.main_arg1) = m ((c.tc : Thread Cert.FfnGIdeal.nD Cert.FfnGIdeal.τ).loc Cert.FfnGIdeal.main_arg1)
          ∧ r.2.mem ((c.tc : Thread Cert.FfnGIdeal.nD Cert.FfnGIdeal.τ).loc Cert.FfnGIdeal.main_arg2) = m ((c.tc : Thread Cert.FfnGIdeal.nD Cert.FfnGIdeal.τ).loc Cert.FfnGIdeal.main_arg2)
          ∧ r.2.mem ((c.tc : Thread Cert.FfnGIdeal.nD Cert.FfnGIdeal.τ).loc Cert.FfnGIdeal.main_arg3) = m ((c.tc : Thread Cert.FfnGIdeal.nD Cert.FfnGIdeal.τ).loc Cert.FfnGIdeal.main_arg3)
          ∧ r.2.mem ((c.tc : Thread Cert.FfnGIdeal.nD Cert.FfnGIdeal.τ).loc Cert.FfnGIdeal.main_arg4) = m ((c.tc : Thread Cert.FfnGIdeal.nD Cert.FfnGIdeal.τ).loc Cert.FfnGIdeal.main_arg4)
          ∧ r.2.mem ((c.tc : Thread Cert.FfnGIdeal.nD Cert.FfnGIdeal.τ).loc Cert.FfnGIdeal.main_arg5) = m ((c.tc : Thread Cert.FfnGIdeal.nD Cert.FfnGIdeal.τ).loc Cert.FfnGIdeal.main_arg5))
      ∧ θ_run (Cert.FfnGRefIdeal.defs (F := Ideal)) (onTc (τ := Cert.FfnGRefIdeal.τ) (Cert.FfnGRefIdeal.main (F := Ideal))) ⟨m', fun _ => 0, g'⟩ (fun r => ∀ c : Dev Cert.FfnGRefIdeal.nD,
          r.2.mem ((c.tc : Thread Cert.FfnGRefIdeal.nD Cert.FfnGRefIdeal.τ).loc Cert.FfnGRefIdeal.main_v34) = v0 c
          ∧ r.2.mem ((c.tc : Thread Cert.FfnGRefIdeal.nD Cert.FfnGRefIdeal.τ).loc Cert.FfnGRefIdeal.main_v35) = v1 c
          ∧ r.2.mem ((c.tc : Thread Cert.FfnGRefIdeal.nD Cert.FfnGRefIdeal.τ).loc Cert.FfnGRefIdeal.main_arg0) = m' ((c.tc : Thread Cert.FfnGRefIdeal.nD Cert.FfnGRefIdeal.τ).loc Cert.FfnGRefIdeal.main_arg0)
          ∧ r.2.mem ((c.tc : Thread Cert.FfnGRefIdeal.nD Cert.FfnGRefIdeal.τ).loc Cert.FfnGRefIdeal.main_arg1) = m' ((c.tc : Thread Cert.FfnGRefIdeal.nD Cert.FfnGRefIdeal.τ).loc Cert.FfnGRefIdeal.main_arg1)
          ∧ r.2.mem ((c.tc : Thread Cert.FfnGRefIdeal.nD Cert.FfnGRefIdeal.τ).loc Cert.FfnGRefIdeal.main_arg2) = m' ((c.tc : Thread Cert.FfnGRefIdeal.nD Cert.FfnGRefIdeal.τ).loc Cert.FfnGRefIdeal.main_arg2)
          ∧ r.2.mem ((c.tc : Thread Cert.FfnGRefIdeal.nD Cert.FfnGRefIdeal.τ).loc Cert.FfnGRefIdeal.main_arg3) = m' ((c.tc : Thread Cert.FfnGRefIdeal.nD Cert.FfnGRefIdeal.τ).loc Cert.FfnGRefIdeal.main_arg3)
          ∧ r.2.mem ((c.tc : Thread Cert.FfnGRefIdeal.nD Cert.FfnGRefIdeal.τ).loc Cert.FfnGRefIdeal.main_arg4) = m' ((c.tc : Thread Cert.FfnGRefIdeal.nD Cert.FfnGRefIdeal.τ).loc Cert.FfnGRefIdeal.main_arg4)
          ∧ r.2.mem ((c.tc : Thread Cert.FfnGRefIdeal.nD Cert.FfnGRefIdeal.τ).loc Cert.FfnGRefIdeal.main_arg5) = m' ((c.tc : Thread Cert.FfnGRefIdeal.nD Cert.FfnGRefIdeal.τ).loc Cert.FfnGRefIdeal.main_arg5))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v2_0)) (v1 : (c : Dev Cert.OutProjIdeal.nD) → Buf (Elt Ideal) ((c.tc : Thread Cert.OutProjIdeal.nD Cert.OutProjIdeal.τ).loc Cert.OutProjIdeal.main_v2_1)) (v2 : (c : Dev Cert.OutProjIdeal.nD) → Buf (Elt Ideal) ((c.tc : Thread Cert.OutProjIdeal.nD Cert.OutProjIdeal.τ).loc Cert.OutProjIdeal.main_v2_2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2_0) = v0 c
          ∧ r.2.mem ((c.tc : Thread Cert.OutProjIdeal.nD Cert.OutProjIdeal.τ).loc Cert.OutProjIdeal.main_v2_1) = v1 c
          ∧ r.2.mem ((c.tc : Thread Cert.OutProjIdeal.nD Cert.OutProjIdeal.τ).loc Cert.OutProjIdeal.main_v2_2) = v2 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v10) = v0 c
          ∧ r.2.mem ((c.tc : Thread Cert.OutProjRefIdeal.nD Cert.OutProjRefIdeal.τ).loc Cert.OutProjRefIdeal.main_v11) = v1 c
          ∧ r.2.mem ((c.tc : Thread Cert.OutProjRefIdeal.nD Cert.OutProjRefIdeal.τ).loc Cert.OutProjRefIdeal.main_v9) = v2 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_MixFwd_MixFwdIdeal : Prop :=
  IdealRules.named_const.Statement Cert.MixFwdIdeal.κ "mask" .f32 0xF149F2CA#32 ⊥

def algebraic_MixFwdIdeal_MixFwdRefIdeal_pre_finite_mix [hMixFwdIdeal : Cert.MixFwdIdeal.Facts] [hMixFwdRefIdeal : Cert.MixFwdRefIdeal.Facts] [hPre_finite_mix : Cert.Pre_finite_mix.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdRefIdeal.nD Cert.MixFwdRefIdeal.τ Cert.MixFwdRefIdeal.sig) → Buf (Elt Ideal) ℓ) (g' : Dev Cert.MixFwdRefIdeal.nD → PrngReg), Pre_MixFwdIdeal_finite_mix m →
    (∀ c : Dev Cert.MixFwdIdeal.nD,
      m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0)
      ∧ m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1)
      ∧ m' ((c.tc : Thread Cert.MixFwdRefIdeal.nD Cert.MixFwdRefIdeal.τ).loc Cert.MixFwdRefIdeal.main_arg2) = m ((c.tc : Thread Cert.MixFwdIdeal.nD Cert.MixFwdIdeal.τ).loc Cert.MixFwdIdeal.main_arg2)
      ∧ m' ((c.tc : Thread Cert.MixFwdRefIdeal.nD Cert.MixFwdRefIdeal.τ).loc Cert.MixFwdRefIdeal.main_arg3) = m ((c.tc : Thread Cert.MixFwdIdeal.nD Cert.MixFwdIdeal.τ).loc Cert.MixFwdIdeal.main_arg3)
      ∧ m' ((c.tc : Thread Cert.MixFwdRefIdeal.nD Cert.MixFwdRefIdeal.τ).loc Cert.MixFwdRefIdeal.main_arg4) = m ((c.tc : Thread Cert.MixFwdIdeal.nD Cert.MixFwdIdeal.τ).loc Cert.MixFwdIdeal.main_arg4)
      ∧ m' ((c.tc : Thread Cert.MixFwdRefIdeal.nD Cert.MixFwdRefIdeal.τ).loc Cert.MixFwdRefIdeal.main_arg5) = m ((c.tc : Thread Cert.MixFwdIdeal.nD Cert.MixFwdIdeal.τ).loc Cert.MixFwdIdeal.main_arg5)
      ∧ m' ((c.tc : Thread Cert.MixFwdRefIdeal.nD Cert.MixFwdRefIdeal.τ).loc Cert.MixFwdRefIdeal.main_arg6) = m ((c.tc : Thread Cert.MixFwdIdeal.nD Cert.MixFwdIdeal.τ).loc Cert.MixFwdIdeal.main_arg6)
      ∧ m' ((c.tc : Thread Cert.MixFwdRefIdeal.nD Cert.MixFwdRefIdeal.τ).loc Cert.MixFwdRefIdeal.main_arg7) = m ((c.tc : Thread Cert.MixFwdIdeal.nD Cert.MixFwdIdeal.τ).loc Cert.MixFwdIdeal.main_arg7)
      ∧ m' ((c.tc : Thread Cert.MixFwdRefIdeal.nD Cert.MixFwdRefIdeal.τ).loc Cert.MixFwdRefIdeal.main_arg8) = m ((c.tc : Thread Cert.MixFwdIdeal.nD Cert.MixFwdIdeal.τ).loc Cert.MixFwdIdeal.main_arg8)
      ∧ m' ((c.tc : Thread Cert.MixFwdRefIdeal.nD Cert.MixFwdRefIdeal.τ).loc Cert.MixFwdRefIdeal.main_arg9) = m ((c.tc : Thread Cert.MixFwdIdeal.nD Cert.MixFwdIdeal.τ).loc Cert.MixFwdIdeal.main_arg9)) →
    ∃ (v0 : (c : Dev Cert.MixFwdIdeal.nD) → Buf (Elt Ideal) ((c.tc : Thread Cert.MixFwdIdeal.nD Cert.MixFwdIdeal.τ).loc Cert.MixFwdIdeal.main_v13)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v13) = v0 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
          ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
          ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
          ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
          ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
          ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
          ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9))
      ∧ θ_run (Cert.MixFwdRefIdeal.defs (F := Ideal)) (onTc (τ := Cert.MixFwdRefIdeal.τ) (Cert.MixFwdRefIdeal.main (F := Ideal))) ⟨m', fun _ => 0, g'⟩ (fun r => ∀ c : Dev Cert.MixFwdRefIdeal.nD,
          r.2.mem ((c.tc : Thread Cert.MixFwdRefIdeal.nD Cert.MixFwdRefIdeal.τ).loc Cert.MixFwdRefIdeal.main_v123) = v0 c
          ∧ r.2.mem ((c.tc : Thread Cert.MixFwdRefIdeal.nD Cert.MixFwdRefIdeal.τ).loc Cert.MixFwdRefIdeal.main_arg0) = m' ((c.tc : Thread Cert.MixFwdRefIdeal.nD Cert.MixFwdRefIdeal.τ).loc Cert.MixFwdRefIdeal.main_arg0)
          ∧ r.2.mem ((c.tc : Thread Cert.MixFwdRefIdeal.nD Cert.MixFwdRefIdeal.τ).loc Cert.MixFwdRefIdeal.main_arg1) = m' ((c.tc : Thread Cert.MixFwdRefIdeal.nD Cert.MixFwdRefIdeal.τ).loc Cert.MixFwdRefIdeal.main_arg1)
          ∧ r.2.mem ((c.tc : Thread Cert.MixFwdRefIdeal.nD Cert.MixFwdRefIdeal.τ).loc Cert.MixFwdRefIdeal.main_arg2) = m' ((c.tc : Thread Cert.MixFwdRefIdeal.nD Cert.MixFwdRefIdeal.τ).loc Cert.MixFwdRefIdeal.main_arg2)
          ∧ r.2.mem ((c.tc : Thread Cert.MixFwdRefIdeal.nD Cert.MixFwdRefIdeal.τ).loc Cert.MixFwdRefIdeal.main_arg3) = m' ((c.tc : Thread Cert.MixFwdRefIdeal.nD Cert.MixFwdRefIdeal.τ).loc Cert.MixFwdRefIdeal.main_arg3)
          ∧ r.2.mem ((c.tc : Thread Cert.MixFwdRefIdeal.nD Cert.MixFwdRefIdeal.τ).loc Cert.MixFwdRefIdeal.main_arg4) = m' ((c.tc : Thread Cert.MixFwdRefIdeal.nD Cert.MixFwdRefIdeal.τ).loc Cert.MixFwdRefIdeal.main_arg4)
          ∧ r.2.mem ((c.tc : Thread Cert.MixFwdRefIdeal.nD Cert.MixFwdRefIdeal.τ).loc Cert.MixFwdRefIdeal.main_arg5) = m' ((c.tc : Thread Cert.MixFwdRefIdeal.nD Cert.MixFwdRefIdeal.τ).loc Cert.MixFwdRefIdeal.main_arg5)
          ∧ r.2.mem ((c.tc : Thread Cert.MixFwdRefIdeal.nD Cert.MixFwdRefIdeal.τ).loc Cert.MixFwdRefIdeal.main_arg6) = m' ((c.tc : Thread Cert.MixFwdRefIdeal.nD Cert.MixFwdRefIdeal.τ).loc Cert.MixFwdRefIdeal.main_arg6)
          ∧ r.2.mem ((c.tc : Thread Cert.MixFwdRefIdeal.nD Cert.MixFwdRefIdeal.τ).loc Cert.MixFwdRefIdeal.main_arg7) = m' ((c.tc : Thread Cert.MixFwdRefIdeal.nD Cert.MixFwdRefIdeal.τ).loc Cert.MixFwdRefIdeal.main_arg7)
          ∧ r.2.mem ((c.tc : Thread Cert.MixFwdRefIdeal.nD Cert.MixFwdRefIdeal.τ).loc Cert.MixFwdRefIdeal.main_arg8) = m' ((c.tc : Thread Cert.MixFwdRefIdeal.nD Cert.MixFwdRefIdeal.τ).loc Cert.MixFwdRefIdeal.main_arg8)
          ∧ r.2.mem ((c.tc : Thread Cert.MixFwdRefIdeal.nD Cert.MixFwdRefIdeal.τ).loc Cert.MixFwdRefIdeal.main_arg9) = m' ((c.tc : Thread Cert.MixFwdRefIdeal.nD Cert.MixFwdRefIdeal.τ).loc Cert.MixFwdRefIdeal.main_arg9))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjRefIdeal : Cert.InProjRefIdeal.Facts) (hFfnU : Cert.FfnU.Facts) (hFfnUIdeal : Cert.FfnUIdeal.Facts) (hFfnURefIdeal : Cert.FfnURefIdeal.Facts) (hFfnA : Cert.FfnA.Facts) (hFfnAIdeal : Cert.FfnAIdeal.Facts) (hFfnARefIdeal : Cert.FfnARefIdeal.Facts) (hFfnG : Cert.FfnG.Facts) (hFfnGIdeal : Cert.FfnGIdeal.Facts) (hFfnGRefIdeal : Cert.FfnGRefIdeal.Facts) (hOutProj : Cert.OutProj.Facts) (hOutProjIdeal : Cert.OutProjIdeal.Facts) (hOutProjRefIdeal : Cert.OutProjRefIdeal.Facts) (hMixFwd : Cert.MixFwd.Facts) (hMixFwdIdeal : Cert.MixFwdIdeal.Facts) (hMixFwdRefIdeal : Cert.MixFwdRefIdeal.Facts) (hPre_finite : Cert.Pre_finite.Facts) (hPre_finite_inproj : Cert.Pre_finite_inproj.Facts) (hPre_finite_u : Cert.Pre_finite_u.Facts) (hPre_finite_a : Cert.Pre_finite_a.Facts) (hPre_finite_mix : Cert.Pre_finite_mix.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InProj (hInProj := hInProj)
    ∧ quiescent_InProjIdeal (hInProjIdeal := hInProjIdeal)
    ∧ quiescent_InProjIdeal_pre_finite_inproj (hInProjIdeal := hInProjIdeal) (hPre_finite_inproj := hPre_finite_inproj)
    ∧ quiescent_InProjRefIdeal (hInProjRefIdeal := hInProjRefIdeal)
    ∧ quiescent_InProjRefIdeal_pre_finite_inproj (hInProjRefIdeal := hInProjRefIdeal) (hPre_finite_inproj := hPre_finite_inproj)
    ∧ quiescent_FfnU (hFfnU := hFfnU)
    ∧ quiescent_FfnUIdeal (hFfnUIdeal := hFfnUIdeal)
    ∧ quiescent_FfnUIdeal_pre_finite_u (hFfnUIdeal := hFfnUIdeal) (hPre_finite_u := hPre_finite_u)
    ∧ quiescent_FfnURefIdeal (hFfnURefIdeal := hFfnURefIdeal)
    ∧ quiescent_FfnURefIdeal_pre_finite_u (hFfnURefIdeal := hFfnURefIdeal) (hPre_finite_u := hPre_finite_u)
    ∧ quiescent_FfnA (hFfnA := hFfnA)
    ∧ quiescent_FfnAIdeal (hFfnAIdeal := hFfnAIdeal)
    ∧ quiescent_FfnAIdeal_pre_finite_a (hFfnAIdeal := hFfnAIdeal) (hPre_finite_a := hPre_finite_a)
    ∧ quiescent_FfnARefIdeal (hFfnARefIdeal := hFfnARefIdeal)
    ∧ quiescent_FfnARefIdeal_pre_finite_a (hFfnARefIdeal := hFfnARefIdeal) (hPre_finite_a := hPre_finite_a)
    ∧ quiescent_FfnG (hFfnG := hFfnG)
    ∧ quiescent_FfnGIdeal (hFfnGIdeal := hFfnGIdeal)
    ∧ quiescent_FfnGRefIdeal (hFfnGRefIdeal := hFfnGRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_MixFwd (hMixFwd := hMixFwd)
    ∧ quiescent_MixFwdIdeal (hMixFwdIdeal := hMixFwdIdeal)
    ∧ quiescent_MixFwdIdeal_pre_finite_mix (hMixFwdIdeal := hMixFwdIdeal) (hPre_finite_mix := hPre_finite_mix)
    ∧ quiescent_MixFwdRefIdeal (hMixFwdRefIdeal := hMixFwdRefIdeal)
    ∧ quiescent_MixFwdRefIdeal_pre_finite_mix (hMixFwdRefIdeal := hMixFwdRefIdeal) (hPre_finite_mix := hPre_finite_mix)
    ∧ preserves_Kernel_KernelIdeal
    ∧ algebraic_KernelIdeal_ReferenceIdeal_pre_finite (hKernelIdeal := hKernelIdeal) (hReferenceIdeal := hReferenceIdeal) (hPre_finite := hPre_finite)
    ∧ preserves_InProj_InProjIdeal
    ∧ algebraic_InProjIdeal_InProjRefIdeal_pre_finite_inproj (hInProjIdeal := hInProjIdeal) (hInProjRefIdeal := hInProjRefIdeal) (hPre_finite_inproj := hPre_finite_inproj)
    ∧ preserves_FfnU_FfnUIdeal
    ∧ algebraic_FfnUIdeal_FfnURefIdeal_pre_finite_u (hFfnUIdeal := hFfnUIdeal) (hFfnURefIdeal := hFfnURefIdeal) (hPre_finite_u := hPre_finite_u)
    ∧ preserves_FfnA_FfnAIdeal
    ∧ algebraic_FfnAIdeal_FfnARefIdeal_pre_finite_a (hFfnAIdeal := hFfnAIdeal) (hFfnARefIdeal := hFfnARefIdeal) (hPre_finite_a := hPre_finite_a)
    ∧ preserves_FfnG_FfnGIdeal
    ∧ algebraic_FfnGIdeal_FfnGRefIdeal (hFfnGIdeal := hFfnGIdeal) (hFfnGRefIdeal := hFfnGRefIdeal)
    ∧ preserves_OutProj_OutProjIdeal
    ∧ algebraic_OutProjIdeal_OutProjRefIdeal (hOutProjIdeal := hOutProjIdeal) (hOutProjRefIdeal := hOutProjRefIdeal)
    ∧ preserves_MixFwd_MixFwdIdeal
    ∧ algebraic_MixFwdIdeal_MixFwdRefIdeal_pre_finite_mix (hMixFwdIdeal := hMixFwdIdeal) (hMixFwdRefIdeal := hMixFwdRefIdeal) (hPre_finite_mix := hPre_finite_mix)
-- ==== Pre_finite.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩

class Facts : Prop where
  bcast_S_S4096x2816 : S_.BroadcastsInDim S4096x2816 (![] : Fin 0 → Fin S4096x2816.rank)
  bcast_S_S2816x1024 : S_.BroadcastsInDim S2816x1024 (![] : Fin 0 → Fin S2816x1024.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x2816 .f32) (main_arg1 : FVec F S2816x1024 .f32) (main_arg2 : FVec F S4096x1024 .f32) (main_arg3 : FVec F S1x1024 .f32) (main_arg4 : FVec F S1x1024 .f32) (main_arg5 : FVec F S4096x1024 .f32) : IVec S4096x2816 1 × IVec S2816x1024 1 × IVec S4096x1024 1 × IVec S1x1024 1 × IVec S1x1024 1 × IVec S4096x1024 1 :=
  let main_v0 : FVec F S4096x2816 .f32 := Host.absf main_arg0
  let main_cst : FVec F S_ .f32 := constant S_ .f32 0x7F800000#32
  let main_v1 : FVec F S4096x2816 .f32 := broadcastInDim S4096x2816 ![] bcast_S_S4096x2816 main_cst
  let main_v2 : IVec S4096x2816 1 := cmpf .olt main_v0 main_v1
  let main_v3 : FVec F S2816x1024 .f32 := Host.absf main_arg1
  let main_cst_0 : FVec F S_ .f32 := constant S_ .f32 0x7F800000#32
  let main_v4 : FVec F S2816x1024 .f32 := broadcastInDim S2816x1024 ![] bcast_S_S2816x1024 main_cst_0
  let main_v5 : IVec S2816x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  (main_v2, main_v5, main_v8, main_v11, main_v14, main_v17)
-- ==== Pre_finite_a.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩

class Facts : Prop where
  bcast_S_S4096x2816 : S_.BroadcastsInDim S4096x2816 (![] : Fin 0 → Fin S4096x2816.rank)
  bcast_S_S2816x1024 : S_.BroadcastsInDim S2816x1024 (![] : Fin 0 → Fin S2816x1024.rank)
  bcast_S_S4096x1024 : S_.BroadcastsInDim S4096x1024 (![] : Fin 0 → Fin S4096x1024.rank)

variable [Facts]

def fn {F : FTy → Type} [FloatOps F] (main_arg0 : FVec F S4096x2816 .f32) (main_arg1 : FVec F S4096x2816 .f32) (main_arg2 : FVec F S2816x1024 .f32) (main_arg3 : FVec F S4096x1024 .f32) : IVec S4096x2816 1 × IVec S4096x2816 1 × IVec S2816x1024 1 × IVec S4096x1024 1 :=
  let main_v0 : FVec F S4096x2816 .f32 := Host.absf main_arg0
  let main_cst : FVec F S_ .f32 := constant S_ .f32 0x7F800000#32
  let main_v1 : FVec F S4096x2816 .f32 := broadcastInDim S4096x2816 ![] bcast_S_S4096x2816 main_cst
  let main_v2 : IVec S4096x2816 1 := cmpf .olt main_v0 main_v1
  let main_v3 : FVec F S4096x2816 .f32 := Host.absf main_arg1
  let main_cst_0 : FVec F S_ .f32 := constant S_ .f32 0x7F800000#32
  let main_v4 : FVec F S4096x2816 .f32 := broadcastInDim S4096x2816 ![] bcast_S_S4096x2816 main_cst_0
  let main_v5 : IVec S4096x2816 1 := cmpf .olt main_v3 main_v4
  let main_v6 : FVec F S2816x1024 .f32 := Host.absf main_arg2
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  (main_v2, main_v5, main_v8, main_v11)
-- ==== Pre_finite_inproj.lean ====
abbrev S4096x1024 : Shape := ⟨2, ![4096, 1024]⟩
abbrev S1x1024 : Shape := ⟨2, ![1, 1024]⟩
abbrev S1024x1792 : Shape := ⟨2, ![1024, 1792]⟩
abbrev S4096x1792 : Shape := ⟨2, ![4096, 1792]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x1792 : S_.BroadcastsInDim S1024x1792 (![] : Fin 0 → Fin S1024x1792.rank)
  bcast_S_S4096x1792 : S_.BroadcastsInDim S4096x1792 (![] : Fin 0 → Fin S4096x1792.rank)

variable [Facts]

def fn {F : FTy → Type} [FloatOps F] (main_arg0 : FVec F S4096x1024 .f32) (main_arg1 : FVec F S1x1024 .f32) (main_arg2 : FVec F S1x1024 .f32) (main_arg3 : FVec F S1024x1792 .f32) (main_arg4 : FVec F S4096x1792 .f32) (main_arg5 : FVec F S4096x1024 .f32) : IVec S4096x1024 1 × IVec S1x1024 1 × IVec S1x1024 1 × IVec S1024x1792 1 × IVec S4096x1792 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1024x1792 .f32 := Host.absf main_arg3
  let main_cst_2 : FVec F S_ .f32 := constant S_ .f32 0x7F800000#32
  let main_v10 : FVec F S1024x1792 .f32 := broadcastInDim S1024x1792 ![] bcast_S_S1024x1792 main_cst_2
  let main_v11 : IVec S1024x1792 1 := cmpf .olt main_v9 main_v10
  let main_v12 : FVec F S4096x1792 .f32 := Host.absf main_arg4
  let main_cst_3 : FVec F S_ .f32 := constant S_ .f32 0x7F800000#32
  let main_v13 : FVec F S4096x1792 .f32 := broadcastInDim S4096x1792 ![] bcast_S_S4096x1792 main_cst_3
  let main_v14 : IVec S4096x1792 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  (main_v2, main_v5, main_v8, main_v11, main_v14, main_v17)
-- ==== Pre_finite_mix.lean ====
abbrev S1x4096x8x64 : Shape := ⟨4, ![1, 4096, 8, 64]⟩
abbrev S1x4096x2x64 : Shape := ⟨4, ![1, 4096, 2, 64]⟩
abbrev S1x4096x512 : Shape := ⟨3, ![1, 4096, 512]⟩
abbrev S8 : Shape := ⟨1, ![8]⟩
abbrev S512 : Shape := ⟨1, ![512]⟩
abbrev S4x128x128 : Shape := ⟨3, ![4, 128, 128]⟩
abbrev S4x128 : Shape := ⟨2, ![4, 128]⟩
abbrev S_ : Shape := ⟨0, ![]⟩

class Facts : Prop where
  bcast_S_S1x4096x8x64 : S_.BroadcastsInDim S1x4096x8x64 (![] : Fin 0 → Fin S1x4096x8x64.rank)
  bcast_S_S1x4096x2x64 : S_.BroadcastsInDim S1x4096x2x64 (![] : Fin 0 → Fin S1x4096x2x64.rank)
  bcast_S_S8 : S_.BroadcastsInDim S8 (![] : Fin 0 → Fin S8.rank)

variable [Facts]

def fn {F : FTy → Type} [FloatOps F] (main_arg0 : FVec F S1x4096x8x64 .f32) (main_arg1 : FVec F S1x4096x2x64 .f32) (main_arg2 : FVec F S1x4096x2x64 .f32) (main_arg3 : FVec F S1x4096x512 .f32) (main_arg4 : FVec F S1x4096x512 .f32) (main_arg5 : FVec F S8 .f32) (main_arg6 : FVec F S512 .f32) (main_arg7 : FVec F S512 .f32) (main_arg8 : FVec F S4x128x128 .f32) (main_arg9 : FVec F S4x128 .f32) : IVec S1x4096x8x64 1 × IVec S1x4096x2x64 1 × IVec S8 1 :=
  let main_v0 : FVec F S1x4096x8x64 .f32 := Host.absf main_arg0
  let main_cst : FVec F S_ .f32 := constant S_ .f32 0x7F800000#32
  let main_v1 : FVec F S1x4096x8x64 .f32 := broadcastInDim S1x4096x8x64 ![] bcast_S_S1x4096x8x64 main_cst
  let main_v2 : IVec S1x4096x8x64 1 := cmpf .olt main_v0 main_v1
  let main_v3 : FVec F S1x4096x2x64 .f32 := Host.absf main_arg1
  let main_cst_0 : FVec F S_ .f32 := constant S_ .f32 0x7F800000#32
  let main_v4 : FVec F S1x4096x2x64 .f32 := broadcastInDim S1x4096x2x64 ![] bcast_S_S1x4096x2x64 main_cst_0
  let main_v5 : IVec S1x4096x2x64 1 := cmpf .olt main_v3 main_v4
  let main_v6 : FVec F S8 .f32 := Host.absf main_arg5
  let main_cst_1 : FVec F S_ .f32 := constant S_ .f32 0x7F800000#32
  let main_v7 : FVec F S8 .f32 := broadcastInDim S8 ![] bcast_S_S8 main_cst_1
  let main_v8 : IVec S8 1 := cmpf .olt main_v6 main_v7
  (main_v2, main_v5, main_v8)
-- ==== Pre_finite_u.lean ====
abbrev S4096x1024 : Shape := ⟨2, ![4096, 1024]⟩
abbrev S1x1024 : Shape := ⟨2, ![1, 1024]⟩
abbrev S1024x2816 : Shape := ⟨2, ![1024, 2816]⟩
abbrev S4096x2816 : Shape := ⟨2, ![4096, 2816]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x2816 : S_.BroadcastsInDim S1024x2816 (![] : Fin 0 → Fin S1024x2816.rank)
  bcast_S_S4096x2816 : S_.BroadcastsInDim S4096x2816 (![] : Fin 0 → Fin S4096x2816.rank)

variable [Facts]

def fn {F : FTy → Type} [FloatOps F] (main_arg0 : FVec F S4096x1024 .f32) (main_arg1 : FVec F S1x1024 .f32) (main_arg2 : FVec F S1x1024 .f32) (main_arg3 : FVec F S1024x2816 .f32) (main_arg4 : FVec F S4096x2816 .f32) (main_arg5 : FVec F S4096x1024 .f32) : IVec S4096x1024 1 × IVec S1x1024 1 × IVec S1x1024 1 × IVec S1024x2816 1 × IVec S4096x2816 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S4096x2816 .f32 := Host.absf main_arg4
  let main_cst_3 : FVec F S_ .f32 := constant S_ .f32 0x7F800000#32
  let main_v13 : FVec F S4096x2816 .f32 := broadcastInDim S4096x2816 ![] bcast_S_S4096x2816 main_cst_3
  let main_v14 : IVec S4096x2816 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  (main_v2, main_v5, main_v8, main_v11, main_v14, main_v17)
-- ==== Kernel.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S4096x4x704 : Shape := ⟨3, ![4096, 4, 704]⟩
abbrev S4x4096x704 : Shape := ⟨3, ![4, 4096, 704]⟩
abbrev S4x704x1024 : Shape := ⟨3, ![4, 704, 1024]⟩
abbrev S4x512x704 : Shape := ⟨3, ![4, 512, 704]⟩
abbrev S512x1024 : Shape := ⟨2, ![512, 1024]⟩
abbrev S256x1024 : Shape := ⟨2, ![256, 1024]⟩
abbrev S1x256x704 : Shape := ⟨3, ![1, 256, 704]⟩
abbrev S256x704 : Shape := ⟨2, ![256, 704]⟩
abbrev S1x704x1024 : Shape := ⟨3, ![1, 704, 1024]⟩
abbrev S704x1024 : Shape := ⟨2, ![704, 1024]⟩
abbrev S256 : Shape := ⟨1, ![256]⟩
abbrev S256x1 : Shape := ⟨2, ![256, 1]⟩
abbrev S1024 : Shape := ⟨1, ![1024]⟩

abbrev nBuf : Space → Nat
  | .hbm => 15
  | .vmem => 14
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x4x704, .f32⟩
  | .hbm, ⟨7, _⟩ => ⟨S4x4096x704, .f32⟩
  | .hbm, ⟨8, _⟩ => ⟨S4x4096x704, .bf16⟩
  | .hbm, ⟨9, _⟩ => ⟨S4x704x1024, .f32⟩
  | .hbm, ⟨10, _⟩ => ⟨S4x704x1024, .bf16⟩
  | .hbm, ⟨11, _⟩ => ⟨S4096x1024, .f32⟩
  | .hbm, ⟨12, _⟩ => ⟨S1x1024, .f32⟩
  | .hbm, ⟨13, _⟩ => ⟨S1x1024, .f32⟩
  | .hbm, ⟨14, _⟩ => ⟨S1x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x704x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S1024 : Shape := ⟨1, ![1024]⟩
abbrev S4096 : Shape := ⟨1, ![4096]⟩
abbrev S4096x1 : Shape := ⟨2, ![4096, 1]⟩

abbrev nBuf : Space → Nat
  | .hbm => 121
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S1024, .f32⟩
  | .hbm, ⟨12, _⟩ => ⟨S1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S1x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096, .f32⟩
  | .hbm, ⟨56, _⟩ => ⟨S_, .f32⟩
  | .hbm, ⟨57, _⟩ => ⟨S4096, .f32⟩
  | .hbm, ⟨58, _⟩ => ⟨S4096, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S4096, .f32⟩
  | .hbm, ⟨67, _⟩ => ⟨S_, .f32⟩
  | .hbm, ⟨68, _⟩ => ⟨S4096, .f32⟩
  | .hbm, ⟨69, _⟩ => ⟨S4096, .f32⟩
  | .hbm, ⟨70, _⟩ => ⟨S4096x1024, .f32⟩
  | .hbm, ⟨71, _⟩ => ⟨S4096x1024, .f32⟩
  | .hbm, ⟨72, _⟩ => ⟨S_, .f32⟩
  | .hbm, ⟨73, _⟩ => ⟨S1024, .f32⟩
  | .hbm, ⟨74, _⟩ => ⟨S1x1024, .f32⟩
  | .hbm, ⟨75, _⟩ => ⟨S_, .f32⟩
  | .hbm, ⟨76, _⟩ => ⟨S1024, .f32⟩
  | .hbm, ⟨77, _⟩ => ⟨S4096x1024, .f32⟩
  | .hbm, ⟨78, _⟩ => ⟨S_, .f32⟩
  | .hbm, ⟨79, _⟩ => ⟨S1024, .f32⟩
  | .hbm, ⟨80, _⟩ => ⟨S1x1024, .f32⟩
  | .hbm, ⟨81, _⟩ => ⟨S4096x1024, .f32⟩
  | .hbm, ⟨82, _⟩ => ⟨S4096x1024, .f32⟩
  | .hbm, ⟨83, _⟩ => ⟨S_, .f32⟩
  | .hbm, ⟨84, _⟩ => ⟨S1024, .f32⟩
  | .hbm, ⟨85, _⟩ => ⟨S4096x1024, .f32⟩
  | .hbm, ⟨86, _⟩ => ⟨S_, .f32⟩
  | .hbm, ⟨87, _⟩ => ⟨S4096, .f32⟩
  | .hbm, ⟨88, _⟩ => ⟨S4096x1, .f32⟩
  | .hbm, ⟨89, _⟩ => ⟨S4096x1024, .f32⟩
  | .hbm, ⟨90, _⟩ => ⟨S4096x1024, .f32⟩
  | .hbm, ⟨91, _⟩ => ⟨S4096x1, .f32⟩
  | .hbm, ⟨92, _⟩ => ⟨S4096x1024, .f32⟩
  | .hbm, ⟨93, _⟩ => ⟨S_, .f32⟩
  | .hbm, ⟨94, _⟩ => ⟨S4096, .f32⟩
  | .hbm, ⟨95, _⟩ => ⟨S4096x1, .f32⟩
  | .hbm, ⟨96, _⟩ => ⟨S_, .f32⟩
  | .hbm, ⟨97, _⟩ => ⟨S4096x1, .f32⟩
  | .hbm, ⟨98, _⟩ => ⟨S4096x1, .f32⟩
  | .hbm, ⟨99, _⟩ => ⟨S_, .f32⟩
  | .hbm, ⟨100, _⟩ => ⟨S4096, .f32⟩
  | .hbm, ⟨101, _⟩ => ⟨S4096x1024, .f32⟩
  | .hbm, ⟨102, _⟩ => ⟨S4096x1024, .f32⟩
  | .hbm, ⟨103, _⟩ => ⟨S4096x1024, .f32⟩
  | .hbm, ⟨104, _⟩ => ⟨S_, .f32⟩
  | .hbm, ⟨105, _⟩ => ⟨S4096, .f32⟩
  | .hbm, ⟨106, _⟩ => ⟨S4096x1, .f32⟩
  | .hbm, ⟨107, _⟩ => ⟨S4096x1024, .f32⟩
  | .hbm, ⟨108, _⟩ => ⟨S4096x1, .f32⟩
  | .hbm, ⟨109, _⟩ => ⟨S_, .f32⟩
  | .hbm, ⟨110, _⟩ => ⟨S4096x1, .f32⟩
  | .hbm, ⟨111, _⟩ => ⟨S4096x1, .f32⟩
  | .hbm, ⟨112, _⟩ => ⟨S_, .f32⟩
  | .hbm, ⟨113, _⟩ => ⟨S4096, .f32⟩
  | .hbm, ⟨114, _⟩ => ⟨S4096x1024, .f32⟩
  | .hbm, ⟨115, _⟩ => ⟨S4096x1024, .f32⟩
  | .hbm, ⟨116, _⟩ => ⟨S1x1024, .f32⟩
  | .hbm, ⟨117, _⟩ => ⟨S1x1024, .f32⟩
  | .hbm, ⟨118, _⟩ => ⟨S_, .f32⟩
  | .hbm, ⟨119, _⟩ => ⟨S1024, .f32⟩
  | .hbm, ⟨120, _⟩ => ⟨S1x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_cst_11 : Ref sig .tc := ⟨.hbm, 61, rfl⟩
abbrev main_v43 : Ref sig .tc := ⟨.hbm, 62, rfl⟩
abbrev main_cst_12 : Ref sig .tc := ⟨.hbm, 63, rfl⟩
abbrev main_cst_13 : Ref sig .tc := ⟨.hbm, 64, rfl⟩
abbrev main_v44 : Ref sig .tc := ⟨.hbm, 65, rfl⟩
abbrev main_v45 : Ref sig .tc := ⟨.hbm, 66, rfl⟩
abbrev main_cst_14 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_15 : Ref sig .tc := ⟨.hbm, 72, rfl⟩
abbrev main_v50 : Ref sig .tc := ⟨.hbm, 73, rfl⟩
abbrev main_v51 : Ref sig .tc := ⟨.hbm, 74, rfl⟩
abbrev main_cst_16 : Ref sig .tc := ⟨.hbm, 75, rfl⟩
abbrev main_v52 : Ref sig .tc := ⟨.hbm, 76, rfl⟩
abbrev main_v53 : Ref sig .tc := ⟨.hbm, 77, rfl⟩
abbrev main_cst_17 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_18 : Ref sig .tc := ⟨.hbm, 83, rfl⟩
abbrev main_v58 : Ref sig .tc := ⟨.hbm, 84, rfl⟩
abbrev main_v59 : Ref sig .tc := ⟨.hbm, 85, rfl⟩
abbrev main_cst_19 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_20 : Ref sig .tc := ⟨.hbm, 93, rfl⟩
abbrev main_v66 : Ref sig .tc := ⟨.hbm, 94, rfl⟩
abbrev main_v67 : Ref sig .tc := ⟨.hbm, 95, rfl⟩
abbrev main_cst_21 : Ref sig .tc := ⟨.hbm, 96, rfl⟩
abbrev main_v68 : Ref sig .tc := ⟨.hbm, 97, rfl⟩
abbrev main_v69 : Ref sig .tc := ⟨.hbm, 98, rfl⟩
abbrev main_cst_22 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_23 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_24 : Ref sig .tc := ⟨.hbm, 109, rfl⟩
abbrev main_v78 : Ref sig .tc := ⟨.hbm, 110, rfl⟩
abbrev main_v79 : Ref sig .tc := ⟨.hbm, 111, rfl⟩
abbrev main_cst_25 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_26 : Ref sig .tc := ⟨.hbm, 118, rfl⟩
abbrev main_v85 : Ref sig .tc := ⟨.hbm, 119, rfl⟩
abbrev main_v86 : Ref sig .tc := ⟨.hbm, 120, rfl⟩

abbrev nD : Nat := 1
abbrev τ : Topo := Topo.v7x

variable {F : FTy → Type} [FloatOps F]
-- ==== InProj.lean ====
abbrev S4096x1024 : Shape := ⟨2, ![4096, 1024]⟩
abbrev S1x1024 : Shape := ⟨2, ![1, 1024]⟩
abbrev S1024x1792 : Shape := ⟨2, ![1024, 1792]⟩
abbrev S4096x1792 : Shape := ⟨2, ![4096, 1792]⟩
abbrev S_ : Shape := ⟨0, ![]⟩
abbrev S128x256 : Shape := ⟨2, ![128, 256]⟩
abbrev S4096x256 : Shape := ⟨2, ![4096, 256]⟩
abbrev S384x256 : Shape := ⟨2, ![384, 256]⟩
abbrev S4608x256 : Shape := ⟨2, ![4608, 256]⟩
abbrev S4096x512 : Shape := ⟨2, ![4096, 512]⟩
abbrev S1792x1024 : Shape := ⟨2, ![1792, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S256x1024 : Shape := ⟨2, ![256, 1024]⟩
abbrev S1024x1024 : Shape := ⟨2, ![1024, 1024]⟩
abbrev S1024 : Shape := ⟨1, ![1024]⟩

abbrev nBuf : Space → Nat
  | .hbm => 21
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024x1792, .f32⟩
  | .hbm, ⟨4, _⟩ => ⟨S4096x1792, .f32⟩
  | .hbm, ⟨5, _⟩ => ⟨S4096x1024, .f32⟩
  | .hbm, ⟨6, _⟩ => ⟨S4096x1792, .bf16⟩
  | .hbm, ⟨7, _⟩ => ⟨S_, .bf16⟩
  | .hbm, ⟨8, _⟩ => ⟨S128x256, .bf16⟩
  | .hbm, ⟨9, _⟩ => ⟨S4096x256, .bf16⟩
  | .hbm, ⟨10, _⟩ => ⟨S_, .bf16⟩
  | .hbm, ⟨11, _⟩ => ⟨S384x256, .bf16⟩
  | .hbm, ⟨12, _⟩ => ⟨S4608x256, .bf16⟩
  | .hbm, ⟨13, _⟩ => ⟨S4096x512, .bf16⟩
  | .hbm, ⟨14, _⟩ => ⟨S4096x1024, .bf16⟩
  | .hbm, ⟨15, _⟩ => ⟨S1792x1024, .f32⟩
  | .hbm, ⟨16, _⟩ => ⟨S1792x1024, .bf16⟩
  | .hbm, ⟨17, _⟩ => ⟨S4096x1024, .f32⟩
  | .hbm, ⟨18, _⟩ => ⟨S1792x1024, .f32⟩
  | .hbm, ⟨19, _⟩ => ⟨S1x1024, .f32⟩
  | .hbm, ⟨20, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | .local _ .vmem, ⟨17, _⟩ => ⟨S1x1024, .f32⟩
  | .local _ .vmem, ⟨18, _⟩ => ⟨S1792x1024, .bf16⟩
  | .local _ .vmem, ⟨19, _⟩ => ⟨S512x1024, .f32⟩
  | .local _ .vmem, ⟨20, _⟩ => ⟨S512x1024, .f32⟩
  | .local _ .vmem, ⟨21, _⟩ => ⟨S1792x1024, .f32⟩
  | .local _ .vmem, ⟨22, _⟩ => ⟨S1x1024, .f32⟩
  | .local _ .vmem, ⟨23, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem14_0 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let v0 : BitVec 32 := Scalar.muli arg0 c4_i32
  let c0_i32 : BitVec 32 := 0#32
  let v1 : BitVec 32 := Scalar.addi v0 c0_i32
  let c1_i32 : BitVec 32 := 1#32
  let v2 : BitVec 32 := Scalar.addi v1 c1_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.addi v0 c1_i32
  let c1_i32_0 : BitVec 32 := 1#32
  let v2 : BitVec 32 := Scalar.addi v1 c1_i32_0
  let c0_i32 : BitVec 32 := 0#32
  let c0_i32_1 : BitVec 32 := 0#32
  ![v2.toNat, c0_i32.toNat]

def cc0_transform_3 (i : grid0.Coords) : Fin 2 → Nat :=
  let arg0 : BitVec 32 := BitVec.ofNat 32 (i 0).val
  let c4_i32 : BitVec 32 := 4#32
  let v0 : BitVec 32 := Scalar.muli arg0 c4_i32
  let c2_i32 : BitVec 32 := 2#32
  let v1 : BitVec 32 := Scalar.addi v0 c2_i32
  let c1_i32 : BitVec 32 := 1#32
  let v2 : BitVec 32 := Scalar.addi v1 c1_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c4_i32 : BitVec 32 := 4#32
  let v0 : BitVec 32 := Scalar.muli arg0 c4_i32
  let c3_i32 : BitVec 32 := 3#32
  let v1 : BitVec 32 := Scalar.addi v0 c3_i32
  let c1_i32 : BitVec 32 := 1#32
  let v2 : BitVec 32 := Scalar.addi v1 c1_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1792x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1792x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== InProjRefIdeal.lean ====
abbrev S4096x1024 : Shape := ⟨2, ![4096, 1024]⟩
abbrev S1x1024 : Shape := ⟨2, ![1, 1024]⟩
abbrev S1024x1792 : Shape := ⟨2, ![1024, 1792]⟩
abbrev S4096x1792 : Shape := ⟨2, ![4096, 1792]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1792x1024 : Shape := ⟨2, ![1792, 1024]⟩

abbrev nBuf : Space → Nat
  | .hbm => 102
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024x1792, .f32⟩
  | .hbm, ⟨4, _⟩ => ⟨S4096x1792, .f32⟩
  | .hbm, ⟨5, _⟩ => ⟨S4096x1024, .f32⟩
  | .hbm, ⟨6, _⟩ => ⟨S1024, .f32⟩
  | .hbm, ⟨7, _⟩ => ⟨S1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S4096x1792, .f32⟩
  | .hbm, ⟨48, _⟩ => ⟨S1792x1024, .f32⟩
  | .hbm, ⟨49, _⟩ => ⟨S1024x1792, .f32⟩
  | .hbm, ⟨50, _⟩ => ⟨S4096x1024, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S_, .f32⟩
  | .hbm, ⟨59, _⟩ => ⟨S1024, .f32⟩
  | .hbm, ⟨60, _⟩ => ⟨S4096x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S1024, .f32⟩
  | .hbm, ⟨68, _⟩ => ⟨S4096x1024, .f32⟩
  | .hbm, ⟨69, _⟩ => ⟨S_, .f32⟩
  | .hbm, ⟨70, _⟩ => ⟨S4096, .f32⟩
  | .hbm, ⟨71, _⟩ => ⟨S4096x1, .f32⟩
  | .hbm, ⟨72, _⟩ => ⟨S4096x1024, .f32⟩
  | .hbm, ⟨73, _⟩ => ⟨S4096x1024, .f32⟩
  | .hbm, ⟨74, _⟩ => ⟨S4096x1, .f32⟩
  | .hbm, ⟨75, _⟩ => ⟨S4096x1024, .f32⟩
  | .hbm, ⟨76, _⟩ => ⟨S_, .f32⟩
  | .hbm, ⟨77, _⟩ => ⟨S4096, .f32⟩
  | .hbm, ⟨78, _⟩ => ⟨S4096x1, .f32⟩
  | .hbm, ⟨79, _⟩ => ⟨S_, .f32⟩
  | .hbm, ⟨80, _⟩ => ⟨S4096x1, .f32⟩
  | .hbm, ⟨81, _⟩ => ⟨S4096x1, .f32⟩
  | .hbm, ⟨82, _⟩ => ⟨S_, .f32⟩
  | .hbm, ⟨83, _⟩ => ⟨S4096, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S_, .f32⟩
  | .hbm, ⟨88, _⟩ => ⟨S4096, .f32⟩
  | .hbm, ⟨89, _⟩ => ⟨S4096x1, .f32⟩
  | .hbm, ⟨90, _⟩ => ⟨S4096x1024, .f32⟩
  | .hbm, ⟨91, _⟩ => ⟨S4096x1, .f32⟩
  | .hbm, ⟨92, _⟩ => ⟨S_, .f32⟩
  | .hbm, ⟨93, _⟩ => ⟨S4096x1, .f32⟩
  | .hbm, ⟨94, _⟩ => ⟨S4096x1, .f32⟩
  | .hbm, ⟨95, _⟩ => ⟨S_, .f32⟩
  | .hbm, ⟨96, _⟩ => ⟨S4096, .f32⟩
  | .hbm, ⟨97, _⟩ => ⟨S4096x1024, .f32⟩
  | .hbm, ⟨98, _⟩ => ⟨S4096x1024, .f32⟩
  | .hbm, ⟨99, _⟩ => ⟨S1x1024, .f32⟩
  | .hbm, ⟨100, _⟩ => ⟨S1x1024, .f32⟩
  | .hbm, ⟨101, _⟩ => ⟨S1792x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_cst_12 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_13 : Ref sig .tc := ⟨.hbm, 76, rfl⟩
abbrev main_v56 : Ref sig .tc := ⟨.hbm, 77, rfl⟩
abbrev main_v57 : Ref sig .tc := ⟨.hbm, 78, rfl⟩
abbrev main_cst_14 : Ref sig .tc := ⟨.hbm, 79, rfl⟩
abbrev main_v58 : Ref sig .tc := ⟨.hbm, 80, rfl⟩
abbrev main_v59 : Ref sig .tc := ⟨.hbm, 81, rfl⟩
abbrev main_cst_15 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_16 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_17 : Ref sig .tc := ⟨.hbm, 92, rfl⟩
abbrev main_v68 : Ref sig .tc := ⟨.hbm, 93, rfl⟩
abbrev main_v69 : Ref sig .tc := ⟨.hbm, 94, rfl⟩
abbrev main_cst_18 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩

abbrev nD : Nat := 1
abbrev τ : Topo := Topo.v7x

variable {F : FTy → Type} [FloatOps F]
-- ==== FfnU.lean ====
abbrev S4096x1024 : Shape := ⟨2, ![4096, 1024]⟩
abbrev S1x1024 : Shape := ⟨2, ![1, 1024]⟩
abbrev S1024x2816 : Shape := ⟨2, ![1024, 2816]⟩
abbrev S4096x2816 : Shape := ⟨2, ![4096, 2816]⟩
abbrev S4096x4x704 : Shape := ⟨3, ![4096, 4, 704]⟩
abbrev S4x4096x704 : Shape := ⟨3, ![4, 4096, 704]⟩
abbrev S2816x1024 : Shape := ⟨2, ![2816, 1024]⟩
abbrev S4x704x1024 : Shape := ⟨3, ![4, 704, 1024]⟩
abbrev S512x1024 : Shape := ⟨2, ![512, 1024]⟩
abbrev S4x512x704 : Shape := ⟨3, ![4, 512, 704]⟩
abbrev S512 : Shape := ⟨1, ![512]⟩
abbrev S512x1 : Shape := ⟨2, ![512, 1]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩
abbrev S1024 : Shape := ⟨1, ![1024]⟩

abbrev nBuf : Space → Nat
  | .hbm => 16
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024x2816, .f32⟩
  | .hbm, ⟨4, _⟩ => ⟨S4096x2816, .f32⟩
  | .hbm, ⟨5, _⟩ => ⟨S4096x1024, .f32⟩
  | .hbm, ⟨6, _⟩ => ⟨S4096x4x704, .f32⟩
  | .hbm, ⟨7, _⟩ => ⟨S4x4096x704, .f32⟩
  | .hbm, ⟨8, _⟩ => ⟨S4x4096x704, .bf16⟩
  | .hbm, ⟨9, _⟩ => ⟨S2816x1024, .f32⟩
  | .hbm, ⟨10, _⟩ => ⟨S4x704x1024, .f32⟩
  | .hbm, ⟨11, _⟩ => ⟨S4x704x1024, .bf16⟩
  | .hbm, ⟨12, _⟩ => ⟨S4096x1024, .f32⟩
  | .hbm, ⟨13, _⟩ => ⟨S2816x1024, .f32⟩
  | .hbm, ⟨14, _⟩ => ⟨S1x1024, .f32⟩
  | .hbm, ⟨15, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S4x512x704, .bf16⟩
  | .local _ .vmem, ⟨3, _⟩ => ⟨S4x512x704, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S4x704x1024, .bf16⟩
  | .local _ .vmem, ⟨9, _⟩ => ⟨S512x1024, .f32⟩
  | .local _ .vmem, ⟨10, _⟩ => ⟨S512x1024, .f32⟩
  | .local _ .vmem, ⟨11, _⟩ => ⟨S2816x1024, .f32⟩
  | .local _ .vmem, ⟨12, _⟩ => ⟨S1x1024, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2816x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== FfnURefIdeal.lean ====
abbrev S4096x1024 : Shape := ⟨2, ![4096, 1024]⟩
abbrev S1x1024 : Shape := ⟨2, ![1, 1024]⟩
abbrev S1024x2816 : Shape := ⟨2, ![1024, 2816]⟩
abbrev S4096x2816 : Shape := ⟨2, ![4096, 2816]⟩
abbrev S1024 : Shape := ⟨1, ![1024]⟩
abbrev S_ : Shape := ⟨0, ![]⟩
abbrev S4096 : Shape := ⟨1, ![4096]⟩
abbrev S4096x1 : Shape := ⟨2, ![4096, 1]⟩
abbrev S2816x1024 : Shape := ⟨2, ![2816, 1024]⟩

abbrev nBuf : Space → Nat
  | .hbm => 97
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024x2816, .f32⟩
  | .hbm, ⟨4, _⟩ => ⟨S4096x2816, .f32⟩
  | .hbm, ⟨5, _⟩ => ⟨S4096x1024, .f32⟩
  | .hbm, ⟨6, _⟩ => ⟨S1024, .f32⟩
  | .hbm, ⟨7, _⟩ => ⟨S1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S4096x2816, .f32⟩
  | .hbm, ⟨45, _⟩ => ⟨S2816x1024, .f32⟩
  | .hbm, ⟨46, _⟩ => ⟨S1024x2816, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S_, .f32⟩
  | .hbm, ⟨54, _⟩ => ⟨S1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S1024, .f32⟩
  | .hbm, ⟨63, _⟩ => ⟨S4096x1024, .f32⟩
  | .hbm, ⟨64, _⟩ => ⟨S_, .f32⟩
  | .hbm, ⟨65, _⟩ => ⟨S4096, .f32⟩
  | .hbm, ⟨66, _⟩ => ⟨S4096x1, .f32⟩
  | .hbm, ⟨67, _⟩ => ⟨S4096x1024, .f32⟩
  | .hbm, ⟨68, _⟩ => ⟨S4096x1024, .f32⟩
  | .hbm, ⟨69, _⟩ => ⟨S4096x1, .f32⟩
  | .hbm, ⟨70, _⟩ => ⟨S4096x1024, .f32⟩
  | .hbm, ⟨71, _⟩ => ⟨S_, .f32⟩
  | .hbm, ⟨72, _⟩ => ⟨S4096, .f32⟩
  | .hbm, ⟨73, _⟩ => ⟨S4096x1, .f32⟩
  | .hbm, ⟨74, _⟩ => ⟨S_, .f32⟩
  | .hbm, ⟨75, _⟩ => ⟨S4096x1, .f32⟩
  | .hbm, ⟨76, _⟩ => ⟨S4096x1, .f32⟩
  | .hbm, ⟨77, _⟩ => ⟨S_, .f32⟩
  | .hbm, ⟨78, _⟩ => ⟨S4096, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S4096, .f32⟩
  | .hbm, ⟨84, _⟩ => ⟨S4096x1, .f32⟩
  | .hbm, ⟨85, _⟩ => ⟨S4096x1024, .f32⟩
  | .hbm, ⟨86, _⟩ => ⟨S4096x1, .f32⟩
  | .hbm, ⟨87, _⟩ => ⟨S_, .f32⟩
  | .hbm, ⟨88, _⟩ => ⟨S4096x1, .f32⟩
  | .hbm, ⟨89, _⟩ => ⟨S4096x1, .f32⟩
  | .hbm, ⟨90, _⟩ => ⟨S_, .f32⟩
  | .hbm, ⟨91, _⟩ => ⟨S4096, .f32⟩
  | .hbm, ⟨92, _⟩ => ⟨S4096x1024, .f32⟩
  | .hbm, ⟨93, _⟩ => ⟨S4096x1024, .f32⟩
  | .hbm, ⟨94, _⟩ => ⟨S1x1024, .f32⟩
  | .hbm, ⟨95, _⟩ => ⟨S1x1024, .f32⟩
  | .hbm, ⟨96, _⟩ => ⟨S2816x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_11 : Ref sig .tc := ⟨.hbm, 71, rfl⟩
abbrev main_v53 : Ref sig .tc := ⟨.hbm, 72, rfl⟩
abbrev main_v54 : Ref sig .tc := ⟨.hbm, 73, rfl⟩
abbrev main_cst_12 : Ref sig .tc := ⟨.hbm, 74, rfl⟩
abbrev main_v55 : Ref sig .tc := ⟨.hbm, 75, rfl⟩
abbrev main_v56 : Ref sig .tc := ⟨.hbm, 76, rfl⟩
abbrev main_cst_13 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_14 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_15 : Ref sig .tc := ⟨.hbm, 87, rfl⟩
abbrev main_v65 : Ref sig .tc := ⟨.hbm, 88, rfl⟩
abbrev main_v66 : Ref sig .tc := ⟨.hbm, 89, rfl⟩
abbrev main_cst_16 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩

abbrev nD : Nat := 1
abbrev τ : Topo := Topo.v7x

variable {F : FTy → Type} [FloatOps F]
-- ==== FfnA.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩
abbrev S4096x4x704 : Shape := ⟨3, ![4096, 4, 704]⟩
abbrev S4x4096x704 : Shape := ⟨3, ![4, 4096, 704]⟩
abbrev S4x704x1024 : Shape := ⟨3, ![4, 704, 1024]⟩
abbrev S512x1024 : Shape := ⟨2, ![512, 1024]⟩
abbrev S4x512x704 : Shape := ⟨3, ![4, 512, 704]⟩
abbrev S1x704x1024 : Shape := ⟨3, ![1, 704, 1024]⟩
abbrev S704x1024 : Shape := ⟨2, ![704, 1024]⟩
abbrev S512x704 : Shape := ⟨2, ![512, 704]⟩
abbrev S1x512x704 : Shape := ⟨3, ![1, 512, 704]⟩

abbrev nBuf : Space → Nat
  | .hbm => 37
  | .vmem => 14
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S2816x1024, .f32⟩
  | .hbm, ⟨3, _⟩ => ⟨S4096x1024, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S_, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x4x704, .f32⟩
  | .hbm, ⟨24, _⟩ => ⟨S4x4096x704, .f32⟩
  | .hbm, ⟨25, _⟩ => ⟨S4x4096x704, .bf16⟩
  | .hbm, ⟨26, _⟩ => ⟨S4096x4x704, .f32⟩
  | .hbm, ⟨27, _⟩ => ⟨S4x4096x704, .f32⟩
  | .hbm, ⟨28, _⟩ => ⟨S4x4096x704, .bf16⟩
  | .hbm, ⟨29, _⟩ => ⟨S4096x4x704, .f32⟩
  | .hbm, ⟨30, _⟩ => ⟨S4x4096x704, .f32⟩
  | .hbm, ⟨31, _⟩ => ⟨S4x4096x704, .bf16⟩
  | .hbm, ⟨32, _⟩ => ⟨S4x704x1024, .f32⟩
  | .hbm, ⟨33, _⟩ => ⟨S4x704x1024, .bf16⟩
  | .hbm, ⟨34, _⟩ => ⟨S4x4096x704, .bf16⟩
  | .hbm, ⟨35, _⟩ => ⟨S4x4096x704, .bf16⟩
  | .hbm, ⟨36, _⟩ => ⟨S2816x1024, .f32⟩
  | .local _ .vmem, ⟨0, _⟩ => ⟨S512x1024, .f32⟩
  | .local _ .vmem, ⟨1, _⟩ => ⟨S512x1024, .f32⟩
  | .local _ .vmem, ⟨2, _⟩ => ⟨S4x512x704, .bf16⟩
  | .local _ .vmem, ⟨3, _⟩ => ⟨S4x512x704, .bf16⟩
  | .local _ .vmem, ⟨4, _⟩ => ⟨S4x512x704, .bf16⟩
  | .local _ .vmem, ⟨5, _⟩ => ⟨S4x512x704, .bf16⟩
  | .local _ .vmem, ⟨6, _⟩ => ⟨S4x512x704, .bf16⟩
  | .local _ .vmem, ⟨7, _⟩ => ⟨S4x512x704, .bf16⟩
  | .local _ .vmem, ⟨8, _⟩ => ⟨S4x704x1024, .bf16⟩
  | .local _ .vmem, ⟨9, _⟩ => ⟨S4x512x704, .bf16⟩
  | .local _ .vmem, ⟨10, _⟩ => ⟨S4x512x704, .bf16⟩
  | .local _ .vmem, ⟨11, _⟩ => ⟨S4x512x704, .bf16⟩
  | .local _ .vmem, ⟨12, _⟩ => ⟨S4x512x704, .bf16⟩
  | .local _ .vmem, ⟨13, _⟩ => ⟨S2816x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26_0 : Ref sig .tc := ⟨.hbm, 34, rfl⟩
abbrev main_v26_1 : Ref sig .tc := ⟨.hbm, 35, rfl⟩
abbrev main_v26_2 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2816x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== FfnARefIdeal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩
abbrev S1024x2816 : Shape := ⟨2, ![1024, 2816]⟩
abbrev S4096x4x704 : Shape := ⟨3, ![4096, 4, 704]⟩
abbrev S4x4096x704 : Shape := ⟨3, ![4, 4096, 704]⟩

abbrev nBuf : Space → Nat
  | .hbm => 34
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S2816x1024, .f32⟩
  | .hbm, ⟨3, _⟩ => ⟨S4096x1024, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x1024, .f32⟩
  | .hbm, ⟨19, _⟩ => ⟨S1024x2816, .f32⟩
  | .hbm, ⟨20, _⟩ => ⟨S2816x1024, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x4x704, .f32⟩
  | .hbm, ⟨29, _⟩ => ⟨S4x4096x704, .f32⟩
  | .hbm, ⟨30, _⟩ => ⟨S4x4096x704, .bf16⟩
  | .hbm, ⟨31, _⟩ => ⟨S4096x4x704, .f32⟩
  | .hbm, ⟨32, _⟩ => ⟨S4x4096x704, .f32⟩
  | .hbm, ⟨33, _⟩ => ⟨S4x4096x704, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩

abbrev nD : Nat := 1
abbrev τ : Topo := Topo.v7x

variable {F : FTy → Type} [FloatOps F]
-- ==== FfnG.lean ====
abbrev S4096x1024 : Shape := ⟨2, ![4096, 1024]⟩
abbrev S1x1024 : Shape := ⟨2, ![1, 1024]⟩
abbrev S1024x2816 : Shape := ⟨2, ![1024, 2816]⟩
abbrev S4096x2816 : Shape := ⟨2, ![4096, 2816]⟩
abbrev S2816x1024 : Shape := ⟨2, ![2816, 1024]⟩
abbrev S4x704x1024 : Shape := ⟨3, ![4, 704, 1024]⟩
abbrev S4096x4x704 : Shape := ⟨3, ![4096, 4, 704]⟩
abbrev S4x4096x704 : Shape := ⟨3, ![4, 4096, 704]⟩
abbrev S512x1024 : Shape := ⟨2, ![512, 1024]⟩
abbrev S4x512x704 : Shape := ⟨3, ![4, 512, 704]⟩
abbrev S512 : Shape := ⟨1, ![512]⟩
abbrev S512x1 : Shape := ⟨2, ![512, 1]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩

abbrev nBuf : Space → Nat
  | .hbm => 14
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024x2816, .f32⟩
  | .hbm, ⟨4, _⟩ => ⟨S4096x2816, .f32⟩
  | .hbm, ⟨5, _⟩ => ⟨S4096x1024, .f32⟩
  | .hbm, ⟨6, _⟩ => ⟨S2816x1024, .f32⟩
  | .hbm, ⟨7, _⟩ => ⟨S4x704x1024, .f32⟩
  | .hbm, ⟨8, _⟩ => ⟨S4x704x1024, .bf16⟩
  | .hbm, ⟨9, _⟩ => ⟨S4096x4x704, .f32⟩
  | .hbm, ⟨10, _⟩ => ⟨S4x4096x704, .f32⟩
  | .hbm, ⟨11, _⟩ => ⟨S4x4096x704, .bf16⟩
  | .hbm, ⟨12, _⟩ => ⟨S4096x1024, .f32⟩
  | .hbm, ⟨13, _⟩ => ⟨S2816x1024, .f32⟩
  | .local _ .vmem, ⟨0, _⟩ => ⟨S512x1024, .f32⟩
  | .local _ .vmem, ⟨1, _⟩ => ⟨S512x1024, .f32⟩
  | .local _ .vmem, ⟨2, _⟩ => ⟨S4x512x704, .bf16⟩
  | .local _ .vmem, ⟨3, _⟩ => ⟨S4x512x704, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S4x704x1024, .bf16⟩
  | .local _ .vmem, ⟨9, _⟩ => ⟨S512x1024, .f32⟩
  | .local _ .vmem, ⟨10, _⟩ => ⟨S512x1024, .f32⟩
  | .local _ .vmem, ⟨11, _⟩ => ⟨S2816x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2816x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== FfnGRefIdeal.lean ====
abbrev S4096x1024 : Shape := ⟨2, ![4096, 1024]⟩
abbrev S1x1024 : Shape := ⟨2, ![1, 1024]⟩
abbrev S1024x2816 : Shape := ⟨2, ![1024, 2816]⟩
abbrev S4096x2816 : Shape := ⟨2, ![4096, 2816]⟩
abbrev S1024 : Shape := ⟨1, ![1024]⟩
abbrev S_ : Shape := ⟨0, ![]⟩
abbrev S4096 : Shape := ⟨1, ![4096]⟩
abbrev S4096x1 : Shape := ⟨2, ![4096, 1]⟩
abbrev S2816x1024 : Shape := ⟨2, ![2816, 1024]⟩

abbrev nBuf : Space → Nat
  | .hbm => 49
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024x2816, .f32⟩
  | .hbm, ⟨4, _⟩ => ⟨S4096x2816, .f32⟩
  | .hbm, ⟨5, _⟩ => ⟨S4096x1024, .f32⟩
  | .hbm, ⟨6, _⟩ => ⟨S1024, .f32⟩
  | .hbm, ⟨7, _⟩ => ⟨S1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S4096x2816, .f32⟩
  | .hbm, ⟨41, _⟩ => ⟨S2816x1024, .f32⟩
  | .hbm, ⟨42, _⟩ => ⟨S1024x2816, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S2816x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== OutProj.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩

abbrev nBuf : Space → Nat
  | .hbm => 9
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024, .f32⟩
  | .hbm, ⟨3, _⟩ => ⟨S4096x1024, .f32⟩
  | .hbm, ⟨4, _⟩ => ⟨S4096x1024, .bf16⟩
  | .hbm, ⟨5, _⟩ => ⟨S1024x1024, .bf16⟩
  | .hbm, ⟨6, _⟩ => ⟨S4096x1024, .f32⟩
  | .hbm, ⟨7, _⟩ => ⟨S1x1024, .f32⟩
  | .hbm, ⟨8, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== OutProjRefIdeal.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024, .f32⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S_, .f32⟩
  | .hbm, ⟨13, _⟩ => ⟨S1024, .f32⟩
  | .hbm, ⟨14, _⟩ => ⟨S1024x1024, .f32⟩
  | .hbm, ⟨15, _⟩ => ⟨S1024x1024, .f32⟩
  | .hbm, ⟨16, _⟩ => ⟨S4096x1024, .f32⟩
  | .hbm, ⟨17, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== MixFwd.lean ====
abbrev S1x4096x8x64 : Shape := ⟨4, ![1, 4096, 8, 64]⟩
abbrev S1x4096x2x64 : Shape := ⟨4, ![1, 4096, 2, 64]⟩
abbrev S1x4096x512 : Shape := ⟨3, ![1, 4096, 512]⟩
abbrev S8 : Shape := ⟨1, ![8]⟩
abbrev S512 : Shape := ⟨1, ![512]⟩
abbrev S4x128x128 : Shape := ⟨3, ![4, 128, 128]⟩
abbrev S4x128 : Shape := ⟨2, ![4, 128]⟩
abbrev S4096x512 : Shape := ⟨2, ![4096, 512]⟩
abbrev S_ : Shape := ⟨0, ![]⟩
abbrev S4096x128 : Shape := ⟨2, ![4096, 128]⟩
abbrev S1x512 : Shape := ⟨2, ![1, 512]⟩
abbrev S128x4 : Shape := ⟨2, ![128, 4]⟩
abbrev S4096x1024 : Shape := ⟨2, ![4096, 1024]⟩
abbrev S256x512 : Shape := ⟨2, ![256, 512]⟩
abbrev S256x128 : Shape := ⟨2, ![256, 128]⟩
abbrev S128x128 : Shape := ⟨2, ![128, 128]⟩
abbrev S256x1024 : Shape := ⟨2, ![256, 1024]⟩
abbrev S128x512 : Shape := ⟨2, ![128, 512]⟩
abbrev S256x64 : Shape := ⟨2, ![256, 64]⟩
abbrev S128x64 : Shape := ⟨2, ![128, 64]⟩
abbrev S512x64 : Shape := ⟨2, ![512, 64]⟩
abbrev S1 : Shape := ⟨1, ![1]⟩
abbrev S1x128 : Shape := ⟨2, ![1, 128]⟩
abbrev S128 : Shape := ⟨1, ![128]⟩
abbrev S128x1 : Shape := ⟨2, ![128, 1]⟩
abbrev S1x128x128 : Shape := ⟨3, ![1, 128, 128]⟩
abbrev S128x1024 : Shape := ⟨2, ![128, 1024]⟩

abbrev nBuf : Space → Nat
  | .hbm => 25
  | .vmem => 20
  | .smem => 1
  | _ => 0

abbrev bufTy : (tb : Table) → Fin (tcTables nBuf tb) → BufTy
  | .hbm, ⟨0, _⟩ => ⟨S1x4096x8x64, .f32⟩
  | .hbm, ⟨1, _⟩ => ⟨S1x4096x2x64, .f32⟩
  | .hbm, ⟨2, _⟩ => ⟨S1x4096x2x64, .f32⟩
  | .hbm, ⟨3, _⟩ => ⟨S1x4096x512, .f32⟩
  | .hbm, ⟨4, _⟩ => ⟨S1x4096x512, .f32⟩
  | .hbm, ⟨5, _⟩ => ⟨S8, .f32⟩
  | .hbm, ⟨6, _⟩ => ⟨S512, .f32⟩
  | .hbm, ⟨7, _⟩ => ⟨S512, .f32⟩
  | .hbm, ⟨8, _⟩ => ⟨S4x128x128, .f32⟩
  | .hbm, ⟨9, _⟩ => ⟨S4x128, .f32⟩
  | .hbm, ⟨10, _⟩ => ⟨S4096x512, .f32⟩
  | .hbm, ⟨11, _⟩ => ⟨S_, .f32⟩
  | .hbm, ⟨12, _⟩ => ⟨S4096x512, .f32⟩
  | .hbm, ⟨13, _⟩ => ⟨S4096x512, .f32⟩
  | .hbm, ⟨14, _⟩ => ⟨S4096x512, .bf16⟩
  | .hbm, ⟨15, _⟩ => ⟨S4096x128, .f32⟩
  | .hbm, ⟨16, _⟩ => ⟨S4096x128, .bf16⟩
  | .hbm, ⟨17, _⟩ => ⟨S4096x128, .f32⟩
  | .hbm, ⟨18, _⟩ => ⟨S4096x128, .bf16⟩
  | .hbm, ⟨19, _⟩ => ⟨S4096x512, .f32⟩
  | .hbm, ⟨20, _⟩ => ⟨S4096x512, .f32⟩
  | .hbm, ⟨21, _⟩ => ⟨S1x512, .f32⟩
  | .hbm, ⟨22, _⟩ => ⟨S1x512, .f32⟩
  | .hbm, ⟨23, _⟩ => ⟨S128x4, .f32⟩
  | .hbm, ⟨24, _⟩ => ⟨S4096x1024, .bf16⟩
  | .local _ .vmem, ⟨0, _⟩ => ⟨S256x512, .bf16⟩
  | .local _ .vmem, ⟨1, _⟩ => ⟨S256x512, .bf16⟩
  | .local _ .vmem, ⟨2, _⟩ => ⟨S256x128, .bf16⟩
  | .local _ .vmem, ⟨3, _⟩ => ⟨S256x128, .bf16⟩
  | .local _ .vmem, ⟨4, _⟩ => ⟨S128x128, .bf16⟩
  | .local _ .vmem, ⟨5, _⟩ => ⟨S128x128, .bf16⟩
  | .local _ .vmem, ⟨6, _⟩ => ⟨S256x128, .bf16⟩
  | .local _ .vmem, ⟨7, _⟩ => ⟨S256x128, .bf16⟩
  | .local _ .vmem, ⟨8, _⟩ => ⟨S128x128, .bf16⟩
  | .local _ .vmem, ⟨9, _⟩ => ⟨S128x128, .bf16⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S1x512, .f32⟩
  | .local _ .vmem, ⟨15, _⟩ => ⟨S1x512, .f32⟩
  | .local _ .vmem, ⟨16, _⟩ => ⟨S4x128x128, .f32⟩
  | .local _ .vmem, ⟨17, _⟩ => ⟨S128x4, .f32⟩
  | .local _ .vmem, ⟨18, _⟩ => ⟨S256x1024, .bf16⟩
  | .local _ .vmem, ⟨19, _⟩ => ⟨S256x1024, .bf16⟩
  | .local _ .smem, ⟨0, _⟩ => ⟨S8, .f32⟩
  | _, _ => ⟨S1x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg7_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .smem S8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x4 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MixFwdIdeal.lean ====
variable {F : FTy → Type} [FloatOps F] [Named F]
def κ : String → Option EReal := fun
  | "mask" => some ⊥
  | _ => none
-- ==== MixFwdRefIdeal.lean ====
abbrev S1x4096x8x64 : Shape := ⟨4, ![1, 4096, 8, 64]⟩
abbrev S1x4096x2x64 : Shape := ⟨4, ![1, 4096, 2, 64]⟩
abbrev S1x4096x512 : Shape := ⟨3, ![1, 4096, 512]⟩
abbrev S8 : Shape := ⟨1, ![8]⟩
abbrev S512 : Shape := ⟨1, ![512]⟩
abbrev S4x128x128 : Shape := ⟨3, ![4, 128, 128]⟩
abbrev S4x128 : Shape := ⟨2, ![4, 128]⟩
abbrev S1x32x128x2x4x64 : Shape := ⟨6, ![1, 32, 128, 2, 4, 64]⟩
abbrev S1x32x128x2x64 : Shape := ⟨5, ![1, 32, 128, 2, 64]⟩
abbrev S1x1x128x2x64 : Shape := ⟨5, ![1, 1, 128, 2, 64]⟩
abbrev S_ : Shape := ⟨0, ![]⟩
abbrev S1x31x128x2x64 : Shape := ⟨5, ![1, 31, 128, 2, 64]⟩
abbrev S1x32x256x2x64 : Shape := ⟨5, ![1, 32, 256, 2, 64]⟩
abbrev S1x32x2x256x128x4 : Shape := ⟨6, ![1, 32, 2, 256, 128, 4]⟩
abbrev S1x32x2x4x128x256 : Shape := ⟨6, ![1, 32, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1x32x1x1x128x256 : Shape := ⟨6, ![1, 32, 1, 1, 128, 256]⟩
abbrev S2x4 : Shape := ⟨2, ![2, 4]⟩
abbrev S1x1x2x4x1x1 : Shape := ⟨6, ![1, 1, 2, 4, 1, 1]⟩
abbrev S1x32x2x4x128x1 : Shape := ⟨6, ![1, 32, 2, 4, 128, 1]⟩
abbrev S1x32x2x4x128x257 : Shape := ⟨6, ![1, 32, 2, 4, 128, 257]⟩
abbrev S1x32x2x4x128 : Shape := ⟨5, ![1, 32, 2, 4, 128]⟩
abbrev S1x32x2x64x4x128 : Shape := ⟨6, ![1, 32, 2, 64, 4, 128]⟩
abbrev S1x4096 : Shape := ⟨2, ![1, 4096]⟩
abbrev S1x4096x1 : Shape := ⟨3, ![1, 4096, 1]⟩
abbrev S1x1x512 : Shape := ⟨3, ![1, 1, 512]⟩
abbrev S1x32x128x4x128 : Shape := ⟨5, ![1, 32, 128, 4, 128]⟩
abbrev S128x128 : Shape := ⟨2, ![128, 128]⟩
abbrev S1x128x128 : Shape := ⟨3, ![1, 128, 128]⟩
abbrev S4x1x32x128x128 : Shape := ⟨5, ![4, 1, 32, 128, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S1x4096x1024 : Shape := ⟨3, ![1, 4096, 1024]⟩
abbrev S4096x1024 : Shape := ⟨2, ![4096, 1024]⟩

abbrev nBuf : Space → Nat
  | .hbm => 168
  | .vmem => 0
  | .smem => 0
  | _ => 0

abbrev hbmTy0_0 (i : Nat) : BufTy := match i % 128 with
  | 0 => ⟨S1x4096x8x64, .f32⟩
  | 1 => ⟨S1x4096x2x64, .f32⟩
  | 2 => ⟨S1x4096x2x64, .f32⟩
  | 3 => ⟨S1x4096x512, .f32⟩
  | 4 => ⟨S1x4096x512, .f32⟩
  | 5 => ⟨S8, .f32⟩
  | 6 => ⟨S512, .f32⟩
  | 7 => ⟨S512, .f32⟩
  | 8 => ⟨S4x128x128, .f32⟩
  | 9 => ⟨S4x128, .f32⟩
  | 10 => ⟨S1x32x128x2x4x64, .f32⟩
  | 11 => ⟨S1x32x128x2x64, .f32⟩
  | 12 => ⟨S1x1x128x2x64, .f32⟩
  | 13 => ⟨S_, .f32⟩
  | 14 => ⟨S1x1x128x2x64, .f32⟩
  | 15 => ⟨S1x31x128x2x64, .f32⟩
  | 16 => ⟨S1x32x128x2x64, .f32⟩
  | 17 => ⟨S1x32x256x2x64, .f32⟩
  | 18 => ⟨S1x32x128x2x64, .f32⟩
  | 19 => ⟨S1x1x128x2x64, .f32⟩
  | 20 => ⟨S_, .f32⟩
  | 21 => ⟨S1x1x128x2x64, .f32⟩
  | 22 => ⟨S1x31x128x2x64, .f32⟩
  | 23 => ⟨S1x32x128x2x64, .f32⟩
  | 24 => ⟨S1x32x256x2x64, .f32⟩
  | 25 => ⟨S1x32x2x256x128x4, .f32⟩
  | 26 => ⟨S1x32x2x4x128x256, .f32⟩
  | 27 => ⟨S_, .f32⟩
  | 28 => ⟨S1x32x2x4x128x256, .f32⟩
  | 29 => ⟨S1x32x2x4x128x256, .f32⟩
  | 30 => ⟨S128, .i32⟩
  | 31 => ⟨S128x1, .i32⟩
  | 32 => ⟨S256, .i32⟩
  | 33 => ⟨S1x256, .i32⟩
  | 34 => ⟨S_, .i32⟩
  | 35 => ⟨S128x1, .i32⟩
  | 36 => ⟨S128x1, .i32⟩
  | 37 => ⟨S128x256, .i32⟩
  | 38 => ⟨S128x256, .i32⟩
  | 39 => ⟨S128x256, .i32⟩
  | 40 => ⟨S32, .i32⟩
  | 41 => ⟨S32x1x1, .i32⟩
  | 42 => ⟨S_, .i32⟩
  | 43 => ⟨S32x1x1, .i32⟩
  | 44 => ⟨S32x1x1, .i32⟩
  | 45 => ⟨S1x1x256, .i32⟩
  | 46 => ⟨S32x1x256, .i32⟩
  | 47 => ⟨S32x1x256, .i32⟩
  | 48 => ⟨S32x1x256, .i32⟩
  | 49 => ⟨S_, .i32⟩
  | 50 => ⟨S32x1x256, .i32⟩
  | 51 => ⟨S32x1x256, .i32⟩
  | 52 => ⟨S_, .i32⟩
  | 53 => ⟨S128x256, .i32⟩
  | 54 => ⟨S128x256, .i1⟩
  | 55 => ⟨S_, .i32⟩
  | 56 => ⟨S128x256, .i32⟩
  | 57 => ⟨S128x256, .i1⟩
  | 58 => ⟨S128x256, .i1⟩
  | 59 => ⟨S_, .i32⟩
  | 60 => ⟨S32x1x256, .i32⟩
  | 61 => ⟨S32x1x256, .i1⟩
  | 62 => ⟨S1x128x256, .i1⟩
  | 63 => ⟨S32x128x256, .i1⟩
  | 64 => ⟨S32x128x256, .i1⟩
  | 65 => ⟨S32x128x256, .i1⟩
  | 66 => ⟨S1x32x1x1x128x256, .i1⟩
  | 67 => ⟨S_, .f32⟩
  | 68 => ⟨S_, .f32⟩
  | 69 => ⟨S1x32x2x4x128x256, .i1⟩
  | 70 => ⟨S1x32x2x4x128x256, .f32⟩
  | 71 => ⟨S1x32x2x4x128x256, .f32⟩
  | 72 => ⟨S2x4, .f32⟩
  | 73 => ⟨S1x1x2x4x1x1, .f32⟩
  | 74 => ⟨S1x32x2x4x128x1, .f32⟩
  | 75 => ⟨S1x32x2x4x128x257, .f32⟩
  | 76 => ⟨S_, .f32⟩
  | 77 => ⟨S1x32x2x4x128, .f32⟩
  | 78 => ⟨S_, .f32⟩
  | 79 => ⟨S1x32x2x4x128, .f32⟩
  | 80 => ⟨S1x32x2x4x128, .f32⟩
  | 81 => ⟨S1x32x2x4x128x1, .f32⟩
  | 82 => ⟨S1x32x2x4x128x257, .f32⟩
  | 83 => ⟨S1x32x2x4x128x257, .f32⟩
  | 84 => ⟨S1x32x2x4x128x257, .f32⟩
  | 85 => ⟨S_, .f32⟩
  | 86 => ⟨S1x32x2x4x128, .f32⟩
  | 87 => ⟨S1x32x2x4x128x1, .f32⟩
  | 88 => ⟨S1x32x2x4x128x257, .f32⟩
  | 89 => ⟨S1x32x2x4x128x257, .f32⟩
  | 90 => ⟨S1x32x2x4x128x256, .f32⟩
  | 91 => ⟨S1x32x2x64x4x128, .f32⟩
  | 92 => ⟨S1x32x128x2x4x64, .f32⟩
  | 93 => ⟨S1x4096x512, .f32⟩
  | 94 => ⟨S_, .f32⟩
  | 95 => ⟨S1x4096x512, .f32⟩
  | 96 => ⟨S1x4096x512, .f32⟩
  | 97 => ⟨S1x4096x512, .f32⟩
  | 98 => ⟨S_, .f32⟩
  | 99 => ⟨S1x4096x512, .f32⟩
  | 100 => ⟨S1x4096x512, .f32⟩
  | 101 => ⟨S1x4096x512, .f32⟩
  | 102 => ⟨S1x4096x512, .f32⟩
  | 103 => ⟨S_, .f32⟩
  | 104 => ⟨S1x4096x512, .f32⟩
  | 105 => ⟨S1x4096x512, .f32⟩
  | 106 => ⟨S1x4096x512, .f32⟩
  | 107 => ⟨S_, .f32⟩
  | 108 => ⟨S1x4096x512, .f32⟩
  | 109 => ⟨S1x4096x512, .f32⟩
  | 110 => ⟨S1x4096x512, .f32⟩
  | 111 => ⟨S1x4096x512, .f32⟩
  | 112 => ⟨S_, .f32⟩
  | 113 => ⟨S1x4096, .f32⟩
  | 114 => ⟨S1x4096x1, .f32⟩
  | 115 => ⟨S_, .f32⟩
  | 116 => ⟨S1x4096x1, .f32⟩
  | 117 => ⟨S1x4096x1, .f32⟩
  | 118 => ⟨S1x4096x512, .f32⟩
  | 119 => ⟨S1x4096x512, .f32⟩
  | 120 => ⟨S1x4096x512, .f32⟩
  | 121 => ⟨S_, .f32⟩
  | 122 => ⟨S1x4096, .f32⟩
  | 123 => ⟨S1x4096x1, .f32⟩
  | 124 => ⟨S_, .f32⟩
  | 125 => ⟨S1x4096x1, .f32⟩
  | 126 => ⟨S1x4096x1, .f32⟩
  | 127 => ⟨S1x4096x512, .f32⟩
  | _ => ⟨S1x4096x8x64, .f32⟩

abbrev hbmTy0_1 (i : Nat) : BufTy := match i % 128 with
  | 0 => ⟨S1x4096x512, .f32⟩
  | 1 => ⟨S_, .f32⟩
  | 2 => ⟨S1x4096x1, .f32⟩
  | 3 => ⟨S1x4096x1, .f32⟩
  | 4 => ⟨S1x4096x1, .f32⟩
  | 5 => ⟨S1x4096x512, .f32⟩
  | 6 => ⟨S1x4096x512, .f32⟩
  | 7 => ⟨S1x1x512, .f32⟩
  | 8 => ⟨S1x4096x512, .f32⟩
  | 9 => ⟨S1x4096x512, .f32⟩
  | 10 => ⟨S1x1x512, .f32⟩
  | 11 => ⟨S1x4096x512, .f32⟩
  | 12 => ⟨S1x4096x512, .f32⟩
  | 13 => ⟨S1x32x128x4x128, .f32⟩
  | 14 => ⟨S_, .f32⟩
  | 15 => ⟨S128x128, .f32⟩
  | 16 => ⟨S128x128, .i32⟩
  | 17 => ⟨S_, .i32⟩
  | 18 => ⟨S128x128, .i32⟩
  | 19 => ⟨S128x128, .i32⟩
  | 20 => ⟨S128x128, .i32⟩
  | 21 => ⟨S128x128, .i1⟩
  | 22 => ⟨S_, .f32⟩
  | 23 => ⟨S128x128, .f32⟩
  | 24 => ⟨S128x128, .f32⟩
  | 25 => ⟨S1x128x128, .f32⟩
  | 26 => ⟨S4x128x128, .f32⟩
  | 27 => ⟨S4x128x128, .f32⟩
  | 28 => ⟨S4x1x32x128x128, .f32⟩
  | 29 => ⟨S1x32x128x4x128, .f32⟩
  | 30 => ⟨S128x4, .f32⟩
  | 31 => ⟨S128x4x1, .f32⟩
  | 32 => ⟨S1x1x128x4x1, .f32⟩
  | 33 => ⟨S1x32x128x4x128, .f32⟩
  | 34 => ⟨S1x32x128x4x128, .f32⟩
  | 35 => ⟨S1x4096x512, .f32⟩
  | 36 => ⟨S1x4096x512, .f32⟩
  | 37 => ⟨S1x4096x1024, .f32⟩
  | 38 => ⟨S4096x1024, .f32⟩
  | 39 => ⟨S4096x1024, .bf16⟩
  | _ => ⟨S1x4096x8x64, .f32⟩

abbrev hbmTy (i : Nat) : BufTy := match i / 128 with
  | 0 => hbmTy0_0 i
  | 1 => hbmTy0_1 i
  | _ => ⟨S1x4096x8x64, .f32⟩

abbrev bufTy : (tb : Table) → Fin (tcTables nBuf tb) → BufTy
  | .hbm, ⟨i, _⟩ => hbmTy i
  | _, _ => ⟨S1x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_2 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_3 : Ref sig .tc := ⟨.hbm, 49, rfl⟩
abbrev main_v34 : Ref sig .tc := ⟨.hbm, 50, rfl⟩
abbrev main_v35 : Ref sig .tc := ⟨.hbm, 51, rfl⟩
abbrev main_c_4 : Ref sig .tc := ⟨.hbm, 52, rfl⟩
abbrev main_v36 : Ref sig .tc := ⟨.hbm, 53, rfl⟩
abbrev main_v37 : Ref sig .tc := ⟨.hbm, 54, rfl⟩
abbrev main_c_5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_7 : Ref sig .tc := ⟨.hbm, 67, rfl⟩
abbrev main_call0_v0 : Ref sig .tc := ⟨.hbm, 68, rfl⟩
abbrev main_call0_v1 : Ref sig .tc := ⟨.hbm, 69, rfl⟩
abbrev main_call0_v2 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_8 : Ref sig .tc := ⟨.hbm, 76, rfl⟩
abbrev main_v53 : Ref sig .tc := ⟨.hbm, 77, rfl⟩
abbrev main_cst_9 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_10 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_11 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_12 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_13 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_14 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_15 : Ref sig .tc := ⟨.hbm, 112, rfl⟩
abbrev main_v82 : Ref sig .tc := ⟨.hbm, 113, rfl⟩
abbrev main_v83 : Ref sig .tc := ⟨.hbm, 114, rfl⟩
abbrev main_cst_16 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_17 : Ref sig .tc := ⟨.hbm, 121, rfl⟩
abbrev main_v89 : Ref sig .tc := ⟨.hbm, 122, rfl⟩
abbrev main_v90 : Ref sig .tc := ⟨.hbm, 123, rfl⟩
abbrev main_cst_18 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_cst_19 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_cst_20 : Ref sig .tc := ⟨.hbm, 142, rfl⟩
abbrev main_v107 : Ref sig .tc := ⟨.hbm, 143, rfl⟩
abbrev main_call1_v0 : Ref sig .tc := ⟨.hbm, 144, rfl⟩
abbrev main_call1_c : Ref sig .tc := ⟨.hbm, 145, rfl⟩
abbrev main_call1_v1 : Ref sig .tc := ⟨.hbm, 146, rfl⟩
abbrev main_call1_v2 : Ref sig .tc := ⟨.hbm, 147, rfl⟩
abbrev main_call1_v3 : Ref sig .tc := ⟨.hbm, 148, rfl⟩
abbrev main_call1_v4 : Ref sig .tc := ⟨.hbm, 149, rfl⟩
abbrev main_call1_cst : Ref sig .tc := ⟨.hbm, 150, rfl⟩
abbrev main_call1_v5 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩

abbrev nD : Nat := 1
abbrev τ : Topo := Topo.v7x

variable {F : FTy → Type} [FloatOps F]
-- ==== Proof.RowNorm.lean ====
/-
  The layer normalisation of one row, over the extended reals: the row's mean, its centred entries, the reciprocal root
  of its variance, its normalised entries, and the gradient of the normalised row in two spellings. `back` is the closed
  form that the kernels write out by hand; `pull` is the chain rule through mean, variance and root, operation by
  operation, as differentiating the plain formula gives it. On a row of real numbers the two agree (`back_eq_pull`).
-/
module

public import Idealize.ShloMosaic.PureOps.Ideal

@[expose] public section

noncomputable section

namespace Cert.RowNorm

open Idealize.ShloMosaic

variable {n : ℕ}

/-- The coercion of reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A quotient of reals by a nonzero real is the real quotient. -/
theorem div_coe_coe (x : ℝ) {y : ℝ} (hy : y ≠ 0) : Ideal.div (x : EReal) (y : EReal) = ((x / y : ℝ) : EReal) := by
  rw [Ideal.div_coe hy, ← EReal.coe_mul]; congr 1; ring

/-- The reciprocal root of a positive real. -/
theorem rsqrt_pos {x : ℝ} (hx : 0 < x) : Ideal.rsqrt (x : EReal) = (((Real.sqrt x)⁻¹ : ℝ) : EReal) := by
  rw [Ideal.rsqrt_coe, if_neg (not_lt.mpr hx.le), if_neg hx.ne']

/-! ### The row functions -/

/-- The mean of a row, `cnt` being its length. -/
def mean (cnt : EReal) (r : Fin n → EReal) : EReal := Ideal.div (∑ k, r k) cnt

/-- A row less its mean. -/
def centred (cnt : EReal) (r : Fin n → EReal) (k : Fin n) : EReal := r k - mean cnt r

/-- The mean of the squares of the centred row, plus the small constant that keeps the root away from zero. -/
def spread (cnt eps : EReal) (r : Fin n → EReal) : EReal := mean cnt (fun k => centred cnt r k * centred cnt r k) + eps

/-- One over the root of the spread. -/
def scale (cnt eps : EReal) (r : Fin n → EReal) : EReal := Ideal.rsqrt (spread cnt eps r)

/-- The normalised row. -/
def unit (cnt eps : EReal) (r : Fin n → EReal) (k : Fin n) : EReal := centred cnt r k * scale cnt eps r

/-- The gradient with respect to the row, `d` being the gradient with respect to the normalised row: the closed form. -/
def back (cnt eps : EReal) (r d : Fin n → EReal) (k : Fin n) : EReal :=
  scale cnt eps r * (d k - mean cnt d - unit cnt eps r k * mean cnt (fun j => d j * unit cnt eps r j))

/-- The gradient with respect to the variance, spread over the entries it is a mean of. -/
def share (cnt eps half : EReal) (r d : Fin n → EReal) : EReal :=
  Ideal.div ((∑ j, centred cnt r j * d j) * (half * Ideal.div (scale cnt eps r) (spread cnt eps r))) cnt

/-- The same gradient by the chain rule: through the product with the scale, through the variance (`share`; `half` is
    minus one half and `two` is two), and through the mean that both subtract. -/
def pull (cnt eps half two : EReal) (r d : Fin n → EReal) (k : Fin n) : EReal :=
  d k * scale cnt eps r + share cnt eps half r d * (two * centred cnt r k)
    + Ideal.div ((∑ j, -(d j * scale cnt eps r)) + (∑ j, -(share cnt eps half r d * (two * centred cnt r j)))) cnt

/-! ### On real rows -/

section Real

variable (R D : Fin n → ℝ)

/-- The centred row, in real numbers. -/
def centredR (k : Fin n) : ℝ := R k - (∑ j, R j) / n

/-- The spread, in real numbers. -/
def spreadR (e : ℝ) : ℝ := (∑ j, centredR R j * centredR R j) / n + e

variable {R}

theorem mean_coe (hn : n ≠ 0) : mean ((n : ℝ) : EReal) (fun k => (R k : EReal)) = (((∑ j, R j) / n : ℝ) : EReal) := by
  unfold mean; rw [← coe_sum, div_coe_coe _ (Nat.cast_ne_zero.mpr hn)]

theorem centred_coe (hn : n ≠ 0) (k : Fin n) : centred ((n : ℝ) : EReal) (fun k => (R k : EReal)) k = (centredR R k : EReal) := by
  unfold centred centredR; rw [mean_coe hn, ← EReal.coe_sub]

theorem spread_coe (hn : n ≠ 0) (e : ℝ) :
    spread ((n : ℝ) : EReal) (e : EReal) (fun k => (R k : EReal)) = (spreadR R e : EReal) := by
  unfold spread spreadR
  simp only [centred_coe hn, ← EReal.coe_mul]
  rw [mean_coe hn, ← EReal.coe_add]

theorem spreadR_pos {e : ℝ} (he : 0 < e) : 0 < spreadR R e :=
  add_pos_of_nonneg_of_pos (div_nonneg (Finset.sum_nonneg fun j _ => mul_self_nonneg _) (Nat.cast_nonneg n)) he

theorem scale_coe (hn : n ≠ 0) {e : ℝ} (he : 0 < e) :
    scale ((n : ℝ) : EReal) (e : EReal) (fun k => (R k : EReal)) = (((Real.sqrt (spreadR R e))⁻¹ : ℝ) : EReal) := by
  unfold scale; rw [spread_coe hn, rsqrt_pos (spreadR_pos he)]

theorem unit_coe (hn : n ≠ 0) {e : ℝ} (he : 0 < e) (k : Fin n) :
    unit ((n : ℝ) : EReal) (e : EReal) (fun k => (R k : EReal)) k
      = ((centredR R k * (Real.sqrt (spreadR R e))⁻¹ : ℝ) : EReal) := by
  unfold unit; rw [centred_coe hn, scale_coe hn he, ← EReal.coe_mul]

/-- The centred entries add up to nothing. -/
theorem sum_centredR (hn : n ≠ 0) : ∑ k, centredR R k = 0 := by
  have h : (n : ℝ) ≠ 0 := Nat.cast_ne_zero.mpr hn
  unfold centredR
  rw [Finset.sum_sub_distrib, Finset.sum_const, Finset.card_univ, Fintype.card_fin, nsmul_eq_mul]
  field_simp; ring

variable (R) {D}

/-- The closed form and the chain rule agree on rows of reals. -/
theorem back_coe_eq_pull (hn : n ≠ 0) {e : ℝ} (he : 0 < e) (k : Fin n) :
    back ((n : ℝ) : EReal) (e : EReal) (fun k => (R k : EReal)) (fun k => (D k : EReal)) k
      = pull ((n : ℝ) : EReal) (e : EReal) ((-(1 / 2) : ℝ) : EReal) ((2 : ℝ) : EReal)
          (fun k => (R k : EReal)) (fun k => (D k : EReal)) k := by
  have hc : (n : ℝ) ≠ 0 := Nat.cast_ne_zero.mpr hn
  have hs : spreadR R e ≠ 0 := (spreadR_pos he).ne'
  have hq : (Real.sqrt (spreadR R e)) * (Real.sqrt (spreadR R e)) = spreadR R e :=
    Real.mul_self_sqrt (spreadR_pos he).le
  unfold back pull share
  simp only [unit_coe hn he, centred_coe hn, scale_coe hn he, spread_coe hn, ← EReal.coe_mul, mean_coe hn,
    div_coe_coe _ hs, ← coe_sum, div_coe_coe _ hc, ← EReal.coe_neg, ← EReal.coe_add, ← EReal.coe_sub]
  congr 1
  have h1 : ∀ a b : ℝ, ∑ j, -(a * (b * centredR R j)) = 0 := fun a b => by
    rw [Finset.sum_neg_distrib, ← Finset.mul_sum, ← Finset.mul_sum, sum_centredR hn]; ring
  have h2 : ∑ j, D j * (centredR R j * (Real.sqrt (spreadR R e))⁻¹)
      = (∑ j, centredR R j * D j) * (Real.sqrt (spreadR R e))⁻¹ := by
    rw [Finset.sum_mul]; exact Finset.sum_congr rfl fun j _ => by ring
  have h3 : ∑ j, -(D j * (Real.sqrt (spreadR R e))⁻¹) = -((∑ j, D j) * (Real.sqrt (spreadR R e))⁻¹) := by
    rw [Finset.sum_neg_distrib, Finset.sum_mul]
  rw [h1, h2, h3]
  have hr : Real.sqrt (spreadR R e) ≠ 0 := (Real.sqrt_pos.mpr (spreadR_pos he)).ne'
  generalize Real.sqrt (spreadR R e) = q at *
  rw [← hq]
  field_simp
  ring

end Real

/-- The closed form and the chain rule agree on rows whose entries are real numbers. -/
theorem back_eq_pull {cnt eps half two : EReal} {e : ℝ} (hn : n ≠ 0) (hcnt : cnt = ((n : ℝ) : EReal))
    (heps : eps = (e : EReal)) (he : 0 < e) (hhalf : half = ((-(1 / 2) : ℝ) : EReal)) (htwo : two = ((2 : ℝ) : EReal))
    {r d : Fin n → EReal} (hr : ∀ k, ∃ x : ℝ, r k = x) (hd : ∀ k, ∃ x : ℝ, d k = x) (k : Fin n) :
    back cnt eps r d k = pull cnt eps half two r d k := by
  choose R hR using hr
  choose D hD using hd
  obtain rfl : r = fun k => (R k : EReal) := funext hR
  obtain rfl : d = fun k => (D k : EReal) := funext hD
  subst hcnt heps hhalf htwo
  exact back_coe_eq_pull R hn he k

/-- A normalised row of reals is a row of reals. -/
theorem unit_real {cnt eps : EReal} {e : ℝ} (hn : n ≠ 0) (hcnt : cnt = ((n : ℝ) : EReal))
    (heps : eps = (e : EReal)) (he : 0 < e) {r : Fin n → EReal} (hr : ∀ k, ∃ x : ℝ, r k = x) (k : Fin n) :
    ∃ x : ℝ, unit cnt eps r k = x := by
  choose R hR using hr
  obtain rfl : r = fun k => (R k : EReal) := funext hR
  subst hcnt heps
  exact ⟨_, unit_coe hn he k⟩

end Cert.RowNorm

end
-- ==== Proof.Finite.lean ====
/-
  What "finite" means of an array of extended reals, and that sums and products of finite entries are finite.
-/
module

public import Idealize.ShloMosaic.Lib.Pointwise

@[expose] public section

noncomputable section

namespace Cert.Finite

open Idealize.ShloMosaic

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, by push_cast; rfl⟩
theorem IsReal.sub {x y : EReal} (hx : IsReal x) (hy : IsReal y) : IsReal (x - y) := by
  obtain ⟨a, rfl⟩ := hx; obtain ⟨b, rfl⟩ := hy; exact ⟨a - b, by push_cast; rfl⟩
theorem IsReal.mul {x y : EReal} (hx : IsReal x) (hy : IsReal y) : IsReal (x * y) := by
  obtain ⟨a, rfl⟩ := hx; obtain ⟨b, rfl⟩ := hy; exact ⟨a * b, by push_cast; rfl⟩
theorem IsReal.sum {ι : Type*} (s : Finset ι) {f : ι → EReal} (h : ∀ i, IsReal (f i)) : IsReal (∑ i ∈ s, f i) := by
  classical
  induction s using Finset.induction_on with
  | empty => exact ⟨0, by simp⟩
  | insert a s ha ih => rw [Finset.sum_insert ha]; exact (h a).add ih

/-- An extended real whose absolute value is below infinity, as the comparison's bit says it, is a real number. -/
theorem isReal_of_bit {x : EReal} (h : Ideal.cmp .olt (max x (-x)) (Ideal.ofBits .f32 0x7F800000#32) = 1#1) : IsReal x := by
  have ht : Ideal.ofBits .f32 0x7F800000#32 = ⊤ := by simp [Ideal.ofBits, Ideal.ieee]
  rw [ht] at h
  have hx : max x (-x) < ⊤ := by
    by_contra hc
    simp [Ideal.cmp, hc] at h
  induction x using EReal.rec with
  | bot => simp at hx
  | coe r => exact ⟨r, rfl⟩
  | top => simp at hx

/-- An array whose entries all compare below infinity in absolute value has real entries. -/
theorem isReal_of_lt {s s0 : Shape} (x : FVec Ideal s .f32) (d : Fin s0.rank → Fin s.rank) (hb : s0.BroadcastsInDim s d)
    (h : cmpf .olt (Host.absf x) (broadcastInDim s d hb (constant s0 .f32 0x7F800000#32)) = fun _ => 1#1) (i : s.Idx) :
    IsReal (x i) := isReal_of_bit (congrFun h i)

end Cert.Finite

end
-- ==== Proof.Words.lean ====
/-
  The words that the programs' literals are, as real numbers: the row length 1024, the small constant under the root of
  a variance, the residual's factor, two, and minus one half.
-/
module

public import proofs.«01_k».proof.Proof.Finite

@[expose] public section

noncomputable section

namespace Cert.Words

open Idealize.ShloMosaic Cert.Finite

/-- The row length, as the word the programs divide by. -/
abbrev cnt : EReal := Ideal.ofBits .f32 0x44800000#32
/-- The constant under the root. -/
abbrev eps : EReal := Ideal.ofBits .f32 0x3727C5AC#32
/-- The residual's factor. -/
abbrev alpha : EReal := Ideal.ofBits .f32 0x3F9837F0#32
/-- Minus one half and two. -/
abbrev half : EReal := Ideal.ofBits .f32 0xBF000000#32
abbrev two : EReal := Ideal.ofBits .f32 0x40000000#32

theorem cnt_eq : cnt = ((((1024 : ℕ) : ℝ)) : EReal) := by simp [cnt, Ideal.ofBits, Ideal.ieee, -EReal.coe_mul]; norm_num
theorem two_eq : two = ((2 : ℝ) : EReal) := by simp [two, Ideal.ofBits, Ideal.ieee, -EReal.coe_mul]; norm_num
theorem half_eq : half = ((-(1 / 2) : ℝ) : EReal) := by simp [half, Ideal.ofBits, Ideal.ieee, -EReal.coe_mul]; norm_num
theorem alpha_real : IsReal alpha := ⟨_, by simp [alpha, Ideal.ofBits, Ideal.ieee, -EReal.coe_mul]; rfl⟩
theorem eps_pos : ∃ e : ℝ, eps = (e : EReal) ∧ 0 < e :=
  ⟨_, by simp [eps, Ideal.ofBits, Ideal.ieee, -EReal.coe_mul]; rfl, by norm_num⟩

end Cert.Words

end
-- ==== Proof.DownBlock.lean ====
/-
  What one grid point of the down-projection and loss kernel computes, at an index: the payloads of the body's two
  halves read as the row functions of `RowNorm`.
-/
module

public import proofs.«01_k».proof.Proof.RowNorm
public import proofs.«01_k».proof.Proof.Words
public import proofs.«01_k».proof.Proof.Gen.KernelIdeal.Skeleton
public import Idealize.ShloMosaic.Lib.Pointwise

@[expose] public section

noncomputable section

namespace Cert.KernelIdeal.Down

open Cert.KernelIdeal Cert.KernelIdeal.Gen Idealize.ShloMosaic Cert.RowNorm Cert.Words

/-- One over the row length, as the kernel's word. -/
abbrev inv : EReal := Ideal.ofBits .f32 0x3A800000#32

/-- Row `p` of the upper half of a block of 512 rows. -/
def lo (p : Fin 256) : Fin 512 := ⟨p.val, by omega⟩
/-- Row `p` of the lower half. -/
def hi (p : Fin 256) : Fin 512 := ⟨256 + p.val, by omega⟩

/-- A sum over the 512 rows, half by half. -/
theorem sum_halves (f : Fin 512 → EReal) : ∑ p, f (lo p) + ∑ p, f (hi p) = ∑ r, f r :=
  (Fin.sum_univ_add (a := 256) (b := 256) f).symm

section Halves

variable {F : FTy → Type} [FloatOps F]
  (x0 : Vec F S4x512x704 .bf16) (x1 : Vec F S4x704x1024 .bf16) (x2 : Vec F S512x1024 .f32)

/-- The residual rows of the upper half: the scaled input and the product, chunk by chunk. -/
def half0 : FVec F S256x1024 .f32 :=
  k0_pay19 k0_pay18
    (View.ld x0 (Rect.unit ![0, 0, 0] ![1, 256, 704] inb_S4x512x704_S1x256x704_0_0_0))
    (View.ld x1 (Rect.unit ![0, 0, 0] ![1, 704, 1024] inb_S4x704x1024_S1x704x1024_0_0_0))
    (View.ld x0 (Rect.unit ![1, 0, 0] ![1, 256, 704] inb_S4x512x704_S1x256x704_1_0_0))
    (View.ld x1 (Rect.unit ![1, 0, 0] ![1, 704, 1024] inb_S4x704x1024_S1x704x1024_1_0_0))
    (View.ld x0 (Rect.unit ![2, 0, 0] ![1, 256, 704] inb_S4x512x704_S1x256x704_2_0_0))
    (View.ld x1 (Rect.unit ![2, 0, 0] ![1, 704, 1024] inb_S4x704x1024_S1x704x1024_2_0_0))
    (View.ld x0 (Rect.unit ![3, 0, 0] ![1, 256, 704] inb_S4x512x704_S1x256x704_3_0_0))
    (View.ld x1 (Rect.unit ![3, 0, 0] ![1, 704, 1024] inb_S4x704x1024_S1x704x1024_3_0_0))
    (View.ld x2 (Rect.unit ![0, 0] ![256, 1024] inb_S512x1024_S256x1024_0_0))

/-- The residual rows of the lower half. -/
def half1 : FVec F S256x1024 .f32 :=
  k0_pay19 k0_pay18
    (View.ld x0 (Rect.unit ![0, 256, 0] ![1, 256, 704] inb_S4x512x704_S1x256x704_0_256_0))
    (View.ld x1 (Rect.unit ![0, 0, 0] ![1, 704, 1024] inb_S4x704x1024_S1x704x1024_0_0_0))
    (View.ld x0 (Rect.unit ![1, 256, 0] ![1, 256, 704] inb_S4x512x704_S1x256x704_1_256_0))
    (View.ld x1 (Rect.unit ![1, 0, 0] ![1, 704, 1024] inb_S4x704x1024_S1x704x1024_1_0_0))
    (View.ld x0 (Rect.unit ![2, 256, 0] ![1, 256, 704] inb_S4x512x704_S1x256x704_2_256_0))
    (View.ld x1 (Rect.unit ![2, 0, 0] ![1, 704, 1024] inb_S4x704x1024_S1x704x1024_2_0_0))
    (View.ld x0 (Rect.unit ![3, 256, 0] ![1, 256, 704] inb_S4x512x704_S1x256x704_3_256_0))
    (View.ld x1 (Rect.unit ![3, 0, 0] ![1, 704, 1024] inb_S4x704x1024_S1x704x1024_3_0_0))
    (View.ld x2 (Rect.unit ![256, 0] ![256, 1024] inb_S512x1024_S256x1024_256_0))

/-- The target rows of the upper half. -/
def top (x5 : Vec F S512x1024 .f32) : Vec F S256x1024 .f32 :=
  View.ld x5 (Rect.unit ![0, 0] ![256, 1024] inb_S512x1024_S256x1024_0_0)
/-- The target rows of the lower half. -/
def bot (x5 : Vec F S512x1024 .f32) : Vec F S256x1024 .f32 :=
  View.ld x5 (Rect.unit ![256, 0] ![256, 1024] inb_S512x1024_S256x1024_256_0)

end Halves

section Rows

variable (v : FVec Ideal S256x1024 .f32) (g b : Vec Ideal S1x1024 .f32) (t : Vec Ideal S256x1024 .f32)
  (p : Fin 256) (l : Fin 1024)

/-- The centred row. -/
theorem pay20_at : k0_pay20 v (ix2 p l) = centred cnt (fun k => v (ix2 p k)) l := by
  pointwise [k0_pay20]; rfl

/-- The reciprocal root of the spread. -/
theorem pay21_at (q : Fin 1) : k0_pay21 v (ix2 p q) = scale cnt eps (fun k => v (ix2 p k)) := by
  pointwise [k0_pay21, pay20_at]; rfl

/-- The normalised row. -/
theorem pay22_at : k0_pay22 v (ix2 p l) = unit cnt eps (fun k => v (ix2 p k)) l := by
  pointwise [k0_pay22, pay20_at, pay21_at]; rfl

/-- The output's distance from the target. -/
theorem pay23_at : k0_pay23 v g b t (ix2 p l) =
    unit cnt eps (fun k => v (ix2 p k)) l * g (ix2 0 l) + b (ix2 0 l) - t (ix2 p l) := by
  pointwise [k0_pay23, pay22_at]

/-- The cotangent of the output. -/
theorem pay24_at : k0_pay24 v g b t (ix2 p l) = k0_pay23 v g b t (ix2 p l) * inv := by
  pointwise [k0_pay24]

/-- The squares' column sums, added to what the block held. -/
theorem pay25_at (acc : Vec Ideal S1x1024 .f32) : k0_pay25 v g b t acc (ix2 0 l) =
    acc (ix2 0 l) + ∑ p, k0_pay23 v g b t (ix2 p l) * k0_pay23 v g b t (ix2 p l) := by
  pointwise [k0_pay25]

/-- The scale's gradient, added to what the block held. -/
theorem pay26_at (acc : Vec Ideal S1x1024 .f32) : k0_pay26 v g b t acc (ix2 0 l) =
    acc (ix2 0 l) + ∑ p, k0_pay24 v g b t (ix2 p l) * k0_pay22 v (ix2 p l) := by
  pointwise [k0_pay26]

/-- The shift's gradient, added to what the block held. -/
theorem pay2_at (d : FVec Ideal S256x1024 .f32) (acc : Vec Ideal S1x1024 .f32) :
    k0_pay2 d acc (ix2 0 l) = acc (ix2 0 l) + ∑ p, d (ix2 p l) := by
  pointwise [k0_pay2]

/-- The row's gradient. -/
theorem pay3_at (d : FVec Ideal S256x1024 .f32) : k0_pay3 (k0_pay21 v) (k0_pay22 v) d g (ix2 p l) =
    back cnt eps (fun k => v (ix2 p k)) (fun k => d (ix2 p k) * g (ix2 0 k)) l := by
  pointwise [k0_pay3, pay21_at, pay22_at]; rfl

end Rows

section Residual

variable (x0 : Vec Ideal S4x512x704 .bf16) (x1 : Vec Ideal S4x704x1024 .bf16) (x2 : Vec Ideal S512x1024 .f32)

/-- The residual row of a block, over all four chunks. -/
def resid (r : Fin 512) (l : Fin 1024) : EReal :=
  alpha * x2 (ix2 r l) + ∑ j : Fin 4, ∑ k : Fin 704, x0 (ix3 j r k) * x1 (ix3 j k l)

theorem half0_at (p : Fin 256) (l : Fin 1024) : half0 x0 x1 x2 (ix2 p l) = resid x0 x1 x2 (lo p) l := by
  unfold half0 resid lo
  rw [Fin.sum_univ_four]
  pointwise [k0_pay19, k0_pay18]

theorem half1_at (p : Fin 256) (l : Fin 1024) : half1 x0 x1 x2 (ix2 p l) = resid x0 x1 x2 (hi p) l := by
  unfold half1 resid hi
  rw [Fin.sum_univ_four]
  pointwise [k0_pay19, k0_pay18]

theorem top_at (x5 : Vec Ideal S512x1024 .f32) (p : Fin 256) (l : Fin 1024) : top x5 (ix2 p l) = x5 (ix2 (lo p) l) := by
  unfold top lo; pointwise []
theorem bot_at (x5 : Vec Ideal S512x1024 .f32) (p : Fin 256) (l : Fin 1024) : bot x5 (ix2 p l) = x5 (ix2 (hi p) l) := by
  unfold bot hi; pointwise []

end Residual

end Cert.KernelIdeal.Down

end
-- ==== Proof.DownOuts.lean ====
/-
  What the four output blocks of the down-projection and loss kernel hold after each grid point, from the point's input
  blocks and what the three accumulators held before.
-/
module

public import proofs.«01_k».proof.Proof.DownBlock
public import Idealize.ShloMosaic.Lib.Pipeline.ValueKit.Acc
public import proofs.«01_k».proof.Proof.Gen.KernelIdeal.Value

@[expose] public section

noncomputable section

namespace Cert.KernelIdeal.Down

open Cert.KernelIdeal Cert.KernelIdeal.Gen Idealize.ShloMosaic Idealize.ShloMosaic.TcCoe Cert.RowNorm Cert.Words

variable {F : FTy → Type} [FloatOps F] (m : (ℓ : Loc nD τ sig) → Buf (Elt F) ℓ) (c : Dev nD) (t : Fin cfg0.N)

/-- The residual rows of the point's upper half. -/
abbrev rows0 := half0 (iblk m c 0 t) (iblk m c 1 t) (iblk m c 2 t)
/-- The residual rows of the point's lower half. -/
abbrev rows1 := half1 (iblk m c 0 t) (iblk m c 1 t) (iblk m c 2 t)
/-- The scale, shift and targets of the point. -/
abbrev gain : Vec F S1x1024 .f32 := iblk m c 3 t
abbrev shift : Vec F S1x1024 .f32 := iblk m c 4 t
abbrev want : Vec F S512x1024 .f32 := iblk m c 5 t

/-- The squares' column sums after the point, from what they were before. -/
def sq (acc : Vec F S1x1024 .f32) : Vec F S1x1024 .f32 :=
  k0_pay25 (rows1 m c t) (gain m c t) (shift m c t) (bot (want m c t))
    (k0_pay25 (rows0 m c t) (gain m c t) (shift m c t) (top (want m c t)) acc)
/-- The scale's gradient after the point, from what it was before. -/
def dgain (acc : Vec F S1x1024 .f32) : Vec F S1x1024 .f32 :=
  k0_pay1 (k0_pay26 (rows1 m c t) (gain m c t) (shift m c t) (bot (want m c t))
    (k0_pay1 (k0_pay26 (rows0 m c t) (gain m c t) (shift m c t) (top (want m c t)) acc)))
/-- The shift's gradient after the point, from what it was before. -/
def dshift (acc : Vec F S1x1024 .f32) : Vec F S1x1024 .f32 :=
  k0_pay2 (k0_pay24 (rows1 m c t) (gain m c t) (shift m c t) (bot (want m c t)))
    (k0_pay2 (k0_pay24 (rows0 m c t) (gain m c t) (shift m c t) (top (want m c t))) acc)

/-- The gradient rows of one half. -/
def drows (v : FVec F S256x1024 .f32) (g b : Vec F S1x1024 .f32) (w : Vec F S256x1024 .f32) : FVec F S256x1024 .f32 :=
  k0_pay3 (k0_pay21 v) (k0_pay22 v) (k0_pay24 v g b w) g

/-- The two pieces that the gradient block is stored in. -/
def pieces : List (View.Piece (Elt F) S512x1024 .f32) :=
  [⟨Rect.unit ![256, 0] ![256, 1024] inb_S512x1024_S256x1024_256_0,
      drows (rows1 m c t) (gain m c t) (shift m c t) (bot (want m c t))⟩,
    ⟨Rect.unit ![0, 0] ![256, 1024] inb_S512x1024_S256x1024_0_0,
      drows (rows0 m c t) (gain m c t) (shift m c t) (top (want m c t))⟩]

theorem rows_first (h : t.val % 8 = 0) : (outsAt0 m c t.val t.isLt).1 = View.canon (pieces m c t) := by
  rw [outsAt0_A m c t h]; frame_out; rfl

theorem rows_next (h : ¬t.val % 8 = 0) : (outsAt0 m c t.val t.isLt).1 = View.canon (pieces m c t) := by
  rw [outsAt0_B m c t h]; frame_out; rfl

theorem sq_first (h : t.val % 8 = 0) : (outsAt0 m c t.val t.isLt).2.1 = sq m c t k0_pay4 := by
  rw [outsAt0_A m c t h]; frame_out; rfl

theorem sq_next (h : ¬t.val % 8 = 0) : (outsAt0 m c t.val t.isLt).2.1 =
    sq m c t (outsAt0 m c (t.val - 1) (by omega)).2.1 := by
  rw [outsAt0_B m c t h]; frame_out; rfl

theorem dgain_first (h : t.val % 8 = 0) : (outsAt0 m c t.val t.isLt).2.2.1 = dgain m c t k0_pay5 := by
  rw [outsAt0_A m c t h]; frame_out; rfl

theorem dgain_next (h : ¬t.val % 8 = 0) : (outsAt0 m c t.val t.isLt).2.2.1 =
    dgain m c t (outsAt0 m c (t.val - 1) (by omega)).2.2.1 := by
  rw [outsAt0_B m c t h]; frame_out; rfl

theorem dshift_first (h : t.val % 8 = 0) : (outsAt0 m c t.val t.isLt).2.2.2 = dshift m c t k0_pay6 := by
  rw [outsAt0_A m c t h]; frame_out; rfl

theorem dshift_next (h : ¬t.val % 8 = 0) : (outsAt0 m c t.val t.isLt).2.2.2 =
    dshift m c t (outsAt0 m c (t.val - 1) (by omega)).2.2.2 := by
  rw [outsAt0_B m c t h]; frame_out; rfl

end Cert.KernelIdeal.Down

end
-- ==== Proof.DownReads.lean ====
/-
  The blocks that a grid point of the down-projection and loss kernel reads, as entries of the program's arguments.
-/
module

public import proofs.«01_k».proof.Proof.DownOuts
public import Idealize.ShloMosaic.Lib.Pipeline.ValueKit

@[expose] public section

set_option maxRecDepth 16384

noncomputable section

namespace Cert.KernelIdeal.Down

open Cert.KernelIdeal Cert.KernelIdeal.Gen Idealize.ShloMosaic Idealize.ShloMosaic.TcCoe Cert.RowNorm Cert.Words

variable (m : (ℓ : Loc nD τ sig) → Buf (Elt Ideal) ℓ) (c : Dev nD)

/-- The arguments: activations, the weight, the block's input, scale, shift, target. -/
abbrev act : Vec Ideal S4096x2816 .f32 := m ((c : Thread nD τ).loc main_arg0)
abbrev wdown : Vec Ideal S2816x1024 .f32 := m ((c : Thread nD τ).loc main_arg1)
abbrev inp : Vec Ideal S4096x1024 .f32 := m ((c : Thread nD τ).loc main_arg2)
abbrev gainA : Vec Ideal S1x1024 .f32 := m ((c : Thread nD τ).loc main_arg3)
abbrev shiftA : Vec Ideal S1x1024 .f32 := m ((c : Thread nD τ).loc main_arg4)
abbrev target : Vec Ideal S4096x1024 .f32 := m ((c : Thread nD τ).loc main_arg5)

/-- Where each window's block stands in its array. -/
theorem idx : ∀ t : Fin grid0.N, win0_0.index t = ![0, t.val, 0] ∧ win0_1.index t = ![0, 0, 0] ∧ win0_2.index t = ![t.val, 0]
    ∧ win0_3.index t = ![0, 0] ∧ win0_4.index t = ![0, 0] ∧ win0_5.index t = ![t.val, 0] ∧ win0_6.index t = ![t.val, 0]
    ∧ win0_7.index t = ![0, 0] ∧ win0_8.index t = ![0, 0] ∧ win0_9.index t = ![0, 0] := by decide +kernel

theorem points : grid0.N = 8 := by decide +kernel

/-- The array's row that row `r` of point `t`'s block is. -/
def row (t : Fin cfg0.N) (r : Fin 512) : Fin 4096 := ⟨512 * t.val + r.val, by
  have := t.isLt; have h : cfg0.N = 8 := points; omega⟩
/-- The hidden unit `k` of chunk `j`. -/
def unitOf (j : Fin 4) (k : Fin 704) : Fin 2816 := ⟨704 * j.val + k.val, by omega⟩

variable (t : Fin cfg0.N)

theorem act_at (j : Fin 4) (r : Fin 512) (k : Fin 704) :
    iblk m c 0 t (ix3 j r k) = act m c (ix2 (row t r) (unitOf j k)) := by
  unfold row unitOf
  blk_ext! [iblk, V, idx t]

theorem wdown_at (j : Fin 4) (k : Fin 704) (l : Fin 1024) :
    iblk m c 1 t (ix3 j k l) = wdown m c (ix2 (unitOf j k) l) := by
  unfold unitOf
  blk_ext! [iblk, V, idx t]

theorem inp_at (r : Fin 512) (l : Fin 1024) : iblk m c 2 t (ix2 r l) = inp m c (ix2 (row t r) l) := by
  unfold row
  blk_ext [iblk, V, idx t]

theorem gain_at (l : Fin 1024) : iblk m c 3 t (ix2 0 l) = gainA m c (ix2 0 l) := by
  blk_ext [iblk, V, idx t]

theorem shift_at (l : Fin 1024) : iblk m c 4 t (ix2 0 l) = shiftA m c (ix2 0 l) := by
  blk_ext [iblk, V, idx t]

theorem target_at (r : Fin 512) (l : Fin 1024) : iblk m c 5 t (ix2 r l) = target m c (ix2 (row t r) l) := by
  unfold row
  blk_ext [iblk, V, idx t]

end Cert.KernelIdeal.Down

end
-- ==== Proof.DownArray.lean ====
/-
  What the four result arrays of the down-projection and loss kernel hold after its run, as functions of the program's
  arguments.
-/
module

public import proofs.«01_k».proof.Proof.DownReads

@[expose] public section

set_option maxRecDepth 16384

noncomputable section

namespace Cert.KernelIdeal.Down

open Cert.KernelIdeal Cert.KernelIdeal.Gen Idealize.ShloMosaic Idealize.ShloMosaic.TcCoe Cert.RowNorm Cert.Words

section Rows

variable (x0 : Vec Ideal S4096x2816 .f32) (x1 : Vec Ideal S2816x1024 .f32) (x2 : Vec Ideal S4096x1024 .f32)
  (x3 x4 : Vec Ideal S1x1024 .f32) (x5 : Vec Ideal S4096x1024 .f32)

/-- The residual row: the scaled input and the down-projection. -/
def res (R : Fin 4096) (l : Fin 1024) : EReal :=
  alpha * x2 (ix2 R l) + ∑ K : Fin 2816, x0 (ix2 R K) * x1 (ix2 K l)
/-- The normalised row. -/
def nrm (R : Fin 4096) (l : Fin 1024) : EReal := unit cnt eps (res x0 x1 x2 R) l
/-- The output's distance from the target. -/
def err (R : Fin 4096) (l : Fin 1024) : EReal :=
  nrm x0 x1 x2 R l * x3 (ix2 0 l) + x4 (ix2 0 l) - x5 (ix2 R l)
/-- The output's cotangent. -/
def cot (R : Fin 4096) (l : Fin 1024) : EReal := err x0 x1 x2 x3 x4 x5 R l * inv
/-- The residual row's gradient. -/
def dres (R : Fin 4096) (l : Fin 1024) : EReal :=
  back cnt eps (res x0 x1 x2 R) (fun k => cot x0 x1 x2 x3 x4 x5 R k * x3 (ix2 0 k)) l

end Rows

variable (m : (ℓ : Loc nD τ sig) → Buf (Elt Ideal) ℓ) (c : Dev nD) (t : Fin cfg0.N)

theorem resid_eq (r : Fin 512) (l : Fin 1024) : resid (iblk m c 0 t) (iblk m c 1 t) (iblk m c 2 t) r l =
    res (act m c) (wdown m c) (inp m c) (row t r) l := by
  unfold resid res
  rw [inp_at]
  congr 1
  refine Fin.sum_mul_add_congr fun j k hl => ?_
  rw [act_at, wdown_at]
  have e : unitOf j k = ⟨j.val * 704 + k.val, hl⟩ := Fin.ext (by unfold unitOf; simp only; omega)
  rw [e]

theorem rows0_at (p : Fin 256) (l : Fin 1024) :
    rows0 m c t (ix2 p l) = res (act m c) (wdown m c) (inp m c) (row t (lo p)) l := by
  unfold rows0; rw [half0_at, resid_eq]
theorem rows1_at (p : Fin 256) (l : Fin 1024) :
    rows1 m c t (ix2 p l) = res (act m c) (wdown m c) (inp m c) (row t (hi p)) l := by
  unfold rows1; rw [half1_at, resid_eq]

/-- The normalised row, distance, cotangent of the array's rows. -/
abbrev nrmA := nrm (act m c) (wdown m c) (inp m c)
abbrev errA := err (act m c) (wdown m c) (inp m c) (gainA m c) (shiftA m c) (target m c)
abbrev cotA := cot (act m c) (wdown m c) (inp m c) (gainA m c) (shiftA m c) (target m c)
abbrev dresA := dres (act m c) (wdown m c) (inp m c) (gainA m c) (shiftA m c) (target m c)

theorem nrm0 (p : Fin 256) (l : Fin 1024) : k0_pay22 (rows0 m c t) (ix2 p l) = nrmA m c (row t (lo p)) l := by
  rw [pay22_at]; simp only [rows0_at]; rfl
theorem nrm1 (p : Fin 256) (l : Fin 1024) : k0_pay22 (rows1 m c t) (ix2 p l) = nrmA m c (row t (hi p)) l := by
  rw [pay22_at]; simp only [rows1_at]; rfl

theorem err0 (p : Fin 256) (l : Fin 1024) : k0_pay23 (rows0 m c t) (gain m c t) (shift m c t) (top (want m c t)) (ix2 p l)
    = errA m c (row t (lo p)) l := by
  rw [pay23_at, top_at]; unfold gain shift want; rw [gain_at, shift_at, target_at]; simp only [rows0_at]; rfl
theorem err1 (p : Fin 256) (l : Fin 1024) : k0_pay23 (rows1 m c t) (gain m c t) (shift m c t) (bot (want m c t)) (ix2 p l)
    = errA m c (row t (hi p)) l := by
  rw [pay23_at, bot_at]; unfold gain shift want; rw [gain_at, shift_at, target_at]; simp only [rows1_at]; rfl

theorem cot0 (p : Fin 256) (l : Fin 1024) : k0_pay24 (rows0 m c t) (gain m c t) (shift m c t) (top (want m c t)) (ix2 p l)
    = cotA m c (row t (lo p)) l := by
  rw [pay24_at, err0]; rfl
theorem cot1 (p : Fin 256) (l : Fin 1024) : k0_pay24 (rows1 m c t) (gain m c t) (shift m c t) (bot (want m c t)) (ix2 p l)
    = cotA m c (row t (hi p)) l := by
  rw [pay24_at, err1]; rfl

theorem dres0 (p : Fin 256) (l : Fin 1024) :
    drows (rows0 m c t) (gain m c t) (shift m c t) (top (want m c t)) (ix2 p l) = dresA m c (row t (lo p)) l := by
  unfold drows; rw [pay3_at]; simp only [rows0_at, cot0, gain_at]; rfl
theorem dres1 (p : Fin 256) (l : Fin 1024) :
    drows (rows1 m c t) (gain m c t) (shift m c t) (bot (want m c t)) (ix2 p l) = dresA m c (row t (hi p)) l := by
  unfold drows; rw [pay3_at]; simp only [rows1_at, cot1, gain_at]; rfl

theorem pay1_eq (v : FVec Ideal S1x1024 .f32) (l : Fin 1024) : k0_pay1 v (ix2 0 l) = v (ix2 0 l) := by
  pointwise [k0_pay1]

/-- One point adds its rows' squares. -/
theorem sq_at (acc : Vec Ideal S1x1024 .f32) (l : Fin 1024) : sq m c t acc (ix2 0 l) =
    acc (ix2 0 l) + ∑ r : Fin 512, errA m c (row t r) l * errA m c (row t r) l := by
  unfold sq
  rw [pay25_at, pay25_at, ← sum_halves fun r => errA m c (row t r) l * errA m c (row t r) l, add_assoc]
  simp only [err0, err1]

/-- One point adds its rows' part of the scale's gradient. -/
theorem dgain_at (acc : Vec Ideal S1x1024 .f32) (l : Fin 1024) : dgain m c t acc (ix2 0 l) =
    acc (ix2 0 l) + ∑ r : Fin 512, cotA m c (row t r) l * nrmA m c (row t r) l := by
  unfold dgain
  rw [pay1_eq, pay26_at, pay1_eq, pay26_at, ← sum_halves fun r => cotA m c (row t r) l * nrmA m c (row t r) l, add_assoc]
  simp only [cot0, cot1, nrm0, nrm1]

/-- One point adds its rows' part of the shift's gradient. -/
theorem dshift_at (acc : Vec Ideal S1x1024 .f32) (l : Fin 1024) : dshift m c t acc (ix2 0 l) =
    acc (ix2 0 l) + ∑ r : Fin 512, cotA m c (row t r) l := by
  unfold dshift
  rw [pay2_at, pay2_at, ← sum_halves fun r => cotA m c (row t r) l, add_assoc]
  simp only [cot0, cot1]

theorem zero_at (l : Fin 1024) : k0_pay4 (F := Ideal) (ix2 0 l) = 0 ∧ k0_pay5 (F := Ideal) (ix2 0 l) = 0
    ∧ k0_pay6 (F := Ideal) (ix2 0 l) = 0 := by
  refine ⟨?_, ?_, ?_⟩
  · pointwise [k0_pay4]
  · pointwise [k0_pay5]
  · pointwise [k0_pay6]

/-- A sum over the points and their rows is one over the array's rows. -/
theorem sum_rows (f : Fin 4096 → EReal) : ∑ t : Fin cfg0.N, ∑ r : Fin 512, f (row t r) = ∑ R, f R :=
  Fin.sum_mul_add_congr (fun t r hl => congrArg f (Fin.ext (by unfold row; simp only; omega)))

theorem fold (f : (n : ℕ) → n < cfg0.N → Vec Ideal S1x1024 .f32) (g : Fin 4096 → Fin 1024 → EReal)
    (h0 : ∀ t : Fin cfg0.N, t.val % 8 = 0 → ∀ l, f t.val t.isLt (ix2 0 l) = 0 + ∑ r : Fin 512, g (row t r) l)
    (hs : ∀ t : Fin cfg0.N, ¬t.val % 8 = 0 → ∀ l, f t.val t.isLt (ix2 0 l) =
      f (t.val - 1) (by omega) (ix2 0 l) + ∑ r : Fin 512, g (row t r) l) (l : Fin 1024) :
    f t0_7.val t0_7.isLt (ix2 0 l) = ∑ R, g R l := by
  have h := Pipeline.eq_sum_fin_of_reset_step_apply_last (fun n h l => f n h (ix2 0 l)) 8 (fun _ => 0)
    (fun t l => ∑ r : Fin 512, g (row t r) l) h0 hs (le_of_eq N_0) t0_7 rfl l
  rw [h, zero_add, sum_rows fun R => g R l]

/-- The squares' column sums. -/
theorem final7 : (dats m 0 c).arrAt 7 cfg0.N = fun j => ∑ R, errA m c R (j 1) * errA m c R (j 1) := by
  refine (dats m 0 c).arrAt_eq_of_after_last 7 t0_7 (by decide +kernel) _ fun j => ?_
  idx_vars j
  obtain rfl : j0 = 0 := Subsingleton.elim _ _
  blk_simp [idx]
  rw [after0_7]
  exact fold (fun n h => (outsAt0 m c n h).2.1) (fun R l => errA m c R l * errA m c R l)
    (fun t h l => by rw [sq_first m c t h, sq_at, (zero_at l).1])
    (fun t h l => by rw [sq_next m c t h, sq_at]) j1

/-- The scale's gradient. -/
theorem final8 : (dats m 0 c).arrAt 8 cfg0.N = fun j => ∑ R, cotA m c R (j 1) * nrmA m c R (j 1) := by
  refine (dats m 0 c).arrAt_eq_of_after_last 8 t0_7 (by decide +kernel) _ fun j => ?_
  idx_vars j
  obtain rfl : j0 = 0 := Subsingleton.elim _ _
  blk_simp [idx]
  rw [after0_8]
  exact fold (fun n h => (outsAt0 m c n h).2.2.1) (fun R l => cotA m c R l * nrmA m c R l)
    (fun t h l => by rw [dgain_first m c t h, dgain_at, (zero_at l).2.1])
    (fun t h l => by rw [dgain_next m c t h, dgain_at]) j1

/-- The shift's gradient. -/
theorem final9 : (dats m 0 c).arrAt 9 cfg0.N = fun j => ∑ R, cotA m c R (j 1) := by
  refine (dats m 0 c).arrAt_eq_of_after_last 9 t0_7 (by decide +kernel) _ fun j => ?_
  idx_vars j
  obtain rfl : j0 = 0 := Subsingleton.elim _ _
  blk_simp [idx]
  rw [after0_9]
  exact fold (fun n h => (outsAt0 m c n h).2.2.2) (fun R l => cotA m c R l)
    (fun t h l => by rw [dshift_first m c t h, dshift_at, (zero_at l).2.2])
    (fun t h l => by rw [dshift_next m c t h, dshift_at]) j1

/-- The gradient block of a point. -/
theorem rows_at (t : Fin cfg0.N) (y : S512x1024.Idx) :
    (outsAt0 m c t.val t.isLt).1 y = dresA m c (row t (y 0)) (y 1) := by
  have e : (outsAt0 m c t.val t.isLt).1 = View.canon (pieces m c t) := by
    by_cases h : t.val % 8 = 0
    · exact rows_first m c t h
    · exact rows_next m c t h
  rw [e]
  unfold pieces
  canon_tiles x h
  · idx_vars x
    rw [dres1]
    congr 1
    · exact Fin.ext (by unfold row hi; show 512 * t.val + (256 + x0.val) = 512 * t.val + (y 0).val; rw [h0])
    · exact Fin.ext h1.symm
  · idx_vars x
    rw [dres0]
    congr 1
    · exact Fin.ext (by unfold row lo; show 512 * t.val + x0.val = 512 * t.val + (y 0).val; rw [h0])
    · exact Fin.ext h1.symm

/-- The gradient rows. -/
theorem final6 : (dats m 0 c).arrAt 6 cfg0.N = fun j => dresA m c (j 0) (j 1) := by
  refine (dats m 0 c).arrAt_eq_of_covers 6 _ (by decide +kernel) fun t hf y => ?_
  blk_simp [idx]
  rw [after0_6]
  refine (rows_at m c t y).trans ?_
  congr 1
  · apply Fin.ext; unfold row; blk_simp [idx]; show 512 * t.val + (y 0).val = _; omega
  · apply Fin.ext; blk_simp [idx]

end Cert.KernelIdeal.Down

end
-- ==== Proof.DownRef.lean ====
/-
  What the reference of the down-projection and loss computes, at an index: the same rows as the kernel's, and the
  gradients as reverse-mode differentiation composes them.
-/
module

public import proofs.«01_k».proof.Proof.DownArray
public import proofs.«01_k».proof.Proof.Gen.ReferenceIdeal.Read

@[expose] public section

set_option maxRecDepth 16384

noncomputable section

namespace Cert.ReferenceIdeal.Down

open Cert.ReferenceIdeal Cert.ReferenceIdeal.Gen Idealize.ShloMosaic Cert.RowNorm
open Cert.ReferenceIdeal.Read
open Cert.KernelIdeal.Down (res nrm err)
open Cert.Words

variable (x0 : Vec Ideal S4096x2816 .f32) (x1 : Vec Ideal S2816x1024 .f32) (x2 : Vec Ideal S4096x1024 .f32)
  (x3 x4 : Vec Ideal S1x1024 .f32) (x5 : Vec Ideal S4096x1024 .f32) (R : Fin 4096) (l : Fin 1024)

theorem v3_at : val_main_v3 x0 x1 x2 (ix2 R l) = res x0 x1 x2 R l := by
  pointwise [val_main_v3, val_main_v2, val_main_v1, val_main_v0, val_main_cst]
  rfl

theorem v9_at (q : Fin 1) : val_main_v9 x0 x1 x2 (ix2 R q) = mean cnt (res x0 x1 x2 R) := by
  pointwise [val_main_v9, val_main_v8, val_main_v7, val_main_v6, val_main_cst_0, val_main_cst_1, v3_at]
  rfl

theorem v20_at : val_main_v20 x0 x1 x2 (ix2 R l) = centred cnt (res x0 x1 x2 R) l := by
  pointwise [val_main_v20, val_main_v19, v9_at, v3_at]
  rfl
theorem v11_at : val_main_v11 x0 x1 x2 (ix2 R l) = centred cnt (res x0 x1 x2 R) l := by
  pointwise [val_main_v11, val_main_v10, v9_at, v3_at]
  rfl
theorem v22_at (q : Fin 1) : val_main_v22 x0 x1 x2 (ix2 R q) = spread cnt eps (res x0 x1 x2 R) := by
  pointwise [val_main_v22, val_main_v21, val_main_v18, val_main_v17, val_main_v16, val_main_v15, val_main_v12,
    val_main_cst_3, val_main_cst_4, val_main_cst_5, v11_at]
  rfl
theorem v23_at (q : Fin 1) : val_main_v23 x0 x1 x2 (ix2 R q) = scale cnt eps (res x0 x1 x2 R) := by
  pointwise [val_main_v23, v22_at]
  rfl
theorem v28_at : val_main_v28 x0 x1 x2 (ix2 R l) = nrm x0 x1 x2 R l := by
  pointwise [val_main_v28, val_main_v27, v20_at, v23_at]
  rfl
theorem v35_at : val_main_v35 x0 x1 x2 x3 x4 x5 (ix2 R l) = err x0 x1 x2 x3 x4 x5 R l := by
  pointwise [val_main_v35, val_main_v34, val_main_v33, val_main_v32, val_main_v31, val_main_v30, val_main_v29, val_main_v4, val_main_v5, v28_at]
  rfl

/-- The output's cotangent, as differentiation composes it: half the mean's weight times twice the distance. -/
def dout (R : Fin 4096) (l : Fin 1024) : EReal :=
  Ideal.div (Ideal.ofBits .f32 0x3F000000#32) cnt * (two * err x0 x1 x2 x3 x4 x5 R l)

theorem v49_at : val_main_v49 x0 x1 x2 x3 x4 x5 (ix2 R l) = dout x0 x1 x2 x3 x4 x5 R l := by
  pointwise [val_main_v49, val_main_v48, val_main_v47, val_main_v46, val_main_v45, val_main_v44, val_main_cst_12,
    val_main_cst_13, val_main_cst_14, val_main_v38, val_main_v37, val_main_cst_7, v35_at]
  rfl

/-- The shift's gradient. -/
theorem v83_at (q : Fin 1) : val_main_v83 x0 x1 x2 x3 x4 x5 (ix2 q l) = ∑ R, dout x0 x1 x2 x3 x4 x5 R l := by
  pointwise [val_main_v83, val_main_v52, val_main_v51, val_main_v50, val_main_cst_15, val_main_cst_16, v49_at]
  exact Fin.sum_univ_one _

/-- The scale's gradient. -/
theorem v84_at (q : Fin 1) : val_main_v84 x0 x1 x2 x3 x4 x5 (ix2 q l) =
    ∑ R, nrm x0 x1 x2 R l * dout x0 x1 x2 x3 x4 x5 R l := by
  pointwise [val_main_v84, val_main_v58, val_main_v55, val_main_v54, val_main_v53, val_main_cst_17, val_main_cst_18, v49_at, v28_at]
  exact Fin.sum_univ_one _

/-- The squares' column sums. -/
theorem v86_at (q : Fin 1) : val_main_v86 x0 x1 x2 x3 x4 x5 (ix2 q l) =
    ∑ R, err x0 x1 x2 x3 x4 x5 R l * err x0 x1 x2 x3 x4 x5 R l := by
  pointwise [val_main_v86, val_main_v85, val_main_v36, val_main_cst_26, v35_at]

/-- The gradient that reaches the normalised row. -/
theorem v57_at : val_main_v57 x0 x1 x2 x3 x4 x5 (ix2 R l) = dout x0 x1 x2 x3 x4 x5 R l * x3 (ix2 0 l) := by
  pointwise [val_main_v57, val_main_v56, val_main_v29, val_main_v4, v49_at]

/-- The gradient that reaches the normalised row, as a function of the row. -/
abbrev din : Fin 1024 → EReal := fun k => dout x0 x1 x2 x3 x4 x5 R k * x3 (ix2 0 k)

theorem v63_at : val_main_v63 x0 x1 x2 x3 x4 x5 (ix2 R l) =
    din x0 x1 x2 x3 x4 x5 R l * scale cnt eps (res x0 x1 x2 R) := by
  pointwise [val_main_v63, val_main_v62, v57_at, v23_at]

theorem v70_at : val_main_v70 x0 x1 x2 x3 x4 x5 (ix1 R) = share cnt eps half (res x0 x1 x2 R) (din x0 x1 x2 x3 x4 x5 R) := by
  pointwise [val_main_v70, val_main_v69, val_main_v68, val_main_v64, val_main_v61, val_main_v60, val_main_v59,
    val_main_v26, val_main_v25, val_main_v24, val_main_cst_6, val_main_cst_19, val_main_cst_21, val_main_cst_22, v20_at,
    v22_at, v23_at, v57_at]
  rw [Fin.sum_univ_one]
  rfl

theorem v72_at : val_main_v72 x0 x1 x2 x3 x4 x5 (ix2 R l) =
    share cnt eps half (res x0 x1 x2 R) (din x0 x1 x2 x3 x4 x5 R) * (two * centred cnt (res x0 x1 x2 R) l) := by
  pointwise [val_main_v72, val_main_v71, val_main_v14, val_main_v13, val_main_cst_2, v11_at, v70_at]

/-- The residual row's gradient. -/
theorem v82_at : val_main_v82 x0 x1 x2 x3 x4 x5 (ix2 R l) =
    pull cnt eps half two (res x0 x1 x2 R) (din x0 x1 x2 x3 x4 x5 R) l := by
  pointwise [val_main_v82, val_main_v81, val_main_v80, val_main_v79, val_main_v78, val_main_v77, val_main_v76,
    val_main_v75, val_main_v74, val_main_v73, val_main_v67, val_main_v66, val_main_v65, val_main_cst_20,
    val_main_cst_23, val_main_cst_24, val_main_cst_25, v63_at, v72_at]
  rw [Fin.sum_univ_one]
  rfl

end Cert.ReferenceIdeal.Down

end
-- ==== Proof.DownEq.lean ====
/-
  The reference's gradients of the down product, the normalisation and the loss are the ones the kernel writes out, on
  real-valued arguments: the factor of the squared error is the same number, and the two spellings of a normalised row's
  gradient agree.
-/
module

public import proofs.«01_k».proof.Proof.Finite
public import proofs.«01_k».proof.Proof.DownRef

@[expose] public section

noncomputable section

namespace Cert.ReferenceIdeal.Down

open Idealize.ShloMosaic Cert.ReferenceIdeal.Read Cert.RowNorm Cert.Finite
open Cert.KernelIdeal.Down (inv res nrm err cot dres)
open Cert.Words

theorem inv_eq : inv = ((1 / 1024 : ℝ) : EReal) := by simp [Cert.KernelIdeal.Down.inv, Ideal.ofBits, Ideal.ieee, -EReal.coe_mul]; norm_num
theorem one_half_eq : Ideal.ofBits .f32 0x3F000000#32 = ((1 / 2 : ℝ) : EReal) := by
  simp [Ideal.ofBits, Ideal.ieee, -EReal.coe_mul]; norm_num

variable {x0 : FVec Ideal ⟨2, ![4096, 2816]⟩ .f32} {x1 : FVec Ideal ⟨2, ![2816, 1024]⟩ .f32}
  {x2 : FVec Ideal ⟨2, ![4096, 1024]⟩ .f32} {x3 x4 : FVec Ideal ⟨2, ![1, 1024]⟩ .f32}
  {x5 : FVec Ideal ⟨2, ![4096, 1024]⟩ .f32}

section Real

variable (h0 : ∀ i, IsReal (x0 i)) (h1 : ∀ i, IsReal (x1 i)) (h2 : ∀ i, IsReal (x2 i)) (h3 : ∀ i, IsReal (x3 i))
  (h4 : ∀ i, IsReal (x4 i)) (h5 : ∀ i, IsReal (x5 i)) (R : Fin 4096) (l : Fin 1024)

include h0 h1 h2

theorem res_real : IsReal (res x0 x1 x2 R l) :=
  (alpha_real.mul (h2 _)).add (IsReal.sum _ fun _ => (h0 _).mul (h1 _))

theorem nrm_real : IsReal (nrm x0 x1 x2 R l) := by
  obtain ⟨e, he, hp⟩ := eps_pos
  exact unit_real (by norm_num) cnt_eq he hp (res_real h0 h1 h2 R) l

include h3 h4 h5

theorem err_real : IsReal (err x0 x1 x2 x3 x4 x5 R l) :=
  (((nrm_real h0 h1 h2 R l).mul (h3 _)).add (h4 _)).sub (h5 _)

/-- The two spellings of the output's cotangent. -/
theorem dout_eq : dout x0 x1 x2 x3 x4 x5 R l = cot x0 x1 x2 x3 x4 x5 R l := by
  obtain ⟨a, ha⟩ := err_real h0 h1 h2 h3 h4 h5 R l
  unfold dout cot
  rw [ha, cnt_eq, inv_eq, two_eq, one_half_eq, div_coe_coe _ (by norm_num)]
  norm_cast
  push_cast
  ring

/-- The two spellings of the residual row's gradient. -/
theorem pull_eq : pull cnt eps half two (res x0 x1 x2 R) (din x0 x1 x2 x3 x4 x5 R) l = dres x0 x1 x2 x3 x4 x5 R l := by
  obtain ⟨e, he, hp⟩ := eps_pos
  have hc (k) : dout x0 x1 x2 x3 x4 x5 R k = cot x0 x1 x2 x3 x4 x5 R k := dout_eq h0 h1 h2 h3 h4 h5 R k
  have hd (k) : IsReal (cot x0 x1 x2 x3 x4 x5 R k * x3 (ix2 0 k)) :=
    ((err_real h0 h1 h2 h3 h4 h5 R k).mul ⟨_, inv_eq⟩).mul (h3 _)
  unfold dres din
  simp only [hc]
  exact (back_eq_pull (by norm_num) cnt_eq he hp half_eq two_eq (res_real h0 h1 h2 R) hd l).symm

end Real

/-! ### The reference's four results as arrays -/

variable (h0 : ∀ i, IsReal (x0 i)) (h1 : ∀ i, IsReal (x1 i)) (h2 : ∀ i, IsReal (x2 i)) (h3 : ∀ i, IsReal (x3 i))
  (h4 : ∀ i, IsReal (x4 i)) (h5 : ∀ i, IsReal (x5 i))

include h0 h1 h2 h3 h4 h5

/-- The residual's gradient. -/
theorem v82_eq : val_main_v82 (F := Ideal) x0 x1 x2 x3 x4 x5 = fun (j : Shape.Idx ⟨2, ![4096, 1024]⟩) => dres x0 x1 x2 x3 x4 x5 (j 0) (j 1) := by
  funext j
  idx_vars j
  rw [v82_at, pull_eq h0 h1 h2 h3 h4 h5]

/-- The gain's gradient. -/
theorem v84_eq : val_main_v84 (F := Ideal) x0 x1 x2 x3 x4 x5 =
    fun (j : Shape.Idx ⟨2, ![1, 1024]⟩) => ∑ R, cot x0 x1 x2 x3 x4 x5 R (j 1) * nrm x0 x1 x2 R (j 1) := by
  funext j
  idx_vars j
  rw [v84_at]
  exact Finset.sum_congr rfl fun R _ => by rw [dout_eq h0 h1 h2 h3 h4 h5, mul_comm]

/-- The shift's gradient. -/
theorem v83_eq : val_main_v83 (F := Ideal) x0 x1 x2 x3 x4 x5 = fun (j : Shape.Idx ⟨2, ![1, 1024]⟩) => ∑ R, cot x0 x1 x2 x3 x4 x5 R (j 1) := by
  funext j
  idx_vars j
  rw [v83_at]
  exact Finset.sum_congr rfl fun R _ => dout_eq h0 h1 h2 h3 h4 h5 R _

omit h0 h1 h2 h3 h4 h5 in
/-- The column sums of the squared error. -/
theorem v86_eq : val_main_v86 (F := Ideal) x0 x1 x2 x3 x4 x5 =
    fun (j : Shape.Idx ⟨2, ![1, 1024]⟩) => ∑ R, err x0 x1 x2 x3 x4 x5 R (j 1) * err x0 x1 x2 x3 x4 x5 R (j 1) := by
  funext j
  idx_vars j
  exact v86_at ..

end Cert.ReferenceIdeal.Down

end
-- ==== Proof.NormProj.lean ====
/-
  The gradient of a row normalisation followed by a product with a weight, over the extended reals: `x` are the rows,
  `g` and `b` the scale and shift, `w` the weight, `dp` the gradient that arrives at the product and `base` the one that
  arrives at the normalised rows beside it. Two kernels compute it, the input projection's and the up projection's.
-/
module

public import proofs.«01_k».proof.Proof.RowNorm
public import proofs.«01_k».proof.Proof.Words

@[expose] public section

noncomputable section

namespace Cert.NormProj

open Idealize.ShloMosaic Cert.RowNorm Cert.Finite Cert.Words

variable {N K : ℕ} (x : Fin N → Fin 1024 → EReal) (g b : Fin 1024 → EReal) (w : Fin 1024 → Fin K → EReal)
  (dp : Fin N → Fin K → EReal) (base : Fin N → Fin 1024 → EReal) (R : Fin N) (l : Fin 1024)

/-- The normalised row. -/
def nrm : EReal := unit cnt eps (x R) l
/-- The scaled and shifted row. -/
def out : EReal := nrm x R l * g l + b l
/-- The gradient of the scaled and shifted row. -/
def dout : EReal := base R l + ∑ k, dp R k * w l k
/-- The row's gradient, in closed form. -/
def drow : EReal := back cnt eps (x R) (fun k => dout w dp base R k * g k) l
/-- The row's gradient, by the chain rule. -/
def dchain : EReal := pull cnt eps half two (x R) (fun k => dout w dp base R k * g k) l
/-- The weight's gradient. -/
def dweight (k : Fin K) : EReal := ∑ R, dp R k * out x g b R l
/-- The scale's gradient. -/
def dscale : EReal := ∑ R, dout w dp base R l * nrm x R l
/-- The shift's gradient. -/
def dshift : EReal := ∑ R, dout w dp base R l

variable {x g b w dp base}

/-- On real arguments the two spellings of the row's gradient agree. -/
theorem dchain_eq (hx : ∀ R l, IsReal (x R l)) (hg : ∀ l, IsReal (g l)) (hw : ∀ l k, IsReal (w l k))
    (hd : ∀ R k, IsReal (dp R k)) (hb : ∀ R l, IsReal (base R l)) :
    dchain x g w dp base R l = drow x g w dp base R l := by
  obtain ⟨e, he, hp⟩ := eps_pos
  exact (back_eq_pull (by norm_num) cnt_eq he hp half_eq two_eq (hx R)
    (fun k => ((hb R k).add (IsReal.sum _ fun j => (hd R j).mul (hw k j))).mul (hg k)) l).symm

end Cert.NormProj

end
-- ==== Proof.InBlock.lean ====
/-
  What one grid point of the input projection's backward call computes, at an index.
-/
module

public import proofs.«01_k».proof.Proof.NormProj
public import proofs.«01_k».proof.Proof.Gen.InProjIdeal.Skeleton
public import Idealize.ShloMosaic.Lib.Pointwise

@[expose] public section

noncomputable section

namespace Cert.InProjIdeal.Block

open Cert.InProjIdeal Cert.InProjIdeal.Gen Idealize.ShloMosaic Cert.RowNorm Cert.Words Cert.NormProj

section Rows

variable (v : Vec Ideal S512x1024 .f32) (g b : Vec Ideal S1x1024 .f32) (p : Fin 512) (l : Fin 1024)

/-- A block's rows, and one row of a vector. -/
abbrev rows (v : Vec Ideal S512x1024 .f32) (p : Fin 512) (l : Fin 1024) : EReal := v (ix2 p l)
abbrev lane (v : Vec Ideal S1x1024 .f32) (l : Fin 1024) : EReal := v (ix2 0 l)

theorem pay5_at : k0_pay5 v (ix2 p l) = centred cnt (rows v p) l := by
  pointwise [k0_pay5]; rfl
theorem pay6_at (q : Fin 1) : k0_pay6 v (ix2 p q) = scale cnt eps (rows v p) := by
  pointwise [k0_pay6, pay5_at]; rfl
theorem pay7_at : k0_pay7 v (ix2 p l) = nrm (rows v) p l := by
  pointwise [k0_pay7, pay5_at, pay6_at]; rfl
theorem pay8_at : k0_pay8 v g b (ix2 p l) = out (rows v) (lane g) (lane b) p l := by
  pointwise [k0_pay8, pay7_at]; rfl

/-- The key and value columns of a block, laid end to end from four blocks of 128 rows. -/
theorem pay13_at (f : Fin 512 → Fin 256 → EReal) (w0 w1 w2 w3 : Vec Ideal S128x256 .bf16)
    (h0 : ∀ (r : Fin 128) k, w0 (ix2 r k) = f ⟨r.val, by omega⟩ k)
    (h1 : ∀ (r : Fin 128) k, w1 (ix2 r k) = f ⟨128 + r.val, by omega⟩ k)
    (h2 : ∀ (r : Fin 128) k, w2 (ix2 r k) = f ⟨256 + r.val, by omega⟩ k)
    (h3 : ∀ (r : Fin 128) k, w3 (ix2 r k) = f ⟨384 + r.val, by omega⟩ k) (k : Fin 256) :
    k0_pay13 (k0_pay10 w0) (k0_pay11 w1) (k0_pay12 w2) w3 (ix2 p k) = f p k := by
  pointwise [k0_pay13, k0_pay10, k0_pay11, k0_pay12, h0, h1, h2, h3]
  split_ifs <;> first | rfl | (congr 1; apply Fin.ext; simp only; omega)

/-- The gradient of the scaled and shifted rows: the residual's part and the three products. -/
theorem pay18_at (w0 w1 w2 w3 : Vec Ideal S128x256 .bf16) (dq : Vec Ideal S512x512 .bf16) (ds : Vec Ideal S512x1024 .bf16)
    (a : Vec Ideal S512x1024 .bf16) (e : Vec Ideal S256x1024 .bf16) (s : Vec Ideal S1024x1024 .bf16) :
    k0_pay18 (k0_pay9 v) (k0_pay10 w0) (k0_pay11 w1) (k0_pay12 w2) w3 dq ds a e s (ix2 p l) =
      alpha * v (ix2 p l) + ∑ k, dq (ix2 p k) * a (ix2 k l)
        + ∑ k, k0_pay13 (k0_pay10 w0) (k0_pay11 w1) (k0_pay12 w2) w3 (ix2 p k) * e (ix2 k l)
        + ∑ k, ds (ix2 p k) * s (ix2 k l) := by
  pointwise [k0_pay18, k0_pay9, k0_pay14, k0_pay15]

/-- The three row ranges of the weight's gradient, each added to what it held. -/
theorem pay16_at (h : FVec Ideal S512x1024 .bf16) (dq : Vec Ideal S512x512 .bf16) (acc : Vec Ideal S512x1024 .f32) (k : Fin 512) :
    k0_pay16 h dq acc (ix2 k l) = acc (ix2 k l) + ∑ p, dq (ix2 p k) * h (ix2 p l) := by
  pointwise [k0_pay16, k0_pay14]
theorem pay17_at (h : FVec Ideal S512x1024 .bf16) (u0 u1 u2 : FVec Ideal S128x256 .bf16) (u3 : Vec Ideal S128x256 .bf16)
    (acc : Vec Ideal S256x1024 .f32) (k : Fin 256) :
    k0_pay17 h u0 u1 u2 u3 acc (ix2 k l) = acc (ix2 k l) + ∑ p, k0_pay13 u0 u1 u2 u3 (ix2 p k) * h (ix2 p l) := by
  pointwise [k0_pay17]
theorem pay20_at (h : FVec Ideal S512x1024 .bf16) (ds : Vec Ideal S512x1024 .bf16) (acc : Vec Ideal S1024x1024 .f32) (k : Fin 1024) :
    k0_pay20 h (k0_pay15 ds) (k0_pay19 acc) (ix2 k l) = acc (ix2 k l) + ∑ p, ds (ix2 p k) * h (ix2 p l) := by
  pointwise [k0_pay20, k0_pay15, k0_pay19]

/-- The scale's and the shift's gradients, added to what the block held. -/
theorem pay21_at (n d : FVec Ideal S512x1024 .f32) (acc : Vec Ideal S1x1024 .f32) :
    k0_pay21 n d acc (ix2 0 l) = acc (ix2 0 l) + ∑ p, d (ix2 p l) * n (ix2 p l) := by
  pointwise [k0_pay21]
theorem pay22_at (d : FVec Ideal S512x1024 .f32) (acc : Vec Ideal S1x1024 .f32) :
    k0_pay22 d acc (ix2 0 l) = acc (ix2 0 l) + ∑ p, d (ix2 p l) := by
  pointwise [k0_pay22]

/-- The rows' gradient. -/
theorem pay23_at (d : FVec Ideal S512x1024 .f32) : k0_pay1 (k0_pay23 (k0_pay6 v) (k0_pay7 v) d g) (ix2 p l) =
    back cnt eps (rows v p) (fun k => d (ix2 p k) * g (ix2 0 k)) l := by
  pointwise [k0_pay1, k0_pay23, pay6_at, pay7_at]; rfl

theorem zero_at (k : Fin 1792) : k0_pay2 (F := Ideal) (ix2 k l) = 0 ∧ k0_pay3 (F := Ideal) (ix2 0 l) = 0
    ∧ k0_pay4 (F := Ideal) (ix2 0 l) = 0 := by
  refine ⟨?_, ?_, ?_⟩
  · pointwise [k0_pay2]
  · pointwise [k0_pay3]
  · pointwise [k0_pay4]

end Rows

end Cert.InProjIdeal.Block

end
-- ==== Proof.InOuts.lean ====
/-
  What the four output blocks of the input projection's backward call hold after each grid point.
-/
module

public import proofs.«01_k».proof.Proof.InBlock
public import Idealize.ShloMosaic.Lib.Pipeline.ValueKit.Acc
public import Idealize.ShloMosaic.Lib.Pipeline.ReadBack
public import proofs.«01_k».proof.Proof.Gen.InProjIdeal.Value

@[expose] public section

noncomputable section

namespace Cert.InProjIdeal.Block

open Cert.InProjIdeal Cert.InProjIdeal.Gen Idealize.ShloMosaic Idealize.ShloMosaic.TcCoe Cert.RowNorm Cert.Words

variable {F : FTy → Type} [FloatOps F] (m : (ℓ : Loc nD τ sig) → Buf (Elt F) ℓ) (c : Dev nD) (t : Fin cfg0.N)

/-- The point's rows, scale, shift. -/
abbrev xin : Vec F S512x1024 .f32 := iblk m c 7 t
abbrev gain : Vec F S1x1024 .f32 := iblk m c 8 t
abbrev shift : Vec F S1x1024 .f32 := iblk m c 9 t
/-- The scaled and shifted rows that the forward pass multiplied by the weight. -/
def outb : FVec F S512x1024 .bf16 := k0_pay8 (xin m c t) (gain m c t) (shift m c t)
/-- The gradient of those rows. -/
def dout : FVec F S512x1024 .f32 :=
  k0_pay18 (k0_pay9 (iblk m c 6 t)) (k0_pay10 (iblk m c 1 t)) (k0_pay11 (iblk m c 2 t)) (k0_pay12 (iblk m c 3 t))
    (iblk m c 4 t) (iblk m c 0 t) (iblk m c 5 t)
    (View.ld (iblk m c 10 t) (Rect.unit ![0, 0] ![512, 1024] inb_S1792x1024_S512x1024_0_0))
    (View.ld (iblk m c 10 t) (Rect.unit ![512, 0] ![256, 1024] inb_S1792x1024_S256x1024_512_0))
    (View.ld (iblk m c 10 t) (Rect.unit ![768, 0] ![1024, 1024] inb_S1792x1024_S1024x1024_768_0))

/-- The weight's gradient in the three row ranges it is stored in, from what the block held. -/
def pieces (acc : Vec F S1792x1024 .f32) : List (View.Piece (Elt F) S1792x1024 .f32) :=
  [⟨Rect.unit ![768, 0] ![1024, 1024] inb_S1792x1024_S1024x1024_768_0,
      k0_pay20 (outb m c t) (k0_pay15 (iblk m c 5 t))
        (k0_pay19 (View.ld acc (Rect.unit ![768, 0] ![1024, 1024] inb_S1792x1024_S1024x1024_768_0)))⟩,
    ⟨Rect.unit ![512, 0] ![256, 1024] inb_S1792x1024_S256x1024_512_0,
      k0_pay17 (outb m c t) (k0_pay10 (iblk m c 1 t)) (k0_pay11 (iblk m c 2 t)) (k0_pay12 (iblk m c 3 t)) (iblk m c 4 t)
        (View.ld acc (Rect.unit ![512, 0] ![256, 1024] inb_S1792x1024_S256x1024_512_0))⟩,
    ⟨Rect.unit ![0, 0] ![512, 1024] inb_S1792x1024_S512x1024_0_0,
      k0_pay16 (outb m c t) (iblk m c 0 t)
        (View.ld acc (Rect.unit ![0, 0] ![512, 1024] inb_S1792x1024_S512x1024_0_0))⟩]

theorem w_first (h : t.val % 8 = 0) : (outsAt0 m c t.val t.isLt).2.1 = View.canon (pieces m c t k0_pay2 ++
    [⟨Rect.unit ![0, 0] ![1792, 1024] inb_S1792x1024_S1792x1024_0_0, k0_pay2⟩]) := by
  rw [outsAt0_A m c t h]; frame_out
  simp (disch := decide) only [↓ View.readCov_skip, ↓ View.readCov_fill]
  rfl
theorem w_next (h : ¬t.val % 8 = 0) : (outsAt0 m c t.val t.isLt).2.1 =
    View.canon (pieces m c t (outsAt0 m c (t.val - 1) (by omega)).2.1 ++ []) := by
  rw [outsAt0_B m c t h]; frame_out; rfl

/-- The rows' gradient. -/
def drows : FVec F S512x1024 .f32 := k0_pay1 (k0_pay23 (k0_pay6 (xin m c t)) (k0_pay7 (xin m c t)) (dout m c t) (gain m c t))

theorem x_first (h : t.val % 8 = 0) : (outsAt0 m c t.val t.isLt).1 = drows m c t := by
  rw [outsAt0_A m c t h]; frame_out; rfl
theorem x_next (h : ¬t.val % 8 = 0) : (outsAt0 m c t.val t.isLt).1 = drows m c t := by
  rw [outsAt0_B m c t h]; frame_out; rfl
theorem g_first (h : t.val % 8 = 0) : (outsAt0 m c t.val t.isLt).2.2.1 = k0_pay21 (k0_pay7 (xin m c t)) (dout m c t) k0_pay3 := by
  rw [outsAt0_A m c t h]; frame_out; rfl
theorem g_next (h : ¬t.val % 8 = 0) : (outsAt0 m c t.val t.isLt).2.2.1 =
    k0_pay21 (k0_pay7 (xin m c t)) (dout m c t) (outsAt0 m c (t.val - 1) (by omega)).2.2.1 := by
  rw [outsAt0_B m c t h]; frame_out; rfl
theorem b_first (h : t.val % 8 = 0) : (outsAt0 m c t.val t.isLt).2.2.2 = k0_pay22 (dout m c t) k0_pay4 := by
  rw [outsAt0_A m c t h]; frame_out; rfl
theorem b_next (h : ¬t.val % 8 = 0) : (outsAt0 m c t.val t.isLt).2.2.2 =
    k0_pay22 (dout m c t) (outsAt0 m c (t.val - 1) (by omega)).2.2.2 := by
  rw [outsAt0_B m c t h]; frame_out; rfl

end Cert.InProjIdeal.Block

end
-- ==== Proof.InLate.lean ====
/-
  The key and value columns of the projection's gradient as the input projection's backward call receives them: 128 rows
  late.
-/
module

public import proofs.«01_k».proof.Proof.InBlock

@[expose] public section

noncomputable section

namespace Cert.InProjIdeal.Block

open Cert.InProjIdeal Cert.InProjIdeal.Gen Idealize.ShloMosaic

/-- Zeros. -/
abbrev zeros : Vec Ideal S_ .bf16 := constant (F := Ideal) S_ .bf16 0x0000#16
abbrev zeros128 : Vec Ideal S128x256 .bf16 := broadcastInDim S128x256 ![] bcast_S_S128x256 zeros
abbrev zeros384 : Vec Ideal S384x256 .bf16 := broadcastInDim S384x256 ![] bcast_S_S384x256 zeros
/-- The projection's gradient, cast. -/
abbrev narrow (d : Vec Ideal S4096x1792 .f32) : Vec Ideal S4096x1792 .bf16 := truncf (F := Ideal) .bf16 d bitsLt_bf16_f32
/-- The key and value columns of the projection's gradient. -/
abbrev dkv (d : Vec Ideal S4096x1792 .f32) : Vec Ideal S4096x256 .bf16 :=
  extractStridedSlice S4096x256 ![0, 512] (narrow d) slices_S4096x1792_S4096x256_0_512
/-- Those columns, 128 rows of zeros before them and 384 after. -/
def late (d : Vec Ideal S4096x1792 .f32) : Vec Ideal S4608x256 .bf16 :=
  concatenate S4608x256 0 [⟨S128x256, zeros128⟩, ⟨S4096x256, dkv d⟩, ⟨S384x256, zeros384⟩]
    concatenates_S128x256_S4096x256_S384x256_S4608x256_d0

theorem late_at (d : Vec Ideal S4096x1792 .f32) (Q : Fin 4608) (R : Fin 4096) (k : Fin 256) (h : Q.val = 128 + R.val) :
    late d (ix2 Q k) = d (ix2 R ⟨512 + k.val, by omega⟩) := by
  have h1 : ¬Q.val < 128 := by omega
  pointwise [late, zeros128, zeros384, dkv, narrow, h1]
  split_ifs
  all_goals first
    | (exfalso; omega)
    | (congr 1; exact congrArg (fun a => ix2 a _) (Fin.ext (by simp only; omega)))

end Cert.InProjIdeal.Block

end
-- ==== Proof.InReads.lean ====
/-
  The blocks that a grid point of the input projection's backward call reads, as entries of the program's arguments.
-/
module

public import proofs.«01_k».proof.Proof.InOuts
public import proofs.«01_k».proof.Proof.InLate
public import Idealize.ShloMosaic.Lib.Pipeline.ValueKit

@[expose] public section

set_option maxRecDepth 16384

noncomputable section

namespace Cert.InProjIdeal.Block

open Cert.InProjIdeal Cert.InProjIdeal.Gen Idealize.ShloMosaic Idealize.ShloMosaic.TcCoe Cert.RowNorm Cert.Words

variable (m : (ℓ : Loc nD τ sig) → Buf (Elt Ideal) ℓ) (c : Dev nD)

/-- The arguments: rows, scale, shift, weight, the projection's gradient and the residual's. -/
abbrev rowsA : Vec Ideal S4096x1024 .f32 := m ((c : Thread nD τ).loc main_arg0)
abbrev gainA : Vec Ideal S1x1024 .f32 := m ((c : Thread nD τ).loc main_arg1)
abbrev shiftA : Vec Ideal S1x1024 .f32 := m ((c : Thread nD τ).loc main_arg2)
abbrev weightA : Vec Ideal S1024x1792 .f32 := m ((c : Thread nD τ).loc main_arg3)
abbrev dprojA : Vec Ideal S4096x1792 .f32 := m ((c : Thread nD τ).loc main_arg4)
abbrev dresA : Vec Ideal S4096x1024 .f32 := m ((c : Thread nD τ).loc main_arg5)

/-- Where each window's block stands in its array. -/
theorem idx : ∀ t : Fin grid0.N, win0_0.index t = ![t.val, 0] ∧ win0_1.index t = ![t.val * 4 + 1, 0]
    ∧ win0_2.index t = ![t.val * 4 + 2, 0] ∧ win0_3.index t = ![t.val * 4 + 3, 0] ∧ win0_4.index t = ![t.val * 4 + 4, 0]
    ∧ win0_5.index t = ![t.val, 0] ∧ win0_6.index t = ![t.val, 0] ∧ win0_7.index t = ![t.val, 0]
    ∧ win0_8.index t = ![0, 0] ∧ win0_9.index t = ![0, 0] ∧ win0_10.index t = ![0, 0] ∧ win0_11.index t = ![t.val, 0]
    ∧ win0_12.index t = ![0, 0] ∧ win0_13.index t = ![0, 0] ∧ win0_14.index t = ![0, 0] := by decide +kernel

theorem points : grid0.N = 8 := by decide +kernel

/-- The array's row that row `r` of point `t`'s block is. -/
def row (t : Fin cfg0.N) (r : Fin 512) : Fin 4096 := ⟨512 * t.val + r.val, by
  have := t.isLt; have h : cfg0.N = 8 := points; omega⟩

variable (t : Fin cfg0.N)

theorem x_at (r : Fin 512) (l : Fin 1024) : iblk m c 7 t (ix2 r l) = rowsA m c (ix2 (row t r) l) := by
  unfold row
  blk_ext [iblk, V, idx t]
theorem gain_at (l : Fin 1024) : iblk m c 8 t (ix2 0 l) = gainA m c (ix2 0 l) := by
  blk_ext [iblk, V, idx t]
theorem shift_at (l : Fin 1024) : iblk m c 9 t (ix2 0 l) = shiftA m c (ix2 0 l) := by
  blk_ext [iblk, V, idx t]
theorem dres_at (r : Fin 512) (l : Fin 1024) : iblk m c 6 t (ix2 r l) = dresA m c (ix2 (row t r) l) := by
  unfold row
  blk_ext [iblk, V, idx t]
theorem weight_at (k : Fin 1792) (l : Fin 1024) : iblk m c 10 t (ix2 k l) = weightA m c (ix2 l k) := by
  blk_ext! [iblk, V, idx t]
theorem dq_at (r : Fin 512) (k : Fin 512) : iblk m c 0 t (ix2 r k) = dprojA m c (ix2 (row t r) ⟨k.val, by omega⟩) := by
  unfold row
  blk_ext! [iblk, V, idx t]
theorem dsuv_at (r : Fin 512) (k : Fin 1024) : iblk m c 5 t (ix2 r k) = dprojA m c (ix2 (row t r) ⟨768 + k.val, by omega⟩) := by
  unfold row
  blk_ext! [iblk, V, idx t]
theorem late_eq : StableHlo.after hostOps0 (fun b => m (c, b)) (Proc.tc.devRef main_v4) = late (dprojA m c) := by
  rfl

/-- The padded rows that a point's four blocks of 128 rows are. -/
def lateRow (t : Fin cfg0.N) (b : Fin 4) (r : Fin 128) : Fin 4608 := ⟨(t.val * 4 + b.val + 1) * 128 + r.val, by
  have := t.isLt; have h : cfg0.N = 8 := points; omega⟩

theorem dkv1_at (r : Fin 128) (k : Fin 256) : iblk m c 1 t (ix2 r k) =
    dprojA m c (ix2 (row t ⟨r.val, by omega⟩) ⟨512 + k.val, by omega⟩) := by
  refine Eq.trans (b := late (dprojA m c) (ix2 (lateRow t 0 r) k)) ?_
    (late_at _ _ _ _ (by unfold lateRow row; show (t.val * 4 + 0 + 1) * 128 + r.val = 128 + (512 * t.val + (r.val)); omega))
  unfold lateRow
  blk_ext [iblk, V, late_eq, idx t]
theorem dkv2_at (r : Fin 128) (k : Fin 256) : iblk m c 2 t (ix2 r k) =
    dprojA m c (ix2 (row t ⟨128 + r.val, by omega⟩) ⟨512 + k.val, by omega⟩) := by
  refine Eq.trans (b := late (dprojA m c) (ix2 (lateRow t 1 r) k)) ?_
    (late_at _ _ _ _ (by unfold lateRow row; show (t.val * 4 + 1 + 1) * 128 + r.val = 128 + (512 * t.val + (128 + r.val)); omega))
  unfold lateRow
  blk_ext [iblk, V, late_eq, idx t]
theorem dkv3_at (r : Fin 128) (k : Fin 256) : iblk m c 3 t (ix2 r k) =
    dprojA m c (ix2 (row t ⟨256 + r.val, by omega⟩) ⟨512 + k.val, by omega⟩) := by
  refine Eq.trans (b := late (dprojA m c) (ix2 (lateRow t 2 r) k)) ?_
    (late_at _ _ _ _ (by unfold lateRow row; show (t.val * 4 + 2 + 1) * 128 + r.val = 128 + (512 * t.val + (256 + r.val)); omega))
  unfold lateRow
  blk_ext [iblk, V, late_eq, idx t]
theorem dkv4_at (r : Fin 128) (k : Fin 256) : iblk m c 4 t (ix2 r k) =
    dprojA m c (ix2 (row t ⟨384 + r.val, by omega⟩) ⟨512 + k.val, by omega⟩) := by
  refine Eq.trans (b := late (dprojA m c) (ix2 (lateRow t 3 r) k)) ?_
    (late_at _ _ _ _ (by unfold lateRow row; show (t.val * 4 + 3 + 1) * 128 + r.val = 128 + (512 * t.val + (384 + r.val)); omega))
  unfold lateRow
  blk_ext [iblk, V, late_eq, idx t]

end Cert.InProjIdeal.Block

end
-- ==== Proof.Points.lean ====
/-
  A grid whose points each hold 512 rows of an array of 4096: an output block that every point adds its rows to ends as
  the sum over the array's rows.
-/
module

public import Idealize.ShloMosaic.Lib.Pipeline.ValueKit
public import Idealize.ShloMosaic.Lib.Pipeline.ValueKit.Acc

@[expose] public section

noncomputable section

namespace Cert.Points

open Idealize.ShloMosaic

variable {N : ℕ} (hN : N = 8)

/-- The array's row that row `r` of point `t` is. -/
def row (t : Fin N) (r : Fin 512) : Fin 4096 := ⟨512 * t.val + r.val, by have := t.isLt; omega⟩

/-- A sum over the points and their rows is one over the array's rows. -/
theorem sum_rows (f : Fin 4096 → EReal) : ∑ t : Fin N, ∑ r : Fin 512, f (row hN t r) = ∑ R, f R := by
  subst hN
  exact Fin.sum_mul_add_congr (fun t r hl => congrArg f (Fin.ext (by unfold row; simp only; omega)))

/-- A block set to zero plus the first point's rows, and added to by every later point. -/
theorem fold {L : Type} (f : (n : ℕ) → n < N → L → EReal) (g : Fin 4096 → L → EReal)
    (h0 : ∀ t : Fin N, t.val % 8 = 0 → ∀ l, f t.val t.isLt l = 0 + ∑ r : Fin 512, g (row hN t r) l)
    (hs : ∀ t : Fin N, ¬t.val % 8 = 0 → ∀ l, f t.val t.isLt l =
      f (t.val - 1) (by omega) l + ∑ r : Fin 512, g (row hN t r) l)
    (t : Fin N) (ht : t.val = 7) (l : L) : f t.val t.isLt l = ∑ R, g R l := by
  have h := Pipeline.eq_sum_fin_of_reset_step_apply_last f 8 (fun _ => 0)
    (fun t l => ∑ r : Fin 512, g (row hN t r) l) h0 hs (le_of_eq hN) t (by omega) l
  rw [h, zero_add, sum_rows hN fun R => g R l]

end Cert.Points

end
-- ==== Proof.InArray.lean ====
/-
  What the four result arrays of the input projection's backward call hold after its run, as the functions of `NormProj`
  of the program's arguments.
-/
module

public import proofs.«01_k».proof.Proof.InReads
public import proofs.«01_k».proof.Proof.Points

@[expose] public section

set_option maxRecDepth 16384

noncomputable section

namespace Cert.InProjIdeal.Block

open Cert.InProjIdeal Cert.InProjIdeal.Gen Idealize.ShloMosaic Idealize.ShloMosaic.TcCoe Cert.RowNorm Cert.Words

variable (m : (ℓ : Loc nD τ sig) → Buf (Elt Ideal) ℓ) (c : Dev nD) (t : Fin cfg0.N)

/-- The arguments as `NormProj` takes them. -/
abbrev fx (R : Fin 4096) (l : Fin 1024) : EReal := rowsA m c (ix2 R l)
abbrev fg (l : Fin 1024) : EReal := gainA m c (ix2 0 l)
abbrev fb (l : Fin 1024) : EReal := shiftA m c (ix2 0 l)
abbrev fw (l : Fin 1024) (k : Fin 1792) : EReal := weightA m c (ix2 l k)
abbrev fd (R : Fin 4096) (k : Fin 1792) : EReal := dprojA m c (ix2 R k)
abbrev fr (R : Fin 4096) (l : Fin 1024) : EReal := alpha * dresA m c (ix2 R l)

/-- A sum over the projection's columns, in the three ranges that the call takes. -/
theorem sum_split (f : Fin 1792 → EReal) : ∑ K, f K = ∑ k : Fin 512, f ⟨k.val, by omega⟩
    + ∑ k : Fin 256, f ⟨512 + k.val, by omega⟩ + ∑ k : Fin 1024, f ⟨768 + k.val, by omega⟩ := by
  rw [show ∑ K, f K = _ from Fin.sum_univ_add (a := 768) (b := 1024) f]
  congr 1
  exact Fin.sum_univ_add (a := 512) (b := 256) fun i => f (Fin.castAdd 1024 i)

theorem dkv_at (r : Fin 512) (k : Fin 256) :
    k0_pay13 (k0_pay10 (iblk m c 1 t)) (k0_pay11 (iblk m c 2 t)) (k0_pay12 (iblk m c 3 t)) (iblk m c 4 t) (ix2 r k) =
      fd m c (row t r) ⟨512 + k.val, by omega⟩ :=
  pay13_at r (fun r k => fd m c (row t r) ⟨512 + k.val, by omega⟩) _ _ _ _ (fun r k => dkv1_at m c t r k)
    (fun r k => dkv2_at m c t r k) (fun r k => dkv3_at m c t r k) (fun r k => dkv4_at m c t r k) k

/-- The rows that a load of the weight reads. -/
theorem ld_at {e : EltTy} (X : Vec Ideal S1792x1024 e) (o n : ℕ) (inb : ∀ a, (![o, 0] : Fin 2 → ℕ) a + (![n, 1024] : Fin 2 → ℕ) a ≤ S1792x1024.size a)
    (h : o + n ≤ 1792) (k : Fin n) (l : Fin 1024) :
    View.ld X (Rect.unit ![o, 0] ![n, 1024] inb) (ix2 k l) = X (ix2 ⟨o + k.val, by omega⟩ l) :=
  View.ld_unit_apply_of _ _ _ _ _ _ fun a => by fin_cases a <;> simp

theorem out_at (r : Fin 512) (l : Fin 1024) :
    outb m c t (ix2 r l) = NormProj.out (fx m c) (fg m c) (fb m c) (row t r) l := by
  unfold outb
  rw [pay8_at]
  unfold NormProj.out NormProj.nrm rows lane xin gain shift
  simp only [x_at, gain_at, shift_at]

theorem nrm_at (r : Fin 512) (l : Fin 1024) : k0_pay7 (xin m c t) (ix2 r l) = NormProj.nrm (fx m c) (row t r) l := by
  rw [pay7_at]
  unfold NormProj.nrm rows xin
  simp only [x_at]

theorem dout_at (r : Fin 512) (l : Fin 1024) :
    dout m c t (ix2 r l) = NormProj.dout (fw m c) (fd m c) (fr m c) (row t r) l := by
  unfold dout NormProj.dout
  rw [pay18_at, sum_split, ← add_assoc, ← add_assoc, dres_at]
  simp only [dkv_at, dq_at, dsuv_at]
  congr 1
  congr 1
  congr 1
  · exact Finset.sum_congr rfl fun k _ => by rw [ld_at _ 0 512 _ (by norm_num), weight_at]; congr 3; exact Fin.ext (by simp)
  · exact Finset.sum_congr rfl fun k _ => by rw [ld_at _ 512 256 _ (by norm_num), weight_at]
  · exact Finset.sum_congr rfl fun k _ => by rw [ld_at _ 768 1024 _ (by norm_num), weight_at]

theorem drows_at (r : Fin 512) (l : Fin 1024) :
    drows m c t (ix2 r l) = NormProj.drow (fx m c) (fg m c) (fw m c) (fd m c) (fr m c) (row t r) l := by
  unfold drows NormProj.drow
  rw [pay23_at]
  unfold rows xin gain
  simp only [x_at, gain_at, dout_at]

/-- One point adds its rows' part of the weight's gradient. -/
def wsum (acc : Vec Ideal S1792x1024 .f32) (y : S1792x1024.Idx) : EReal :=
  acc y + ∑ r : Fin 512, fd m c (row t r) (y 0) * NormProj.out (fx m c) (fg m c) (fb m c) (row t r) (y 1)

theorem emb_at (o n : ℕ) (inb : ∀ a, (![o, 0] : Fin 2 → ℕ) a + (![n, 1024] : Fin 2 → ℕ) a ≤ S1792x1024.size a)
    (h : o + n ≤ 1792) (k : Fin n) (l : Fin 1024) :
    (Rect.unit (s := S1792x1024) ![o, 0] ![n, 1024] inb).emb (ix2 k l) = ix2 ⟨o + k.val, by omega⟩ l :=
  by
  funext a
  refine Fin.ext ((show _ = ((![o, 0] : Fin 2 → ℕ) a + (ix2 k l a : ℕ)) from
    Rect.idx_unit_val (![o, 0] : Fin 2 → ℕ) ![n, 1024] inb (ix2 k l) a).trans ?_)
  fin_cases a <;> simp

theorem pieces_at (acc : Vec Ideal S1792x1024 .f32) : View.PiecesOf (wsum m c t acc) (pieces m c t acc) := by
  refine ⟨fun x => ?_, fun x => ?_, fun x => ?_, trivial⟩
  · idx_vars x
    refine (pay20_at ..).trans ?_
    rw [ld_at _ 768 1024 _ (by norm_num), emb_at 768 1024 _ (by norm_num)]
    simp only [dsuv_at, out_at]
    rfl
  · idx_vars x
    refine (pay17_at ..).trans ?_
    rw [ld_at _ 512 256 _ (by norm_num), emb_at 512 256 _ (by norm_num)]
    simp only [dkv_at, out_at]
    rfl
  · idx_vars x
    refine (pay16_at ..).trans ?_
    rw [ld_at _ 0 512 _ (by norm_num), emb_at 0 512 _ (by norm_num)]
    have e (k : Fin 512) (h : 0 + k.val < 1792) : (⟨0 + k.val, h⟩ : Fin 1792) = ⟨k.val, by omega⟩ := Fin.ext (by simp)
    simp only [dq_at, out_at, e]
    rfl

/-- The three ranges cover the block, whatever it held. -/
theorem canon_at (acc : Vec Ideal S1792x1024 .f32) (L : List (View.Piece (Elt Ideal) S1792x1024 .f32)) (y : S1792x1024.Idx) :
    View.canon (pieces m c t acc ++ L) y = wsum m c t acc y :=
  View.canon_append_of_piecesOf _ L _ (pieces_at m c t acc) y (View.cover_of_tiledBy _ ![256, 1024] (by sl_kernel_rfl) y)

theorem zero2 (y : S1792x1024.Idx) : k0_pay2 (F := Ideal) y = 0 := by
  idx_vars y
  exact (zero_at y1 y0).1

/-- The weight's gradient. -/
theorem final12 : (dats m 0 c).arrAt 12 cfg0.N = fun j =>
    NormProj.dweight (fx m c) (fg m c) (fb m c) (fd m c) (j 1) (j 0) := by
  refine (dats m 0 c).arrAt_eq_of_after_last 12 t0_7 (by decide +kernel) _ fun j => ?_
  blk_simp [idx]
  rw [after0_12]
  exact Points.fold points (fun n h y => (outsAt0 m c n h).2.1 y)
    (fun R y => fd m c R (y 0) * NormProj.out (fx m c) (fg m c) (fb m c) R (y 1))
    (fun t h y => by rw [w_first m c t h, canon_at]; unfold wsum; rw [zero2]; rfl)
    (fun t h y => by rw [w_next m c t h, canon_at]; rfl) t0_7 rfl j

/-- The scale's gradient. -/
theorem final13 : (dats m 0 c).arrAt 13 cfg0.N = fun j =>
    NormProj.dscale (fx m c) (fw m c) (fd m c) (fr m c) (j 1) := by
  refine (dats m 0 c).arrAt_eq_of_after_last 13 t0_7 (by decide +kernel) _ fun j => ?_
  idx_vars j
  obtain rfl : j0 = 0 := Subsingleton.elim _ _
  blk_simp [idx]
  rw [after0_13]
  exact Points.fold points (fun n h l => (outsAt0 m c n h).2.2.1 (ix2 0 l))
    (fun R l => NormProj.dout (fw m c) (fd m c) (fr m c) R l * NormProj.nrm (fx m c) R l)
    (fun t h l => by rw [g_first m c t h, pay21_at, (zero_at l 0).2.1]; simp only [dout_at, nrm_at]; rfl)
    (fun t h l => by rw [g_next m c t h, pay21_at]; simp only [dout_at, nrm_at]; rfl) t0_7 rfl j1

/-- The shift's gradient. -/
theorem final14 : (dats m 0 c).arrAt 14 cfg0.N = fun j =>
    NormProj.dshift (fw m c) (fd m c) (fr m c) (j 1) := by
  refine (dats m 0 c).arrAt_eq_of_after_last 14 t0_7 (by decide +kernel) _ fun j => ?_
  idx_vars j
  obtain rfl : j0 = 0 := Subsingleton.elim _ _
  blk_simp [idx]
  rw [after0_14]
  exact Points.fold points (fun n h l => (outsAt0 m c n h).2.2.2 (ix2 0 l))
    (fun R l => NormProj.dout (fw m c) (fd m c) (fr m c) R l)
    (fun t h l => by rw [b_first m c t h, pay22_at, (zero_at l 0).2.2]; simp only [dout_at]; rfl)
    (fun t h l => by rw [b_next m c t h, pay22_at]; simp only [dout_at]; rfl) t0_7 rfl j1

/-- The rows' gradient. -/
theorem final11 : (dats m 0 c).arrAt 11 cfg0.N = fun j =>
    NormProj.drow (fx m c) (fg m c) (fw m c) (fd m c) (fr m c) (j 0) (j 1) := by
  refine (dats m 0 c).arrAt_eq_of_covers 11 _ (by decide +kernel) fun t hf y => ?_
  blk_simp [idx]
  rw [after0_11]
  have e : (outsAt0 m c t.val t.isLt).1 = drows m c t := by
    by_cases h : t.val % 8 = 0
    · exact x_first m c t h
    · exact x_next m c t h
  rw [e]
  idx_vars y
  refine (drows_at m c t y0 y1).trans ?_
  congr 1
  · apply Fin.ext; unfold row; blk_simp [idx]; show 512 * t.val + y0.val = _; omega
  · apply Fin.ext; blk_simp [idx]

end Cert.InProjIdeal.Block

end
-- ==== Proof.InRef.lean ====
/-
  The reference of the input projection's gradient, stage by stage: its four results as the functions of `NormProj`.
-/
module

public import proofs.«01_k».proof.Proof.NormProj
public import proofs.«01_k».proof.Proof.Gen.InProjRefIdeal.Read
public import Idealize.ShloMosaic.Lib.Pointwise

@[expose] public section

noncomputable section

namespace Cert.InProjRefIdeal.Stage

open Cert.InProjRefIdeal Cert.InProjRefIdeal.Gen Idealize.ShloMosaic Cert.RowNorm Cert.Words Cert.NormProj Cert.Finite
open Cert.InProjRefIdeal.Read

variable (x0 : Vec Ideal S4096x1024 .f32) (x1 x2 : Vec Ideal S1x1024 .f32) (x3 : Vec Ideal S1024x1792 .f32)
  (x4 : Vec Ideal S4096x1792 .f32) (x5 : Vec Ideal S4096x1024 .f32) (R : Fin 4096) (l : Fin 1024)

/-- The rows, the scale, the shift, the weight, and the two gradients that arrive. -/
abbrev rows (R : Fin 4096) (l : Fin 1024) : EReal := x0 (ix2 R l)
abbrev lane (v : Vec Ideal S1x1024 .f32) (l : Fin 1024) : EReal := v (ix2 0 l)
abbrev wt (l : Fin 1024) (k : Fin 1792) : EReal := x3 (ix2 l k)
abbrev dp (R : Fin 4096) (k : Fin 1792) : EReal := x4 (ix2 R k)
abbrev base (R : Fin 4096) (l : Fin 1024) : EReal := alpha * x5 (ix2 R l)

theorem v5_at (q : Fin 1) : val_main_v5 x0 (ix2 R q) = mean cnt (rows x0 R) := by
  pointwise [val_main_v5, val_main_v4, val_main_v3, val_main_v2, val_main_cst, val_main_cst_0]
  rfl
theorem v7_at : val_main_v7 x0 (ix2 R l) = centred cnt (rows x0 R) l := by
  pointwise [val_main_v7, val_main_v6, v5_at]
  rfl
theorem v16_at : val_main_v16 x0 (ix2 R l) = centred cnt (rows x0 R) l := by
  pointwise [val_main_v16, val_main_v15, v5_at]
  rfl
theorem v18_at (q : Fin 1) : val_main_v18 x0 (ix2 R q) = spread cnt eps (rows x0 R) := by
  pointwise [val_main_v18, val_main_v17, val_main_v14, val_main_v13, val_main_v12, val_main_v11, val_main_v8,
    val_main_cst_2, val_main_cst_3, val_main_cst_4, v7_at]
  rfl
theorem v19_at (q : Fin 1) : val_main_v19 x0 (ix2 R q) = scale cnt eps (rows x0 R) := by
  pointwise [val_main_v19, v18_at]
  rfl
theorem v24_at : val_main_v24 x0 (ix2 R l) = nrm (rows x0) R l := by
  pointwise [val_main_v24, val_main_v23, v16_at, v19_at]
  rfl
theorem v30_at : val_main_v30 x0 x1 x2 (ix2 R l) = out (rows x0) (lane x1) (lane x2) R l := by
  pointwise [val_main_v30, val_main_v29, val_main_v28, val_main_v27, val_main_v26, val_main_v25, val_main_v0, val_main_v1, v24_at]
  rfl
theorem v39_at : val_main_v39 x3 x4 x5 (ix2 R l) = dout (wt x3) (dp x4) (base x5) R l := by
  pointwise [val_main_v39, val_main_v38, val_main_v37, val_main_v36, val_main_cst_7]
  exact add_comm _ _

/-- The weight's gradient. -/
theorem v75_at (k : Fin 1792) : val_main_v75 x0 x1 x2 x4 (ix2 k l) =
    dweight (rows x0) (lane x1) (lane x2) (dp x4) l k := by
  pointwise [val_main_v75, val_main_v35, val_main_v34, v30_at]
  rfl
/-- The shift's gradient. -/
theorem v73_at (q : Fin 1) : val_main_v73 x3 x4 x5 (ix2 q l) = dshift (wt x3) (dp x4) (base x5) l := by
  pointwise [val_main_v73, val_main_v42, val_main_v41, val_main_v40, val_main_cst_8, val_main_cst_9, v39_at]
  exact Fin.sum_univ_one _
/-- The scale's gradient. -/
theorem v74_at (q : Fin 1) : val_main_v74 x0 x3 x4 x5 (ix2 q l) = dscale (rows x0) (wt x3) (dp x4) (base x5) l := by
  pointwise [val_main_v74, val_main_v48, val_main_v45, val_main_v44, val_main_v43, val_main_cst_10, val_main_cst_11, v39_at, v24_at]
  rw [Fin.sum_univ_one]
  exact Finset.sum_congr rfl fun R _ => mul_comm _ _

/-- The gradient that reaches the normalised row. -/
abbrev din : Fin 1024 → EReal := fun k => dout (wt x3) (dp x4) (base x5) R k * lane x1 k

theorem v47_at : val_main_v47 x1 x3 x4 x5 (ix2 R l) = din x1 x3 x4 x5 R l := by
  pointwise [val_main_v47, val_main_v46, val_main_v25, val_main_v0, v39_at]
theorem v53_at : val_main_v53 x0 x1 x3 x4 x5 (ix2 R l) = din x1 x3 x4 x5 R l * scale cnt eps (rows x0 R) := by
  pointwise [val_main_v53, val_main_v52, v47_at, v19_at]
theorem v60_at : val_main_v60 x0 x1 x3 x4 x5 (ix1 R) = share cnt eps half (rows x0 R) (din x1 x3 x4 x5 R) := by
  pointwise [val_main_v60, val_main_v59, val_main_v58, val_main_v54, val_main_v51, val_main_v50, val_main_v49,
    val_main_v22, val_main_v21, val_main_v20, val_main_cst_5, val_main_cst_12, val_main_cst_14, val_main_cst_15, v16_at,
    v18_at, v19_at, v47_at]
  rw [Fin.sum_univ_one]
  rfl
theorem v62_at : val_main_v62 x0 x1 x3 x4 x5 (ix2 R l) =
    share cnt eps half (rows x0 R) (din x1 x3 x4 x5 R) * (two * centred cnt (rows x0 R) l) := by
  pointwise [val_main_v62, val_main_v61, val_main_v10, val_main_v9, val_main_cst_1, v7_at, v60_at]

/-- The rows' gradient. -/
theorem v72_at : val_main_v72 x0 x1 x3 x4 x5 (ix2 R l) =
    dchain (rows x0) (lane x1) (wt x3) (dp x4) (base x5) R l := by
  pointwise [val_main_v72, val_main_v71, val_main_v70, val_main_v69, val_main_v68, val_main_v67, val_main_v66,
    val_main_v65, val_main_v64, val_main_v63, val_main_v57, val_main_v56, val_main_v55, val_main_cst_13,
    val_main_cst_16, val_main_cst_17, val_main_cst_18, v53_at, v62_at]
  rw [Fin.sum_univ_one]
  rfl

/-! ### The four results as arrays -/

theorem v72_eq (h0 : ∀ i, IsReal (x0 i)) (h1 : ∀ i, IsReal (x1 i)) (h3 : ∀ i, IsReal (x3 i)) (h4 : ∀ i, IsReal (x4 i))
    (h5 : ∀ i, IsReal (x5 i)) : val_main_v72 (F := Ideal) x0 x1 x3 x4 x5 = fun (j : Shape.Idx ⟨2, ![4096, 1024]⟩) =>
      drow (rows x0) (lane x1) (wt x3) (dp x4) (base x5) (j 0) (j 1) := by
  funext j
  idx_vars j
  rw [v72_at]
  exact dchain_eq _ _ (fun _ _ => h0 _) (fun _ => h1 _) (fun _ _ => h3 _) (fun _ _ => h4 _) fun _ _ => alpha_real.mul (h5 _)

theorem v75_eq : val_main_v75 (F := Ideal) x0 x1 x2 x4 = fun (j : Shape.Idx ⟨2, ![1792, 1024]⟩) =>
    dweight (rows x0) (lane x1) (lane x2) (dp x4) (j 1) (j 0) := by
  funext j
  idx_vars j
  exact v75_at ..

theorem v74_eq : val_main_v74 (F := Ideal) x0 x3 x4 x5 = fun (j : Shape.Idx ⟨2, ![1, 1024]⟩) =>
    dscale (rows x0) (wt x3) (dp x4) (base x5) (j 1) := by
  funext j
  idx_vars j
  exact v74_at ..

theorem v73_eq : val_main_v73 (F := Ideal) x3 x4 x5 = fun (j : Shape.Idx ⟨2, ![1, 1024]⟩) =>
    dshift (wt x3) (dp x4) (base x5) (j 1) := by
  funext j
  idx_vars j
  exact v73_at ..

end Cert.InProjRefIdeal.Stage

end
-- ==== Proof.UpBlock.lean ====
/-
  What one grid point of the up projection's backward call computes, at an index.
-/
module

public import proofs.«01_k».proof.Proof.NormProj
public import proofs.«01_k».proof.Proof.Gen.FfnUIdeal.Skeleton
public import Idealize.ShloMosaic.Lib.Pointwise

@[expose] public section

noncomputable section

namespace Cert.FfnUIdeal.Block

open Cert.FfnUIdeal Cert.FfnUIdeal.Gen Idealize.ShloMosaic Cert.RowNorm Cert.Words Cert.NormProj

section Rows

variable (v : Vec Ideal S512x1024 .f32) (g b : Vec Ideal S1x1024 .f32) (p : Fin 512) (l : Fin 1024)

/-- A block's rows, and one row of a vector. -/
abbrev rows (v : Vec Ideal S512x1024 .f32) (p : Fin 512) (l : Fin 1024) : EReal := v (ix2 p l)
abbrev lane (v : Vec Ideal S1x1024 .f32) (l : Fin 1024) : EReal := v (ix2 0 l)

theorem pay5_at : k0_pay5 v (ix2 p l) = centred cnt (rows v p) l := by
  pointwise [k0_pay5]; rfl
theorem pay6_at (q : Fin 1) : k0_pay6 v (ix2 p q) = scale cnt eps (rows v p) := by
  pointwise [k0_pay6, pay5_at]; rfl
theorem pay7_at : k0_pay7 v (ix2 p l) = nrm (rows v) p l := by
  pointwise [k0_pay7, pay5_at, pay6_at]; rfl
theorem pay8_at : k0_pay8 v g b (ix2 p l) = out (rows v) (lane g) (lane b) p l := by
  pointwise [k0_pay8, pay7_at]; rfl

variable (u : Vec Ideal S1x512x704 .bf16) (w : Vec Ideal S1x704x1024 .bf16)

/-- The product of one chunk of the gradient with its chunk of the weight. -/
def chunk : EReal := ∑ k, u (ix3 0 p k) * w (ix3 0 k l)

/-- The gradient of the scaled and shifted rows, chunk after chunk. -/
theorem pay10_at : k0_pay10 v u w (ix2 p l) = v (ix2 p l) + chunk p l u w := by
  pointwise [k0_pay10, k0_pay9]; rfl
theorem pay15_at (u' : Vec Ideal S1x512x704 .bf16) (w' : Vec Ideal S1x704x1024 .bf16) (d : FVec Ideal S512x1024 .f32) :
    k0_pay15 d u w u' w' (ix2 p l) = d (ix2 p l) + chunk p l u w + chunk p l u' w' := by
  pointwise [k0_pay15, k0_pay12, k0_pay14]; rfl
theorem pay18_at (d : FVec Ideal S512x1024 .f32) : k0_pay18 d u w (ix2 p l) = d (ix2 p l) + chunk p l u w := by
  pointwise [k0_pay18, k0_pay17]; rfl

/-- The four row ranges of the weight's gradient, each added to what it held. -/
theorem weight_at (h : FVec Ideal S512x1024 .bf16) (acc : Vec Ideal S704x1024 .f32) (k : Fin 704) :
    k0_pay11 h (k0_pay9 u) acc (ix2 k l) = acc (ix2 k l) + ∑ p, u (ix3 0 p k) * h (ix2 p l)
    ∧ k0_pay13 h u acc (ix2 k l) = acc (ix2 k l) + ∑ p, u (ix3 0 p k) * h (ix2 p l)
    ∧ k0_pay16 h u acc (ix2 k l) = acc (ix2 k l) + ∑ p, u (ix3 0 p k) * h (ix2 p l)
    ∧ k0_pay19 h u acc (ix2 k l) = acc (ix2 k l) + ∑ p, u (ix3 0 p k) * h (ix2 p l) := by
  refine ⟨?_, ?_, ?_, ?_⟩
  · pointwise [k0_pay11, k0_pay9]
  · pointwise [k0_pay13, k0_pay12]
  · pointwise [k0_pay16, k0_pay14]
  · pointwise [k0_pay19, k0_pay17]

/-- The scale's and the shift's gradients, added to what the block held. -/
theorem pay20_at (n d : FVec Ideal S512x1024 .f32) (acc : Vec Ideal S1x1024 .f32) :
    k0_pay20 n d u w acc (ix2 0 l) = acc (ix2 0 l) + ∑ p, k0_pay18 d u w (ix2 p l) * n (ix2 p l) := by
  pointwise [k0_pay20]
theorem pay21_at (d : FVec Ideal S512x1024 .f32) (acc : Vec Ideal S1x1024 .f32) :
    k0_pay21 d u w acc (ix2 0 l) = acc (ix2 0 l) + ∑ p, k0_pay18 d u w (ix2 p l) := by
  pointwise [k0_pay21]

/-- The rows' gradient. -/
theorem pay1_at (d : FVec Ideal S512x1024 .f32) : k0_pay1 (k0_pay6 v) (k0_pay7 v) (k0_pay22 d u w g) (k0_pay23 d u w g)
    (k0_pay24 (k0_pay7 v) d u w g) (ix2 p l) =
    back cnt eps (rows v p) (fun k => k0_pay18 d u w (ix2 p k) * g (ix2 0 k)) l := by
  pointwise [k0_pay1, k0_pay22, k0_pay23, k0_pay24, pay6_at, pay7_at]; rfl

theorem zero_at (k : Fin 2816) : k0_pay2 (F := Ideal) (ix2 k l) = 0 ∧ k0_pay3 (F := Ideal) (ix2 0 l) = 0
    ∧ k0_pay4 (F := Ideal) (ix2 0 l) = 0 := by
  refine ⟨?_, ?_, ?_⟩
  · pointwise [k0_pay2]
  · pointwise [k0_pay3]
  · pointwise [k0_pay4]

end Rows

end Cert.FfnUIdeal.Block

end
-- ==== Proof.UpOuts.lean ====
/-
  What the four output blocks of the up projection's backward call hold after each grid point.
-/
module

public import proofs.«01_k».proof.Proof.UpBlock
public import Idealize.ShloMosaic.Lib.Pipeline.ValueKit.Acc
public import Idealize.ShloMosaic.Lib.Pipeline.ReadBack
public import proofs.«01_k».proof.Proof.Gen.FfnUIdeal.Value

@[expose] public section

noncomputable section

namespace Cert.FfnUIdeal.Block

open Cert.FfnUIdeal Cert.FfnUIdeal.Gen Idealize.ShloMosaic Idealize.ShloMosaic.TcCoe Cert.RowNorm Cert.Words

variable {F : FTy → Type} [FloatOps F] (m : (ℓ : Loc nD τ sig) → Buf (Elt F) ℓ) (c : Dev nD) (t : Fin cfg0.N)

/-- The point's rows, scale, shift. -/
abbrev xin : Vec F S512x1024 .f32 := iblk m c 2 t
abbrev gain : Vec F S1x1024 .f32 := iblk m c 3 t
abbrev shift : Vec F S1x1024 .f32 := iblk m c 4 t
/-- The scaled and shifted rows that the forward pass multiplied by the weight. -/
def outb : FVec F S512x1024 .bf16 := k0_pay8 (xin m c t) (gain m c t) (shift m c t)
/-- Chunk 0 of the gradient and of the weight. -/
abbrev du0 : Vec F S1x512x704 .bf16 :=
  View.ld (iblk m c 1 t) (Rect.unit ![0, 0, 0] ![1, 512, 704] inb_S4x512x704_S1x512x704_0_0_0)
abbrev wu0 : Vec F S1x704x1024 .bf16 :=
  View.ld (iblk m c 5 t) (Rect.unit ![0, 0, 0] ![1, 704, 1024] inb_S4x704x1024_S1x704x1024_0_0_0)
/-- Chunk 1 of the gradient and of the weight. -/
abbrev du1 : Vec F S1x512x704 .bf16 :=
  View.ld (iblk m c 1 t) (Rect.unit ![1, 0, 0] ![1, 512, 704] inb_S4x512x704_S1x512x704_1_0_0)
abbrev wu1 : Vec F S1x704x1024 .bf16 :=
  View.ld (iblk m c 5 t) (Rect.unit ![1, 0, 0] ![1, 704, 1024] inb_S4x704x1024_S1x704x1024_1_0_0)
/-- Chunk 2 of the gradient and of the weight. -/
abbrev du2 : Vec F S1x512x704 .bf16 :=
  View.ld (iblk m c 1 t) (Rect.unit ![2, 0, 0] ![1, 512, 704] inb_S4x512x704_S1x512x704_2_0_0)
abbrev wu2 : Vec F S1x704x1024 .bf16 :=
  View.ld (iblk m c 5 t) (Rect.unit ![2, 0, 0] ![1, 704, 1024] inb_S4x704x1024_S1x704x1024_2_0_0)
/-- Chunk 3 of the gradient and of the weight. -/
abbrev du3 : Vec F S1x512x704 .bf16 :=
  View.ld (iblk m c 1 t) (Rect.unit ![3, 0, 0] ![1, 512, 704] inb_S4x512x704_S1x512x704_3_0_0)
abbrev wu3 : Vec F S1x704x1024 .bf16 :=
  View.ld (iblk m c 5 t) (Rect.unit ![3, 0, 0] ![1, 704, 1024] inb_S4x704x1024_S1x704x1024_3_0_0)
/-- The gradient of the scaled and shifted rows after three chunks, and after all four. -/
def dpart : FVec F S512x1024 .f32 :=
  k0_pay15 (k0_pay10 (iblk m c 0 t) (du0 m c t) (wu0 m c t)) (du1 m c t) (wu1 m c t) (du2 m c t) (wu2 m c t)
def dout : FVec F S512x1024 .f32 := k0_pay18 (dpart m c t) (du3 m c t) (wu3 m c t)

/-- The weight's gradient in the four row ranges it is stored in, from what the block held. -/
def pieces (acc : Vec F S2816x1024 .f32) : List (View.Piece (Elt F) S2816x1024 .f32) :=
  [⟨Rect.unit ![2112, 0] ![704, 1024] inb_S2816x1024_S704x1024_2112_0, k0_pay19 (outb m c t) (du3 m c t)
      (View.ld acc (Rect.unit ![2112, 0] ![704, 1024] inb_S2816x1024_S704x1024_2112_0))⟩,
    ⟨Rect.unit ![1408, 0] ![704, 1024] inb_S2816x1024_S704x1024_1408_0, k0_pay16 (outb m c t) (du2 m c t)
      (View.ld acc (Rect.unit ![1408, 0] ![704, 1024] inb_S2816x1024_S704x1024_1408_0))⟩,
    ⟨Rect.unit ![704, 0] ![704, 1024] inb_S2816x1024_S704x1024_704_0, k0_pay13 (outb m c t) (du1 m c t)
      (View.ld acc (Rect.unit ![704, 0] ![704, 1024] inb_S2816x1024_S704x1024_704_0))⟩,
    ⟨Rect.unit ![0, 0] ![704, 1024] inb_S2816x1024_S704x1024_0_0, k0_pay11 (outb m c t) (k0_pay9 (du0 m c t))
      (View.ld acc (Rect.unit ![0, 0] ![704, 1024] inb_S2816x1024_S704x1024_0_0))⟩]

theorem w_first (h : t.val % 8 = 0) : (outsAt0 m c t.val t.isLt).2.1 = View.canon (pieces m c t k0_pay2 ++
    [⟨Rect.unit ![0, 0] ![2816, 1024] inb_S2816x1024_S2816x1024_0_0, k0_pay2⟩]) := by
  rw [outsAt0_A m c t h]; frame_out
  simp (disch := decide) only [↓ View.readCov_skip, ↓ View.readCov_fill]
  rfl
theorem w_next (h : ¬t.val % 8 = 0) : (outsAt0 m c t.val t.isLt).2.1 =
    View.canon (pieces m c t (outsAt0 m c (t.val - 1) (by omega)).2.1 ++ []) := by
  rw [outsAt0_B m c t h]; frame_out; rfl

/-- The rows' gradient. -/
def drows : FVec F S512x1024 .f32 :=
  k0_pay1 (k0_pay6 (xin m c t)) (k0_pay7 (xin m c t)) (k0_pay22 (dpart m c t) (du3 m c t) (wu3 m c t) (gain m c t))
    (k0_pay23 (dpart m c t) (du3 m c t) (wu3 m c t) (gain m c t))
    (k0_pay24 (k0_pay7 (xin m c t)) (dpart m c t) (du3 m c t) (wu3 m c t) (gain m c t))

theorem x_first (h : t.val % 8 = 0) : (outsAt0 m c t.val t.isLt).1 = drows m c t := by
  rw [outsAt0_A m c t h]; frame_out; rfl
theorem x_next (h : ¬t.val % 8 = 0) : (outsAt0 m c t.val t.isLt).1 = drows m c t := by
  rw [outsAt0_B m c t h]; frame_out; rfl
theorem g_first (h : t.val % 8 = 0) : (outsAt0 m c t.val t.isLt).2.2.1 = k0_pay20 (k0_pay7 (xin m c t)) (dpart m c t) (du3 m c t) (wu3 m c t) k0_pay3 := by
  rw [outsAt0_A m c t h]; frame_out; rfl
theorem g_next (h : ¬t.val % 8 = 0) : (outsAt0 m c t.val t.isLt).2.2.1 =
    k0_pay20 (k0_pay7 (xin m c t)) (dpart m c t) (du3 m c t) (wu3 m c t) (outsAt0 m c (t.val - 1) (by omega)).2.2.1 := by
  rw [outsAt0_B m c t h]; frame_out; rfl
theorem b_first (h : t.val % 8 = 0) : (outsAt0 m c t.val t.isLt).2.2.2 = k0_pay21 (dpart m c t) (du3 m c t) (wu3 m c t) k0_pay4 := by
  rw [outsAt0_A m c t h]; frame_out; rfl
theorem b_next (h : ¬t.val % 8 = 0) : (outsAt0 m c t.val t.isLt).2.2.2 =
    k0_pay21 (dpart m c t) (du3 m c t) (wu3 m c t) (outsAt0 m c (t.val - 1) (by omega)).2.2.2 := by
  rw [outsAt0_B m c t h]; frame_out; rfl

end Cert.FfnUIdeal.Block

end
-- ==== Proof.UpReads.lean ====
/-
  The blocks that a grid point of the up projection's backward call reads, as entries of the program's arguments.
-/
module

public import proofs.«01_k».proof.Proof.UpOuts
public import Idealize.ShloMosaic.Lib.Pipeline.ValueKit

@[expose] public section

set_option maxRecDepth 16384

noncomputable section

namespace Cert.FfnUIdeal.Block

open Cert.FfnUIdeal Cert.FfnUIdeal.Gen Idealize.ShloMosaic Idealize.ShloMosaic.TcCoe Cert.RowNorm Cert.Words

variable (m : (ℓ : Loc nD τ sig) → Buf (Elt Ideal) ℓ) (c : Dev nD)

/-- The arguments: rows, scale, shift, weight, the product's gradient and the rows' own. -/
abbrev rowsA : Vec Ideal S4096x1024 .f32 := m ((c : Thread nD τ).loc main_arg0)
abbrev gainA : Vec Ideal S1x1024 .f32 := m ((c : Thread nD τ).loc main_arg1)
abbrev shiftA : Vec Ideal S1x1024 .f32 := m ((c : Thread nD τ).loc main_arg2)
abbrev weightA : Vec Ideal S1024x2816 .f32 := m ((c : Thread nD τ).loc main_arg3)
abbrev dprojA : Vec Ideal S4096x2816 .f32 := m ((c : Thread nD τ).loc main_arg4)
abbrev dresA : Vec Ideal S4096x1024 .f32 := m ((c : Thread nD τ).loc main_arg5)

/-- Where each window's block stands in its array. -/
theorem idx : ∀ t : Fin grid0.N, win0_0.index t = ![t.val, 0] ∧ win0_1.index t = ![0, t.val, 0] ∧ win0_2.index t = ![t.val, 0]
    ∧ win0_3.index t = ![0, 0] ∧ win0_4.index t = ![0, 0] ∧ win0_5.index t = ![0, 0, 0] ∧ win0_6.index t = ![t.val, 0]
    ∧ win0_7.index t = ![0, 0] ∧ win0_8.index t = ![0, 0] ∧ win0_9.index t = ![0, 0] := by decide +kernel

theorem points : grid0.N = 8 := by decide +kernel

/-- The array's row that row `r` of point `t`'s block is. -/
def row (t : Fin cfg0.N) (r : Fin 512) : Fin 4096 := ⟨512 * t.val + r.val, by
  have := t.isLt; have h : cfg0.N = 8 := points; omega⟩

variable (t : Fin cfg0.N)

/-- The hidden unit `k` of chunk `j`. -/
def unitOf (j : Fin 4) (k : Fin 704) : Fin 2816 := ⟨704 * j.val + k.val, by omega⟩

theorem x_at (r : Fin 512) (l : Fin 1024) : iblk m c 2 t (ix2 r l) = rowsA m c (ix2 (row t r) l) := by
  unfold row
  blk_ext [iblk, V, idx t]
theorem gain_at (l : Fin 1024) : iblk m c 3 t (ix2 0 l) = gainA m c (ix2 0 l) := by
  blk_ext [iblk, V, idx t]
theorem shift_at (l : Fin 1024) : iblk m c 4 t (ix2 0 l) = shiftA m c (ix2 0 l) := by
  blk_ext [iblk, V, idx t]
theorem dres_at (r : Fin 512) (l : Fin 1024) : iblk m c 0 t (ix2 r l) = dresA m c (ix2 (row t r) l) := by
  unfold row
  blk_ext [iblk, V, idx t]
theorem wu_at (j : Fin 4) (k : Fin 704) (l : Fin 1024) : iblk m c 5 t (ix3 j k l) = weightA m c (ix2 l (unitOf j k)) := by
  unfold unitOf
  blk_ext! [iblk, V, idx t]
theorem du_at (j : Fin 4) (r : Fin 512) (k : Fin 704) :
    iblk m c 1 t (ix3 j r k) = dprojA m c (ix2 (row t r) (unitOf j k)) := by
  unfold row unitOf
  blk_ext! [iblk, V, idx t]

end Cert.FfnUIdeal.Block

end
-- ==== Proof.UpArray.lean ====
/-
  What the four result arrays of the up projection's backward call hold after its run, as the functions of `NormProj`
  of the program's arguments.
-/
module

public import proofs.«01_k».proof.Proof.UpReads
public import proofs.«01_k».proof.Proof.Points

@[expose] public section

set_option maxRecDepth 16384

noncomputable section

namespace Cert.FfnUIdeal.Block

open Cert.FfnUIdeal Cert.FfnUIdeal.Gen Idealize.ShloMosaic Idealize.ShloMosaic.TcCoe Cert.RowNorm Cert.Words

variable (m : (ℓ : Loc nD τ sig) → Buf (Elt Ideal) ℓ) (c : Dev nD) (t : Fin cfg0.N)

/-- The arguments as `NormProj` takes them. -/
abbrev fx (R : Fin 4096) (l : Fin 1024) : EReal := rowsA m c (ix2 R l)
abbrev fg (l : Fin 1024) : EReal := gainA m c (ix2 0 l)
abbrev fb (l : Fin 1024) : EReal := shiftA m c (ix2 0 l)
abbrev fw (l : Fin 1024) (k : Fin 2816) : EReal := weightA m c (ix2 l k)
abbrev fd (R : Fin 4096) (k : Fin 2816) : EReal := dprojA m c (ix2 R k)
abbrev fr (R : Fin 4096) (l : Fin 1024) : EReal := dresA m c (ix2 R l)

/-- A sum over the hidden units, chunk by chunk. -/
theorem sum_split (f : Fin 2816 → EReal) : ∑ K, f K = ∑ k, f (unitOf 0 k) + ∑ k, f (unitOf 1 k) + ∑ k, f (unitOf 2 k)
    + ∑ k, f (unitOf 3 k) := by
  rw [← Fin.sum_univ_four fun j => ∑ k, f (unitOf j k)]
  exact (Fin.sum_mul_add_congr fun j k hl => congrArg f (Fin.ext (by unfold unitOf; simp only; omega))).symm

/-- A chunk's load. -/
theorem du_ld (j : Fin 4) (inb) (r : Fin 512) (k : Fin 704) :
    View.ld (iblk m c 1 t : Vec Ideal S4x512x704 .bf16) (Rect.unit ![j.val, 0, 0] ![1, 512, 704] inb) (ix3 0 r k) =
      fd m c (row t r) (unitOf j k) :=
  (View.ld_unit_apply_of _ _ _ _ _ (ix3 j r k) fun a => by fin_cases a <;> simp).trans (du_at m c t j r k)
theorem wu_ld (j : Fin 4) (inb) (k : Fin 704) (l : Fin 1024) :
    View.ld (iblk m c 5 t : Vec Ideal S4x704x1024 .bf16) (Rect.unit ![j.val, 0, 0] ![1, 704, 1024] inb) (ix3 0 k l) =
      fw m c l (unitOf j k) :=
  (View.ld_unit_apply_of _ _ _ _ _ (ix3 j k l) fun a => by fin_cases a <;> simp).trans (wu_at m c t j k l)

theorem chunk_at (j : Fin 4) (inb) (inb') (r : Fin 512) (l : Fin 1024) :
    chunk r l (View.ld (iblk m c 1 t : Vec Ideal S4x512x704 .bf16) (Rect.unit ![j.val, 0, 0] ![1, 512, 704] inb))
      (View.ld (iblk m c 5 t : Vec Ideal S4x704x1024 .bf16) (Rect.unit ![j.val, 0, 0] ![1, 704, 1024] inb')) =
      ∑ k, fd m c (row t r) (unitOf j k) * fw m c l (unitOf j k) :=
  Finset.sum_congr rfl fun k _ => congrArg₂ (· * ·) (du_ld m c t j inb r k) (wu_ld m c t j inb' k l)

/-- The rows that a load of the weight reads. -/
theorem ld_at {e : EltTy} (X : Vec Ideal S2816x1024 e) (o n : ℕ) (inb : ∀ a, (![o, 0] : Fin 2 → ℕ) a + (![n, 1024] : Fin 2 → ℕ) a ≤ S2816x1024.size a)
    (h : o + n ≤ 2816) (k : Fin n) (l : Fin 1024) :
    View.ld X (Rect.unit ![o, 0] ![n, 1024] inb) (ix2 k l) = X (ix2 ⟨o + k.val, by omega⟩ l) :=
  View.ld_unit_apply_of _ _ _ _ _ _ fun a => by fin_cases a <;> simp

theorem out_at (r : Fin 512) (l : Fin 1024) :
    outb m c t (ix2 r l) = NormProj.out (fx m c) (fg m c) (fb m c) (row t r) l := by
  unfold outb
  rw [pay8_at]
  unfold NormProj.out NormProj.nrm rows lane xin gain shift
  simp only [x_at, gain_at, shift_at]

theorem nrm_at (r : Fin 512) (l : Fin 1024) : k0_pay7 (xin m c t) (ix2 r l) = NormProj.nrm (fx m c) (row t r) l := by
  rw [pay7_at]
  unfold NormProj.nrm rows xin
  simp only [x_at]

theorem dout_at (r : Fin 512) (l : Fin 1024) :
    dout m c t (ix2 r l) = NormProj.dout (fw m c) (fd m c) (fr m c) (row t r) l := by
  unfold dout dpart NormProj.dout
  rw [pay18_at, pay15_at, pay10_at, sum_split, ← add_assoc, ← add_assoc, ← add_assoc, dres_at]
  exact congrArg₂ (· + ·) (congrArg₂ (· + ·) (congrArg₂ (· + ·) (congrArg _ (chunk_at m c t 0 _ _ r l))
    (chunk_at m c t 1 _ _ r l)) (chunk_at m c t 2 _ _ r l)) (chunk_at m c t 3 _ _ r l)

theorem part_at (r : Fin 512) (l : Fin 1024) : k0_pay18 (dpart m c t) (du3 m c t) (wu3 m c t) (ix2 r l) =
    NormProj.dout (fw m c) (fd m c) (fr m c) (row t r) l := dout_at m c t r l

theorem drows_at (r : Fin 512) (l : Fin 1024) :
    drows m c t (ix2 r l) = NormProj.drow (fx m c) (fg m c) (fw m c) (fd m c) (fr m c) (row t r) l := by
  unfold drows NormProj.drow
  rw [pay1_at]
  unfold rows xin gain
  simp only [x_at, gain_at, part_at]

/-- One point adds its rows' part of the weight's gradient. -/
def wsum (acc : Vec Ideal S2816x1024 .f32) (y : S2816x1024.Idx) : EReal :=
  acc y + ∑ r : Fin 512, fd m c (row t r) (y 0) * NormProj.out (fx m c) (fg m c) (fb m c) (row t r) (y 1)

theorem emb_at (o n : ℕ) (inb : ∀ a, (![o, 0] : Fin 2 → ℕ) a + (![n, 1024] : Fin 2 → ℕ) a ≤ S2816x1024.size a)
    (h : o + n ≤ 2816) (k : Fin n) (l : Fin 1024) :
    (Rect.unit (s := S2816x1024) ![o, 0] ![n, 1024] inb).emb (ix2 k l) = ix2 ⟨o + k.val, by omega⟩ l :=
  by
  funext a
  refine Fin.ext ((show _ = ((![o, 0] : Fin 2 → ℕ) a + (ix2 k l a : ℕ)) from
    Rect.idx_unit_val (![o, 0] : Fin 2 → ℕ) ![n, 1024] inb (ix2 k l) a).trans ?_)
  fin_cases a <;> simp

theorem pieces_at (acc : Vec Ideal S2816x1024 .f32) : View.PiecesOf (wsum m c t acc) (pieces m c t acc) := by
  refine ⟨fun x => ?_, fun x => ?_, fun x => ?_, fun x => ?_, trivial⟩
  · idx_vars x
    refine (weight_at _ _ _ _ _).2.2.2.trans ?_
    rw [ld_at _ 2112 704 _ (by norm_num), emb_at 2112 704 _ (by norm_num)]
    exact congrArg _ (Finset.sum_congr rfl fun r _ => congrArg₂ (· * ·) (du_ld m c t 3 _ r _) (out_at m c t r _))
  · idx_vars x
    refine (weight_at _ _ _ _ _).2.2.1.trans ?_
    rw [ld_at _ 1408 704 _ (by norm_num), emb_at 1408 704 _ (by norm_num)]
    exact congrArg _ (Finset.sum_congr rfl fun r _ => congrArg₂ (· * ·) (du_ld m c t 2 _ r _) (out_at m c t r _))
  · idx_vars x
    refine (weight_at _ _ _ _ _).2.1.trans ?_
    rw [ld_at _ 704 704 _ (by norm_num), emb_at 704 704 _ (by norm_num)]
    exact congrArg _ (Finset.sum_congr rfl fun r _ => congrArg₂ (· * ·) (du_ld m c t 1 _ r _) (out_at m c t r _))
  · idx_vars x
    refine (weight_at _ _ _ _ _).1.trans ?_
    rw [ld_at _ 0 704 _ (by norm_num), emb_at 0 704 _ (by norm_num)]
    exact congrArg _ (Finset.sum_congr rfl fun r _ => congrArg₂ (· * ·) (du_ld m c t 0 _ r _) (out_at m c t r _))

/-- The four ranges cover the block, whatever it held. -/
theorem canon_at (acc : Vec Ideal S2816x1024 .f32) (L : List (View.Piece (Elt Ideal) S2816x1024 .f32)) (y : S2816x1024.Idx) :
    View.canon (pieces m c t acc ++ L) y = wsum m c t acc y :=
  View.canon_append_of_piecesOf _ L _ (pieces_at m c t acc) y (View.cover_of_tiledBy _ ![704, 1024] (by sl_kernel_rfl) y)

theorem zero2 (y : S2816x1024.Idx) : k0_pay2 (F := Ideal) y = 0 := by
  idx_vars y
  exact (zero_at y1 y0).1

/-- The weight's gradient. -/
theorem final7 : (dats m 0 c).arrAt 7 cfg0.N = fun j =>
    NormProj.dweight (fx m c) (fg m c) (fb m c) (fd m c) (j 1) (j 0) := by
  refine (dats m 0 c).arrAt_eq_of_after_last 7 t0_7 (by decide +kernel) _ fun j => ?_
  blk_simp [idx]
  rw [after0_7]
  exact Points.fold points (fun n h y => (outsAt0 m c n h).2.1 y)
    (fun R y => fd m c R (y 0) * NormProj.out (fx m c) (fg m c) (fb m c) R (y 1))
    (fun t h y => by rw [w_first m c t h, canon_at]; unfold wsum; rw [zero2]; rfl)
    (fun t h y => by rw [w_next m c t h, canon_at]; rfl) t0_7 rfl j

/-- The scale's gradient. -/
theorem final8 : (dats m 0 c).arrAt 8 cfg0.N = fun j =>
    NormProj.dscale (fx m c) (fw m c) (fd m c) (fr m c) (j 1) := by
  refine (dats m 0 c).arrAt_eq_of_after_last 8 t0_7 (by decide +kernel) _ fun j => ?_
  idx_vars j
  obtain rfl : j0 = 0 := Subsingleton.elim _ _
  blk_simp [idx]
  rw [after0_8]
  exact Points.fold points (fun n h l => (outsAt0 m c n h).2.2.1 (ix2 0 l))
    (fun R l => NormProj.dout (fw m c) (fd m c) (fr m c) R l * NormProj.nrm (fx m c) R l)
    (fun t h l => by rw [g_first m c t h, pay20_at, (zero_at l 0).2.1]; simp only [part_at, nrm_at]; rfl)
    (fun t h l => by rw [g_next m c t h, pay20_at]; simp only [part_at, nrm_at]; rfl) t0_7 rfl j1

/-- The shift's gradient. -/
theorem final9 : (dats m 0 c).arrAt 9 cfg0.N = fun j =>
    NormProj.dshift (fw m c) (fd m c) (fr m c) (j 1) := by
  refine (dats m 0 c).arrAt_eq_of_after_last 9 t0_7 (by decide +kernel) _ fun j => ?_
  idx_vars j
  obtain rfl : j0 = 0 := Subsingleton.elim _ _
  blk_simp [idx]
  rw [after0_9]
  exact Points.fold points (fun n h l => (outsAt0 m c n h).2.2.2 (ix2 0 l))
    (fun R l => NormProj.dout (fw m c) (fd m c) (fr m c) R l)
    (fun t h l => by rw [b_first m c t h, pay21_at, (zero_at l 0).2.2]; simp only [part_at]; rfl)
    (fun t h l => by rw [b_next m c t h, pay21_at]; simp only [part_at]; rfl) t0_7 rfl j1

/-- The rows' gradient. -/
theorem final6 : (dats m 0 c).arrAt 6 cfg0.N = fun j =>
    NormProj.drow (fx m c) (fg m c) (fw m c) (fd m c) (fr m c) (j 0) (j 1) := by
  refine (dats m 0 c).arrAt_eq_of_covers 6 _ (by decide +kernel) fun t hf y => ?_
  blk_simp [idx]
  rw [after0_6]
  have e : (outsAt0 m c t.val t.isLt).1 = drows m c t := by
    by_cases h : t.val % 8 = 0
    · exact x_first m c t h
    · exact x_next m c t h
  rw [e]
  idx_vars y
  refine (drows_at m c t y0 y1).trans ?_
  congr 1
  · apply Fin.ext; unfold row; blk_simp [idx]; show 512 * t.val + y0.val = _; omega
  · apply Fin.ext; blk_simp [idx]

end Cert.FfnUIdeal.Block

end
-- ==== Proof.UpRef.lean ====
/-
  The reference of the up projection's gradient, stage by stage: its four results as the functions of `NormProj`.
-/
module

public import proofs.«01_k».proof.Proof.NormProj
public import proofs.«01_k».proof.Proof.Gen.FfnURefIdeal.Read
public import Idealize.ShloMosaic.Lib.Pointwise

@[expose] public section

noncomputable section

namespace Cert.FfnURefIdeal.Stage

open Cert.FfnURefIdeal Cert.FfnURefIdeal.Gen Idealize.ShloMosaic Cert.RowNorm Cert.Words Cert.NormProj Cert.Finite
open Cert.FfnURefIdeal.Read

variable (x0 : Vec Ideal S4096x1024 .f32) (x1 x2 : Vec Ideal S1x1024 .f32) (x3 : Vec Ideal S1024x2816 .f32)
  (x4 : Vec Ideal S4096x2816 .f32) (x5 : Vec Ideal S4096x1024 .f32) (R : Fin 4096) (l : Fin 1024)

/-- The rows, the scale, the shift, the weight, and the two gradients that arrive. -/
abbrev rows (R : Fin 4096) (l : Fin 1024) : EReal := x0 (ix2 R l)
abbrev lane (v : Vec Ideal S1x1024 .f32) (l : Fin 1024) : EReal := v (ix2 0 l)
abbrev wt (l : Fin 1024) (k : Fin 2816) : EReal := x3 (ix2 l k)
abbrev dp (R : Fin 4096) (k : Fin 2816) : EReal := x4 (ix2 R k)
abbrev base (R : Fin 4096) (l : Fin 1024) : EReal := x5 (ix2 R l)

theorem v5_at (q : Fin 1) : val_main_v5 x0 (ix2 R q) = mean cnt (rows x0 R) := by
  pointwise [val_main_v5, val_main_v4, val_main_v3, val_main_v2, val_main_cst, val_main_cst_0]
  rfl
theorem v7_at : val_main_v7 x0 (ix2 R l) = centred cnt (rows x0 R) l := by
  pointwise [val_main_v7, val_main_v6, v5_at]
  rfl
theorem v16_at : val_main_v16 x0 (ix2 R l) = centred cnt (rows x0 R) l := by
  pointwise [val_main_v16, val_main_v15, v5_at]
  rfl
theorem v18_at (q : Fin 1) : val_main_v18 x0 (ix2 R q) = spread cnt eps (rows x0 R) := by
  pointwise [val_main_v18, val_main_v17, val_main_v14, val_main_v13, val_main_v12, val_main_v11, val_main_v8,
    val_main_cst_2, val_main_cst_3, val_main_cst_4, v7_at]
  rfl
theorem v19_at (q : Fin 1) : val_main_v19 x0 (ix2 R q) = scale cnt eps (rows x0 R) := by
  pointwise [val_main_v19, v18_at]
  rfl
theorem v24_at : val_main_v24 x0 (ix2 R l) = nrm (rows x0) R l := by
  pointwise [val_main_v24, val_main_v23, v16_at, v19_at]
  rfl
theorem v30_at : val_main_v30 x0 x1 x2 (ix2 R l) = out (rows x0) (lane x1) (lane x2) R l := by
  pointwise [val_main_v30, val_main_v29, val_main_v28, val_main_v27, val_main_v26, val_main_v25, val_main_v0, val_main_v1, v24_at]
  rfl
theorem v35_at : val_main_v35 x3 x4 x5 (ix2 R l) = dout (wt x3) (dp x4) (base x5) R l := by
  pointwise [val_main_v35, val_main_v34]
  rfl
theorem v36_at : val_main_v36 x3 x4 x5 (ix2 R l) = dout (wt x3) (dp x4) (base x5) R l := by
  pointwise [val_main_v36, v35_at]

/-- The weight's gradient. -/
theorem v72_at (k : Fin 2816) : val_main_v72 x0 x1 x2 x4 (ix2 k l) =
    dweight (rows x0) (lane x1) (lane x2) (dp x4) l k := by
  pointwise [val_main_v72, val_main_v33, val_main_v32, v30_at]
  rfl
/-- The shift's gradient. -/
theorem v70_at (q : Fin 1) : val_main_v70 x3 x4 x5 (ix2 q l) = dshift (wt x3) (dp x4) (base x5) l := by
  pointwise [val_main_v70, val_main_v39, val_main_v38, val_main_v37, val_main_cst_6, val_main_cst_7, v35_at]
  exact Fin.sum_univ_one _
/-- The scale's gradient. -/
theorem v71_at (q : Fin 1) : val_main_v71 x0 x3 x4 x5 (ix2 q l) = dscale (rows x0) (wt x3) (dp x4) (base x5) l := by
  pointwise [val_main_v71, val_main_v45, val_main_v42, val_main_v41, val_main_v40, val_main_cst_8, val_main_cst_9, v36_at, v24_at]
  rw [Fin.sum_univ_one]
  exact Finset.sum_congr rfl fun R _ => mul_comm _ _

/-- The gradient that reaches the normalised row. -/
abbrev din : Fin 1024 → EReal := fun k => dout (wt x3) (dp x4) (base x5) R k * lane x1 k

theorem v44_at : val_main_v44 x1 x3 x4 x5 (ix2 R l) = din x1 x3 x4 x5 R l := by
  pointwise [val_main_v44, val_main_v43, val_main_v25, val_main_v0, v36_at]
theorem v50_at : val_main_v50 x0 x1 x3 x4 x5 (ix2 R l) = din x1 x3 x4 x5 R l * scale cnt eps (rows x0 R) := by
  pointwise [val_main_v50, val_main_v49, v44_at, v19_at]
theorem v57_at : val_main_v57 x0 x1 x3 x4 x5 (ix1 R) = share cnt eps half (rows x0 R) (din x1 x3 x4 x5 R) := by
  pointwise [val_main_v57, val_main_v56, val_main_v55, val_main_v51, val_main_v48, val_main_v47, val_main_v46,
    val_main_v22, val_main_v21, val_main_v20, val_main_cst_5, val_main_cst_10, val_main_cst_12, val_main_cst_13, v16_at,
    v18_at, v19_at, v44_at]
  rw [Fin.sum_univ_one]
  rfl
theorem v59_at : val_main_v59 x0 x1 x3 x4 x5 (ix2 R l) =
    share cnt eps half (rows x0 R) (din x1 x3 x4 x5 R) * (two * centred cnt (rows x0 R) l) := by
  pointwise [val_main_v59, val_main_v58, val_main_v10, val_main_v9, val_main_cst_1, v7_at, v57_at]

/-- The rows' gradient. -/
theorem v69_at : val_main_v69 x0 x1 x3 x4 x5 (ix2 R l) =
    dchain (rows x0) (lane x1) (wt x3) (dp x4) (base x5) R l := by
  pointwise [val_main_v69, val_main_v68, val_main_v67, val_main_v66, val_main_v65, val_main_v64, val_main_v63,
    val_main_v62, val_main_v61, val_main_v60, val_main_v54, val_main_v53, val_main_v52, val_main_cst_11,
    val_main_cst_14, val_main_cst_15, val_main_cst_16, v50_at, v59_at]
  rw [Fin.sum_univ_one]
  rfl

/-! ### The four results as arrays -/

theorem v69_eq (h0 : ∀ i, IsReal (x0 i)) (h1 : ∀ i, IsReal (x1 i)) (h3 : ∀ i, IsReal (x3 i)) (h4 : ∀ i, IsReal (x4 i))
    (h5 : ∀ i, IsReal (x5 i)) : val_main_v69 (F := Ideal) x0 x1 x3 x4 x5 = fun (j : Shape.Idx ⟨2, ![4096, 1024]⟩) =>
      drow (rows x0) (lane x1) (wt x3) (dp x4) (base x5) (j 0) (j 1) := by
  funext j
  idx_vars j
  rw [v69_at]
  exact dchain_eq _ _ (fun _ _ => h0 _) (fun _ => h1 _) (fun _ _ => h3 _) (fun _ _ => h4 _) fun _ _ => h5 _

theorem v72_eq : val_main_v72 (F := Ideal) x0 x1 x2 x4 = fun (j : Shape.Idx ⟨2, ![2816, 1024]⟩) =>
    dweight (rows x0) (lane x1) (lane x2) (dp x4) (j 1) (j 0) := by
  funext j
  idx_vars j
  exact v72_at ..

theorem v71_eq : val_main_v71 (F := Ideal) x0 x3 x4 x5 = fun (j : Shape.Idx ⟨2, ![1, 1024]⟩) =>
    dscale (rows x0) (wt x3) (dp x4) (base x5) (j 1) := by
  funext j
  idx_vars j
  exact v71_at ..

theorem v70_eq : val_main_v70 (F := Ideal) x3 x4 x5 = fun (j : Shape.Idx ⟨2, ![1, 1024]⟩) =>
    dshift (wt x3) (dp x4) (base x5) (j 1) := by
  funext j
  idx_vars j
  exact v70_at ..

end Cert.FfnURefIdeal.Stage

end
-- ==== Proof.ActBlock.lean ====
/-
  What one grid point of the gated activation's backward call computes, at an index, and what its three output blocks hold
  after it.
-/
module

public import proofs.«01_k».proof.Proof.Gen.FfnAIdeal.Value
public import Idealize.ShloMosaic.Lib.Pipeline.ValueKit.Acc
public import Idealize.ShloMosaic.Lib.Pipeline.ReadBack
public import Idealize.ShloMosaic.Lib.Pointwise

@[expose] public section

noncomputable section

namespace Cert.FfnAIdeal.Block

open Cert.FfnAIdeal Cert.FfnAIdeal.Gen Idealize.ShloMosaic Idealize.ShloMosaic.TcCoe

section Rows

variable (d : Vec Ideal S512x1024 .f32) (w : Vec Ideal S1x704x1024 .bf16) (a : Vec Ideal S1x512x704 .bf16) (r : Fin 512)
  (k : Fin 704) (l : Fin 1024)

/-- The gradient of the product's left factor, for one chunk of the weight. -/
def da : EReal := ∑ l, d (ix2 r l) * w (ix3 0 k l)

theorem da_at : k0_pay6 d w (ix2 r k) = da d w r k ∧ k0_pay10 (k0_pay5 d) w (ix2 r k) = da d w r k
    ∧ k0_pay14 (k0_pay5 d) w (ix2 r k) = da d w r k ∧ k0_pay18 (k0_pay5 d) w (ix2 r k) = da d w r k := by
  refine ⟨?_, ?_, ?_, ?_⟩
  · pointwise [k0_pay6, k0_pay5]; rfl
  · pointwise [k0_pay10, k0_pay5]; rfl
  · pointwise [k0_pay14, k0_pay5]; rfl
  · pointwise [k0_pay18, k0_pay5]; rfl

/-- The gate's gradient, chunk by chunk. -/
theorem gate_at : k0_pay7 d w a (ix3 0 r k) = da d w r k * a (ix3 0 r k)
    ∧ k0_pay11 (k0_pay5 d) w a (ix3 0 r k) = da d w r k * a (ix3 0 r k)
    ∧ k0_pay15 (k0_pay5 d) w a (ix3 0 r k) = da d w r k * a (ix3 0 r k)
    ∧ k0_pay1 (k0_pay18 (k0_pay5 d) w) a (ix3 0 r k) = da d w r k * a (ix3 0 r k) := by
  refine ⟨?_, ?_, ?_, ?_⟩
  · pointwise [k0_pay7, (da_at d w r k).1]
  · pointwise [k0_pay11, (da_at d w r k).2.1]
  · pointwise [k0_pay15, (da_at d w r k).2.2.1]
  · pointwise [k0_pay1, (da_at d w r k).2.2.2]
/-- The other factor's gradient, chunk by chunk. -/
theorem up_at : k0_pay8 d w a (ix3 0 r k) = da d w r k * a (ix3 0 r k)
    ∧ k0_pay12 (k0_pay5 d) w a (ix3 0 r k) = da d w r k * a (ix3 0 r k)
    ∧ k0_pay16 (k0_pay5 d) w a (ix3 0 r k) = da d w r k * a (ix3 0 r k)
    ∧ k0_pay2 (k0_pay18 (k0_pay5 d) w) a (ix3 0 r k) = da d w r k * a (ix3 0 r k) := by
  refine ⟨?_, ?_, ?_, ?_⟩
  · pointwise [k0_pay8, (da_at d w r k).1]
  · pointwise [k0_pay12, (da_at d w r k).2.1]
  · pointwise [k0_pay16, (da_at d w r k).2.2.1]
  · pointwise [k0_pay2, (da_at d w r k).2.2.2]
/-- The four row ranges of the weight's gradient, each added to what it held. -/
theorem weight_at (acc : Vec Ideal S704x1024 .f32) :
    k0_pay9 d acc a (ix2 k l) = acc (ix2 k l) + ∑ r, a (ix3 0 r k) * d (ix2 r l)
    ∧ k0_pay13 (k0_pay5 d) acc a (ix2 k l) = acc (ix2 k l) + ∑ r, a (ix3 0 r k) * d (ix2 r l)
    ∧ k0_pay17 (k0_pay5 d) acc a (ix2 k l) = acc (ix2 k l) + ∑ r, a (ix3 0 r k) * d (ix2 r l)
    ∧ k0_pay3 (k0_pay5 d) acc a (ix2 k l) = acc (ix2 k l) + ∑ r, a (ix3 0 r k) * d (ix2 r l) := by
  refine ⟨?_, ?_, ?_, ?_⟩
  · pointwise [k0_pay9, k0_pay5]
  · pointwise [k0_pay13, k0_pay5]
  · pointwise [k0_pay17, k0_pay5]
  · pointwise [k0_pay3, k0_pay5]

theorem zero_at (K : Fin 2816) : k0_pay4 (F := Ideal) (ix2 K l) = 0 := by
  pointwise [k0_pay4]

end Rows

variable {F : FTy → Type} [FloatOps F] (m : (ℓ : Loc nD τ sig) → Buf (Elt F) ℓ) (c : Dev nD) (t : Fin cfg0.N)

/-- The gradient that arrives, and the chunks of a saved activation and of the weight. -/
abbrev grad : Vec F S512x1024 .f32 := iblk m c 0 t
abbrev act (X : Vec F S4x512x704 .bf16) (j : ℕ)
    (inb : ∀ a, (![j, 0, 0] : Fin 3 → ℕ) a + (![1, 512, 704] : Fin 3 → ℕ) a ≤ S4x512x704.size a) : Vec F S1x512x704 .bf16 :=
  View.ld X (Rect.unit ![j, 0, 0] ![1, 512, 704] inb)
abbrev wd (j : ℕ) (inb : ∀ a, (![j, 0, 0] : Fin 3 → ℕ) a + (![1, 704, 1024] : Fin 3 → ℕ) a ≤ S4x704x1024.size a) :
    Vec F S1x704x1024 .bf16 :=
  View.ld (iblk m c 4 t : Vec F S4x704x1024 .bf16) (Rect.unit ![j, 0, 0] ![1, 704, 1024] inb)
abbrev wd0 : Vec F S1x704x1024 .bf16 := wd m c t 0 inb_S4x704x1024_S1x704x1024_0_0_0
abbrev wd1 : Vec F S1x704x1024 .bf16 := wd m c t 1 inb_S4x704x1024_S1x704x1024_1_0_0
abbrev wd2 : Vec F S1x704x1024 .bf16 := wd m c t 2 inb_S4x704x1024_S1x704x1024_2_0_0
abbrev wd3 : Vec F S1x704x1024 .bf16 := wd m c t 3 inb_S4x704x1024_S1x704x1024_3_0_0

/-- The gate's gradient's chunks. -/
def gateC : Fin 4 → Vec F S1x512x704 .bf16
  | 0 => k0_pay7 (grad m c t) (wd0 m c t) (act (iblk m c 3 t) 0 inb_S4x512x704_S1x512x704_0_0_0)
  | 1 => k0_pay11 (k0_pay5 (grad m c t)) (wd1 m c t) (act (iblk m c 3 t) 1 inb_S4x512x704_S1x512x704_1_0_0)
  | 2 => k0_pay15 (k0_pay5 (grad m c t)) (wd2 m c t) (act (iblk m c 3 t) 2 inb_S4x512x704_S1x512x704_2_0_0)
  | 3 => k0_pay1 (k0_pay18 (k0_pay5 (grad m c t)) (wd3 m c t)) (act (iblk m c 3 t) 3 inb_S4x512x704_S1x512x704_3_0_0)
/-- The other factor's gradient's chunks. -/
def upC : Fin 4 → Vec F S1x512x704 .bf16
  | 0 => k0_pay8 (grad m c t) (wd0 m c t) (act (iblk m c 2 t) 0 inb_S4x512x704_S1x512x704_0_0_0)
  | 1 => k0_pay12 (k0_pay5 (grad m c t)) (wd1 m c t) (act (iblk m c 2 t) 1 inb_S4x512x704_S1x512x704_1_0_0)
  | 2 => k0_pay16 (k0_pay5 (grad m c t)) (wd2 m c t) (act (iblk m c 2 t) 2 inb_S4x512x704_S1x512x704_2_0_0)
  | 3 => k0_pay2 (k0_pay18 (k0_pay5 (grad m c t)) (wd3 m c t)) (act (iblk m c 2 t) 3 inb_S4x512x704_S1x512x704_3_0_0)
/-- Four chunks, from the last. -/
def chunks (v : Fin 4 → Vec F S1x512x704 .bf16) : List (View.Piece (Elt F) S4x512x704 .bf16) :=
  [⟨Rect.unit ![3, 0, 0] ![1, 512, 704] inb_S4x512x704_S1x512x704_3_0_0, v 3⟩,
    ⟨Rect.unit ![2, 0, 0] ![1, 512, 704] inb_S4x512x704_S1x512x704_2_0_0, v 2⟩,
    ⟨Rect.unit ![1, 0, 0] ![1, 512, 704] inb_S4x512x704_S1x512x704_1_0_0, v 1⟩,
    ⟨Rect.unit ![0, 0, 0] ![1, 512, 704] inb_S4x512x704_S1x512x704_0_0_0, v 0⟩]

/-- The weight's gradient's row ranges, from what the block held. -/
def range (acc : Vec F S2816x1024 .f32) : Fin 4 → Vec F S704x1024 .f32
  | 0 => k0_pay9 (grad m c t) (View.ld acc (Rect.unit ![0, 0] ![704, 1024] inb_S2816x1024_S704x1024_0_0))
      (act (iblk m c 1 t) 0 inb_S4x512x704_S1x512x704_0_0_0)
  | 1 => k0_pay13 (k0_pay5 (grad m c t)) (View.ld acc (Rect.unit ![704, 0] ![704, 1024] inb_S2816x1024_S704x1024_704_0))
      (act (iblk m c 1 t) 1 inb_S4x512x704_S1x512x704_1_0_0)
  | 2 => k0_pay17 (k0_pay5 (grad m c t)) (View.ld acc (Rect.unit ![1408, 0] ![704, 1024] inb_S2816x1024_S704x1024_1408_0))
      (act (iblk m c 1 t) 2 inb_S4x512x704_S1x512x704_2_0_0)
  | 3 => k0_pay3 (k0_pay5 (grad m c t)) (View.ld acc (Rect.unit ![2112, 0] ![704, 1024] inb_S2816x1024_S704x1024_2112_0))
      (act (iblk m c 1 t) 3 inb_S4x512x704_S1x512x704_3_0_0)
def pieces (acc : Vec F S2816x1024 .f32) : List (View.Piece (Elt F) S2816x1024 .f32) :=
  [⟨Rect.unit ![2112, 0] ![704, 1024] inb_S2816x1024_S704x1024_2112_0, range m c t acc 3⟩,
    ⟨Rect.unit ![1408, 0] ![704, 1024] inb_S2816x1024_S704x1024_1408_0, range m c t acc 2⟩,
    ⟨Rect.unit ![704, 0] ![704, 1024] inb_S2816x1024_S704x1024_704_0, range m c t acc 1⟩,
    ⟨Rect.unit ![0, 0] ![704, 1024] inb_S2816x1024_S704x1024_0_0, range m c t acc 0⟩]

theorem w_first (h : t.val % 8 = 0) : (outsAt0 m c t.val t.isLt).2.2 = View.canon (pieces m c t k0_pay4 ++
    [⟨Rect.unit ![0, 0] ![2816, 1024] inb_S2816x1024_S2816x1024_0_0, k0_pay4⟩]) := by
  rw [outsAt0_A m c t h]; frame_out
  simp (disch := decide) only [↓ View.readCov_skip, ↓ View.readCov_fill]
  rfl
theorem w_next (h : ¬t.val % 8 = 0) : (outsAt0 m c t.val t.isLt).2.2 =
    View.canon (pieces m c t (outsAt0 m c (t.val - 1) (by omega)).2.2 ++ []) := by
  rw [outsAt0_B m c t h]; frame_out; rfl
theorem g_out : (outsAt0 m c t.val t.isLt).1 = View.canon (chunks (gateC m c t)) := by
  by_cases h : t.val % 8 = 0
  · rw [outsAt0_A m c t h]; frame_out; rfl
  · rw [outsAt0_B m c t h]; frame_out; rfl
theorem u_out : (outsAt0 m c t.val t.isLt).2.1 = View.canon (chunks (upC m c t)) := by
  by_cases h : t.val % 8 = 0
  · rw [outsAt0_A m c t h]; frame_out; rfl
  · rw [outsAt0_B m c t h]; frame_out; rfl

end Cert.FfnAIdeal.Block

end
-- ==== Proof.Silu.lean ====
/-
  The gated activation `x * sigmoid x * u` over the extended reals, and its gradient in the two spellings that the kernel
  and the reference use.
-/
module

public import proofs.«01_k».proof.Proof.Finite

@[expose] public section

noncomputable section

namespace Cert.Silu

open Idealize.ShloMosaic Cert.Finite

variable (x u d : EReal)

/-- The sigmoid. -/
def sg : EReal := Ideal.div 1 (1 + Ideal.exp (-x))
/-- The activation. -/
def silu : EReal := x * sg x
/-- The activation's derivative, times the other factor. -/
def slope : EReal := u * (sg x * (1 + x * (1 - sg x)))
/-- The gate's gradient by the chain rule. -/
def chain : EReal := d * u * sg x + x * (d * u) * (sg x * (1 - sg x))

variable {x u d}

theorem sg_real (hx : IsReal x) : IsReal (sg x) := by
  obtain ⟨r, rfl⟩ := hx
  have e : 1 + Ideal.exp (-(r : EReal)) = ((1 + Real.exp (-r) : ℝ) : EReal) := by
    rw [← EReal.coe_neg, Ideal.exp_coe]
    push_cast
    rfl
  refine ⟨1 * (1 / (1 + Real.exp (-r))), ?_⟩
  unfold sg
  rw [e, Ideal.div_coe (by positivity)]
  push_cast
  rfl

/-- On real arguments the two spellings of the gate's gradient agree. -/
theorem chain_eq (hx : IsReal x) (hu : IsReal u) (hd : IsReal d) : chain x u d = d * slope x u := by
  obtain ⟨s, hs⟩ := sg_real hx
  obtain ⟨a, rfl⟩ := hx
  obtain ⟨b, rfl⟩ := hu
  obtain ⟨c, rfl⟩ := hd
  unfold chain slope
  rw [hs]
  norm_cast
  ring

end Cert.Silu

end
-- ==== Proof.Chunks.lean ====
/-
  The hidden units in the four chunks that the feed-forward kernels take them in: a sum over them, the loads of one chunk,
  and an array of them that is written as four row ranges.
-/
module

public import Idealize.ShloMosaic.Lib.Pipeline.ValueKit
public import Idealize.ShloMosaic.Lib.Pipeline.ValueKit.Acc
public import Idealize.ShloMosaic.Lib.Pointwise
public import Idealize.ShloMosaic.Lib.Ring
public import Idealize.ShloMosaic.Lib.Pipeline.ReadBack

@[expose] public section

set_option maxRecDepth 16384

noncomputable section

namespace Cert.Chunks

open Idealize.ShloMosaic Idealize.ShloMosaic.TcCoe

/-- The hidden unit `k` of chunk `j`. -/
def unitOf (j : Fin 4) (k : Fin 704) : Fin 2816 := ⟨704 * j.val + k.val, by omega⟩

/-- A sum over the hidden units, chunk by chunk. -/
theorem sum_split (f : Fin 2816 → EReal) : ∑ K, f K = ∑ k, f (unitOf 0 k) + ∑ k, f (unitOf 1 k) + ∑ k, f (unitOf 2 k)
    + ∑ k, f (unitOf 3 k) := by
  rw [← Fin.sum_univ_four fun j => ∑ k, f (unitOf j k)]
  exact (Fin.sum_mul_add_congr fun j k hl => congrArg f (Fin.ext (by unfold unitOf; simp only; omega))).symm

/-- The loads of chunk `j`. -/
theorem ld_chunk {e : EltTy} {n l : ℕ} (X : Vec Ideal ⟨3, ![4, n, l]⟩ e) (j : Fin 4) (inb) (r : Fin n) (k : Fin l) :
    View.ld X (Rect.unit (s := ⟨3, ![4, n, l]⟩) ![j.val, 0, 0] ![1, n, l] inb) (ix3 0 r k) = X (ix3 j r k) :=
  View.ld_unit_apply_of _ _ _ _ _ (ix3 j r k) fun a => by fin_cases a <;> simp
theorem ld_rows (X : Vec Ideal ⟨2, ![2816, 1024]⟩ .f32) (j : Fin 4) (o : ℕ) (ho : o = 704 * j.val) (inb) (k : Fin 704) (l : Fin 1024) :
    View.ld X (Rect.unit (s := ⟨2, ![2816, 1024]⟩) ![o, 0] ![704, 1024] inb) (ix2 k l) = X (ix2 (unitOf j k) l) := by
  subst ho
  exact View.ld_unit_apply_of _ _ _ _ _ _ fun a => by unfold unitOf; fin_cases a <;> simp

/-- The row of the whole that row `k` of a range is. -/
theorem emb_rows (j : Fin 4) (o : ℕ) (ho : o = 704 * j.val) (inb) (k : Fin 704) (l : Fin 1024) :
    (Rect.unit (s := ⟨2, ![2816, 1024]⟩) ![o, 0] ![704, 1024] inb).emb (ix2 k l) = ix2 (unitOf j k) l := by
  subst ho
  funext a
  refine Fin.ext ((show _ = ((![704 * j.val, 0] : Fin 2 → ℕ) a + (ix2 k l a : ℕ)) from
    Rect.idx_unit_val (![704 * j.val, 0] : Fin 2 → ℕ) ![704, 1024] inb (ix2 k l) a).trans ?_)
  unfold unitOf
  fin_cases a <;> simp

/-- Four row ranges, from the last, that hold a function's values: together they hold all of them. -/
theorem canon_rows (f : Fin 2816 → Fin 1024 → EReal) (v : Fin 4 → Vec Ideal ⟨2, ![704, 1024]⟩ .f32) (i0 i1 i2 i3)
    (h : ∀ j k l, v j (ix2 k l) = f (unitOf j k) l) (L : List (View.Piece (Elt Ideal) ⟨2, ![2816, 1024]⟩ .f32))
    (K : Fin 2816) (l : Fin 1024) :
    View.canon ([⟨Rect.unit ![2112, 0] ![704, 1024] i3, v 3⟩, ⟨Rect.unit ![1408, 0] ![704, 1024] i2, v 2⟩,
      ⟨Rect.unit ![704, 0] ![704, 1024] i1, v 1⟩, ⟨Rect.unit ![0, 0] ![704, 1024] i0, v 0⟩] ++ L) (ix2 K l) = f K l := by
  have p : View.PiecesOf (Val := Elt Ideal) (s := ⟨2, ![2816, 1024]⟩) (e := .f32) (fun y => f (y 0) (y 1))
      [⟨Rect.unit ![2112, 0] ![704, 1024] i3, v 3⟩, ⟨Rect.unit ![1408, 0] ![704, 1024] i2, v 2⟩,
        ⟨Rect.unit ![704, 0] ![704, 1024] i1, v 1⟩, ⟨Rect.unit ![0, 0] ![704, 1024] i0, v 0⟩] := by
    refine ⟨fun x => ?_, fun x => ?_, fun x => ?_, fun x => ?_, trivial⟩
    · idx_vars x
      rw [emb_rows 3 2112 rfl]
      exact h 3 _ _
    · idx_vars x
      rw [emb_rows 2 1408 rfl]
      exact h 2 _ _
    · idx_vars x
      rw [emb_rows 1 704 rfl]
      exact h 1 _ _
    · idx_vars x
      rw [emb_rows 0 0 rfl]
      exact h 0 _ _
  exact View.canon_append_of_piecesOf _ L _ p _ (View.cover_of_tiledBy _ ![704, 1024] (by sl_kernel_rfl) _)

/-- Chunk `j` of a block, as the block's own entries. -/
theorem emb_chunk (j : Fin 4) (inb) (r : Fin 512) (k : Fin 704) :
    (Rect.unit (s := ⟨3, ![4, 512, 704]⟩) ![j.val, 0, 0] ![1, 512, 704] inb).emb (ix3 0 r k) = ix3 j r k := by
  funext a
  refine Fin.ext ((show _ = ((![j.val, 0, 0] : Fin 3 → ℕ) a + (ix3 (0 : Fin 1) r k a : ℕ)) from
    Rect.idx_unit_val (![j.val, 0, 0] : Fin 3 → ℕ) ![1, 512, 704] inb (ix3 0 r k) a).trans ?_)
  fin_cases a <;> simp

/-- Four chunks, from the last, that hold a function's values: together they hold all of them. -/
theorem canon_chunks (f : Fin 4 → Fin 512 → Fin 704 → EReal) (v : Fin 4 → Vec Ideal ⟨3, ![1, 512, 704]⟩ .bf16) (i0 i1 i2 i3)
    (h : ∀ j r k, v j (ix3 0 r k) = f j r k) (j : Fin 4) (r : Fin 512) (k : Fin 704) :
    View.canon (Val := Elt Ideal) (s := ⟨3, ![4, 512, 704]⟩) (e := .bf16)
      [⟨Rect.unit ![3, 0, 0] ![1, 512, 704] i3, v 3⟩, ⟨Rect.unit ![2, 0, 0] ![1, 512, 704] i2, v 2⟩,
        ⟨Rect.unit ![1, 0, 0] ![1, 512, 704] i1, v 1⟩, ⟨Rect.unit ![0, 0, 0] ![1, 512, 704] i0, v 0⟩] (ix3 j r k) = f j r k := by
  have p : View.PiecesOf (Val := Elt Ideal) (s := ⟨3, ![4, 512, 704]⟩) (e := .bf16) (fun y => f (y 0) (y 1) (y 2))
      [⟨Rect.unit ![3, 0, 0] ![1, 512, 704] i3, v 3⟩, ⟨Rect.unit ![2, 0, 0] ![1, 512, 704] i2, v 2⟩,
        ⟨Rect.unit ![1, 0, 0] ![1, 512, 704] i1, v 1⟩, ⟨Rect.unit ![0, 0, 0] ![1, 512, 704] i0, v 0⟩] := by
    refine ⟨fun x => ?_, fun x => ?_, fun x => ?_, fun x => ?_, trivial⟩
    · idx_vars x
      obtain rfl : x0 = 0 := Subsingleton.elim _ _
      exact (h 3 _ _).trans (congrArg (fun y : Shape.Idx ⟨3, ![4, 512, 704]⟩ => f (y 0) (y 1) (y 2)) (emb_chunk 3 i3 x1 x2)).symm
    · idx_vars x
      obtain rfl : x0 = 0 := Subsingleton.elim _ _
      exact (h 2 _ _).trans (congrArg (fun y : Shape.Idx ⟨3, ![4, 512, 704]⟩ => f (y 0) (y 1) (y 2)) (emb_chunk 2 i2 x1 x2)).symm
    · idx_vars x
      obtain rfl : x0 = 0 := Subsingleton.elim _ _
      exact (h 1 _ _).trans (congrArg (fun y : Shape.Idx ⟨3, ![4, 512, 704]⟩ => f (y 0) (y 1) (y 2)) (emb_chunk 1 i1 x1 x2)).symm
    · idx_vars x
      obtain rfl : x0 = 0 := Subsingleton.elim _ _
      exact (h 0 _ _).trans (congrArg (fun y : Shape.Idx ⟨3, ![4, 512, 704]⟩ => f (y 0) (y 1) (y 2)) (emb_chunk 0 i0 x1 x2)).symm
  refine (congrFun (congrArg View.canon (List.append_nil _).symm) _).trans ?_
  exact View.canon_append_of_piecesOf _ [] _ p _ (View.cover_of_tiledBy _ ![1, 512, 704] (by sl_kernel_rfl) _)

end Cert.Chunks

end
-- ==== Proof.ActHost.lean ====
/-
  The saved activations that the gated activation's backward call receives: the forward pass's own lines, in chunks.
-/
module

public import proofs.«01_k».proof.Proof.ActBlock
public import proofs.«01_k».proof.Proof.Silu
public import proofs.«01_k».proof.Proof.Chunks

@[expose] public section

set_option maxRecDepth 16384

noncomputable section

namespace Cert.FfnAIdeal.Block

open Cert.FfnAIdeal Cert.FfnAIdeal.Gen Idealize.ShloMosaic Idealize.ShloMosaic.TcCoe Cert.Silu Cert.Chunks

variable (g u : FVec Ideal S4096x2816 .f32) (j : Fin 4) (R : Fin 4096) (k : Fin 704)

abbrev ones : FVec Ideal S4096x2816 .f32 :=
  broadcastInDim S4096x2816 ![] bcast_S_S4096x2816 (constant (F := Ideal) S_ .f32 0x3F800000#32)
/-- The sigmoid. -/
abbrev sigm : FVec Ideal S4096x2816 .f32 := Host.divf (F := Ideal) ones (addf (F := Ideal) ones (Host.exp (F := Ideal) (Host.negf (F := Ideal) g)))
/-- An array in chunks, rounded. -/
abbrev chunked (x : FVec Ideal S4096x2816 .f32) : FVec Ideal S4x4096x704 .bf16 :=
  truncf (F := Ideal) .bf16 (transpose S4x4096x704 [1, 0, 2] (shapeCast S4096x4x704 x shapeCasts_S4096x2816_S4096x4x704)
    transposes_S4096x4x704_S4x4096x704_1_0_2) bitsLt_bf16_f32
def pH : FVec Ideal S4x4096x704 .bf16 := chunked (mulf (F := Ideal) g (sigm g))
def aH : FVec Ideal S4x4096x704 .bf16 := chunked (mulf (F := Ideal) (mulf (F := Ideal) g (sigm g)) u)
def qH : FVec Ideal S4x4096x704 .bf16 := chunked (mulf (F := Ideal) u (mulf (F := Ideal) (sigm g)
  (addf (F := Ideal) ones (mulf (F := Ideal) g (subf (F := Ideal) ones (sigm g))))))

theorem unit_eq : (⟨j.val * 704 + k.val, by omega⟩ : Fin 2816) = unitOf j k := Fin.ext (by unfold unitOf; simp only; omega)

theorem pH_at : pH g (ix3 j R k) = silu (g (ix2 R (unitOf j k))) := by
  rw [← unit_eq]
  pointwise [pH, chunked, sigm, ones]
  rfl
theorem aH_at : aH g u (ix3 j R k) = silu (g (ix2 R (unitOf j k))) * u (ix2 R (unitOf j k)) := by
  rw [← unit_eq]
  pointwise [aH, chunked, sigm, ones]
  rfl
theorem qH_at : qH g u (ix3 j R k) = Silu.slope (g (ix2 R (unitOf j k))) (u (ix2 R (unitOf j k))) := by
  rw [← unit_eq]
  pointwise [qH, chunked, sigm, ones]
  rfl

variable (m : (ℓ : Loc nD τ sig) → Buf (Elt Ideal) ℓ) (c : Dev nD)

abbrev gateA : FVec Ideal S4096x2816 .f32 := m ((c : Thread nD τ).loc main_arg0)
abbrev upA : FVec Ideal S4096x2816 .f32 := m ((c : Thread nD τ).loc main_arg1)

theorem p_eq : StableHlo.after hostOps0 (fun b => m (c, b)) (Proc.tc.devRef main_v20) = pH (gateA m c) := by rfl
theorem a_eq : StableHlo.after hostOps0 (fun b => m (c, b)) (Proc.tc.devRef main_v17) = aH (gateA m c) (upA m c) := by rfl
theorem q_eq : StableHlo.after hostOps0 (fun b => m (c, b)) (Proc.tc.devRef main_v23) = qH (gateA m c) (upA m c) := by rfl

end Cert.FfnAIdeal.Block

end
-- ==== Proof.ActArray.lean ====
/-
  What the three result arrays of the gated activation's backward call hold after its run, in terms of the program's
  arguments.
-/
module

public import proofs.«01_k».proof.Proof.ActHost
public import proofs.«01_k».proof.Proof.Points
public import Idealize.ShloMosaic.Lib.Pipeline.ValueKit

@[expose] public section

set_option maxRecDepth 16384

noncomputable section

namespace Cert.FfnAIdeal.Block

open Cert.FfnAIdeal Cert.FfnAIdeal.Gen Idealize.ShloMosaic Idealize.ShloMosaic.TcCoe Cert.Silu Cert.Chunks

variable (m : (ℓ : Loc nD τ sig) → Buf (Elt Ideal) ℓ) (c : Dev nD)

/-- The arguments: the gate, the other factor, the weight, and the gradient that arrives. -/
abbrev fg (R : Fin 4096) (K : Fin 2816) : EReal := (m ((c : Thread nD τ).loc main_arg0) : Vec Ideal S4096x2816 .f32) (ix2 R K)
abbrev fu (R : Fin 4096) (K : Fin 2816) : EReal := (m ((c : Thread nD τ).loc main_arg1) : Vec Ideal S4096x2816 .f32) (ix2 R K)
abbrev fw (K : Fin 2816) (l : Fin 1024) : EReal := (m ((c : Thread nD τ).loc main_arg2) : Vec Ideal S2816x1024 .f32) (ix2 K l)
abbrev fd (R : Fin 4096) (l : Fin 1024) : EReal := (m ((c : Thread nD τ).loc main_arg3) : Vec Ideal S4096x1024 .f32) (ix2 R l)

/-- Where each window's block stands in its array. -/
theorem idx : ∀ t : Fin grid0.N, win0_0.index t = ![t.val, 0] ∧ win0_1.index t = ![0, t.val, 0] ∧ win0_2.index t = ![0, t.val, 0]
    ∧ win0_3.index t = ![0, t.val, 0] ∧ win0_4.index t = ![0, 0, 0] ∧ win0_5.index t = ![0, t.val, 0]
    ∧ win0_6.index t = ![0, t.val, 0] ∧ win0_7.index t = ![0, 0] := by decide +kernel

theorem points : grid0.N = 8 := by decide +kernel

/-- The array's row that row `r` of point `t`'s block is. -/
def row (t : Fin cfg0.N) (r : Fin 512) : Fin 4096 := ⟨512 * t.val + r.val, by
  have := t.isLt; have h : cfg0.N = 8 := points; omega⟩

variable (t : Fin cfg0.N) (j : Fin 4) (r : Fin 512) (k : Fin 704) (l : Fin 1024)

theorem grad_at : grad m c t (ix2 r l) = fd m c (row t r) l := by
  unfold row
  blk_ext [iblk, V, idx t]
theorem w_at : iblk m c 4 t (ix3 j k l) = fw m c (unitOf j k) l := by
  unfold unitOf
  blk_ext! [iblk, V, idx t]
theorem p_at : iblk m c 2 t (ix3 j r k) = silu (fg m c (row t r) (unitOf j k)) := by
  refine Eq.trans (b := pH (gateA m c) (ix3 j (row t r) k)) ?_ (pH_at _ j _ k)
  unfold row
  blk_ext [iblk, V, p_eq, idx t]
theorem a_at : iblk m c 1 t (ix3 j r k) = silu (fg m c (row t r) (unitOf j k)) * fu m c (row t r) (unitOf j k) := by
  refine Eq.trans (b := aH (gateA m c) (upA m c) (ix3 j (row t r) k)) ?_ (aH_at _ _ j _ k)
  unfold row
  blk_ext [iblk, V, a_eq, idx t]
theorem q_at : iblk m c 3 t (ix3 j r k) = Silu.slope (fg m c (row t r) (unitOf j k)) (fu m c (row t r) (unitOf j k)) := by
  refine Eq.trans (b := qH (gateA m c) (upA m c) (ix3 j (row t r) k)) ?_ (qH_at _ _ j _ k)
  unfold row
  blk_ext [iblk, V, q_eq, idx t]

/-- The gradient of the product's left factor. -/
def dleft (j : Fin 4) (R : Fin 4096) (k : Fin 704) : EReal := ∑ l : Fin 1024, fd m c R l * fw m c (unitOf j k) l

theorem left_at (inb) : da (grad m c t) (wd m c t j.val inb) r k = dleft m c j (row t r) k :=
  Finset.sum_congr rfl fun l _ => congrArg₂ (· * ·) (grad_at m c t r l) ((ld_chunk _ j inb k l).trans (w_at m c t j k l))

theorem gate_out : gateC m c t j (ix3 0 r k) =
    dleft m c j (row t r) k * Silu.slope (fg m c (row t r) (unitOf j k)) (fu m c (row t r) (unitOf j k)) := by
  have s (j : Fin 4) (inb) := (ld_chunk (iblk m c 3 t : Vec Ideal S4x512x704 .bf16) j inb r k).trans (q_at m c t j r k)
  match j with
  | 0 => exact (gate_at _ _ _ r k).1.trans (congrArg₂ (· * ·) (left_at m c t 0 r k _) (s 0 _))
  | 1 => exact (gate_at _ _ _ r k).2.1.trans (congrArg₂ (· * ·) (left_at m c t 1 r k _) (s 1 _))
  | 2 => exact (gate_at _ _ _ r k).2.2.1.trans (congrArg₂ (· * ·) (left_at m c t 2 r k _) (s 2 _))
  | 3 => exact (gate_at _ _ _ r k).2.2.2.trans (congrArg₂ (· * ·) (left_at m c t 3 r k _) (s 3 _))

theorem up_out : upC m c t j (ix3 0 r k) = dleft m c j (row t r) k * silu (fg m c (row t r) (unitOf j k)) := by
  have s (j : Fin 4) (inb) := (ld_chunk (iblk m c 2 t : Vec Ideal S4x512x704 .bf16) j inb r k).trans (p_at m c t j r k)
  match j with
  | 0 => exact (up_at _ _ _ r k).1.trans (congrArg₂ (· * ·) (left_at m c t 0 r k _) (s 0 _))
  | 1 => exact (up_at _ _ _ r k).2.1.trans (congrArg₂ (· * ·) (left_at m c t 1 r k _) (s 1 _))
  | 2 => exact (up_at _ _ _ r k).2.2.1.trans (congrArg₂ (· * ·) (left_at m c t 2 r k _) (s 2 _))
  | 3 => exact (up_at _ _ _ r k).2.2.2.trans (congrArg₂ (· * ·) (left_at m c t 3 r k _) (s 3 _))

/-- The activation, and its product with the gradient that arrives. -/
abbrev acts (R : Fin 4096) (K : Fin 2816) : EReal := silu (fg m c R K) * fu m c R K

theorem range_at (acc : Vec Ideal S2816x1024 .f32) : range m c t acc j (ix2 k l) =
    acc (ix2 (unitOf j k) l) + ∑ r : Fin 512, acts m c (row t r) (unitOf j k) * fd m c (row t r) l := by
  have s (j : Fin 4) (inb) : ∑ r : Fin 512, act (iblk m c 1 t) j.val inb (ix3 0 r k) * grad m c t (ix2 r l) = ∑ r : Fin 512,
      acts m c (row t r) (unitOf j k) * fd m c (row t r) l :=
    Finset.sum_congr rfl fun r _ => congrArg₂ (· * ·) ((ld_chunk _ j inb r k).trans (a_at m c t j r k)) (grad_at m c t r l)
  match j with
  | 0 => exact (weight_at _ _ _ _ _).1.trans (congrArg₂ (· + ·) (ld_rows _ 0 0 rfl _ _ _) (s 0 _))
  | 1 => exact (weight_at _ _ _ _ _).2.1.trans (congrArg₂ (· + ·) (ld_rows _ 1 704 rfl _ _ _) (s 1 _))
  | 2 => exact (weight_at _ _ _ _ _).2.2.1.trans (congrArg₂ (· + ·) (ld_rows _ 2 1408 rfl _ _ _) (s 2 _))
  | 3 => exact (weight_at _ _ _ _ _).2.2.2.trans (congrArg₂ (· + ·) (ld_rows _ 3 2112 rfl _ _ _) (s 3 _))

theorem canon_at (acc : Vec Ideal S2816x1024 .f32) (L : List (View.Piece (Elt Ideal) S2816x1024 .f32)) (K : Fin 2816) :
    View.canon (pieces m c t acc ++ L) (ix2 K l) = acc (ix2 K l) + ∑ r : Fin 512,
      acts m c (row t r) K * fd m c (row t r) l :=
  canon_rows (fun K l => acc (ix2 K l) + ∑ r : Fin 512, acts m c (row t r) K * fd m c (row t r) l)
    (range m c t acc) _ _ _ _ (fun j k l => range_at m c t j k l acc) L K l

/-- The weight's gradient. -/
theorem final7 : (dats m 0 c).arrAt 7 cfg0.N = fun i => ∑ R : Fin 4096, acts m c R (i 0) * fd m c R (i 1) := by
  refine (dats m 0 c).arrAt_eq_of_after_last 7 t0_7 (by decide +kernel) _ fun j => ?_
  idx_vars j
  blk_simp [idx]
  rw [after0_7]
  exact Points.fold points (fun n h l => (outsAt0 m c n h).2.2 (ix2 j0 l)) (fun R l => acts m c R j0 * fd m c R l)
    (fun t h l => by rw [w_first m c t h, canon_at, zero_at]; rfl)
    (fun t h l => by rw [w_next m c t h, canon_at]; rfl) t0_7 rfl j1

/-- The gate's gradient. -/
def dgate (j : Fin 4) (R : Fin 4096) (k : Fin 704) : EReal := dleft m c j R k * Silu.slope (fg m c R (unitOf j k)) (fu m c R (unitOf j k))

theorem final5 : (dats m 0 c).arrAt 5 cfg0.N = fun i => dgate m c (i 0) (i 1) (i 2) := by
  refine (dats m 0 c).arrAt_eq_of_covers 5 _ (by decide +kernel) fun t hf y => ?_
  blk_simp [idx]
  rw [after0_5, g_out]
  idx_vars y
  refine (canon_chunks (fun j r k => dgate m c j (row t r) k) (gateC m c t) _ _ _ _ (gate_out m c t) y0 y1 y2).trans ?_
  refine congr (congr (congrArg (dgate m c) ?_) ?_) ?_
  · apply Fin.ext; blk_simp [idx]
  · apply Fin.ext; unfold row; blk_simp [idx]; show 512 * t.val + y1.val = _; omega
  · apply Fin.ext; blk_simp [idx]

/-- The other factor's gradient. -/
def dup (j : Fin 4) (R : Fin 4096) (k : Fin 704) : EReal := dleft m c j R k * silu (fg m c R (unitOf j k))

theorem final6 : (dats m 0 c).arrAt 6 cfg0.N = fun i => dup m c (i 0) (i 1) (i 2) := by
  refine (dats m 0 c).arrAt_eq_of_covers 6 _ (by decide +kernel) fun t hf y => ?_
  blk_simp [idx]
  rw [after0_6, u_out]
  idx_vars y
  refine (canon_chunks (fun j r k => dup m c j (row t r) k) (upC m c t) _ _ _ _ (up_out m c t) y0 y1 y2).trans ?_
  refine congr (congr (congrArg (dup m c) ?_) ?_) ?_
  · apply Fin.ext; blk_simp [idx]
  · apply Fin.ext; unfold row; blk_simp [idx]; show 512 * t.val + y1.val = _; omega
  · apply Fin.ext; blk_simp [idx]

end Cert.FfnAIdeal.Block

end
-- ==== Proof.ActRef.lean ====
/-
  The reference of the gated activation's gradient: its three results at an index.
-/
module

public import proofs.«01_k».proof.Proof.Silu
public import proofs.«01_k».proof.Proof.Chunks
public import proofs.«01_k».proof.Proof.Gen.FfnARefIdeal.Read
public import Idealize.ShloMosaic.Lib.Pointwise

@[expose] public section

noncomputable section

namespace Cert.FfnARefIdeal.Stage

open Cert.FfnARefIdeal Cert.FfnARefIdeal.Gen Idealize.ShloMosaic Cert.Finite Cert.Silu Cert.Chunks
open Cert.FfnARefIdeal.Read

variable (x0 x1 : Vec Ideal S4096x2816 .f32) (x2 : Vec Ideal S2816x1024 .f32) (x3 : Vec Ideal S4096x1024 .f32)
  (R : Fin 4096) (K : Fin 2816)

theorem s_at : val_main_v0_2 x0 (ix2 R K) = sg (x0 (ix2 R K)) := by
  pointwise [val_main_v0_2, val_main_call0_v4, val_main_call0_cst_0, val_main_call0_v3, val_main_call0_v2,
    val_main_call0_cst, val_main_call0_v1, val_main_call0_v0]
  rfl
theorem v0_at : val_main_v0_0 x0 (ix2 R K) = silu (x0 (ix2 R K)) := by
  pointwise [val_main_v0_0, s_at]
  rfl
theorem v1_at : val_main_v1 x0 x1 (ix2 R K) = silu (x0 (ix2 R K)) * x1 (ix2 R K) := by
  pointwise [val_main_v1, v0_at]
theorem v5_at : val_main_v5 x2 x3 (ix2 R K) = ∑ l : Fin 1024, x3 (ix2 R l) * x2 (ix2 K l) := by
  pointwise [val_main_v5]
theorem v6_at : val_main_v6 x0 x2 x3 (ix2 R K) = silu (x0 (ix2 R K)) * ∑ l : Fin 1024, x3 (ix2 R l) * x2 (ix2 K l) := by
  pointwise [val_main_v6, v0_at, v5_at]
theorem v8_at : val_main_v8 x0 x1 x2 x3 (ix2 R K) =
    chain (x0 (ix2 R K)) (x1 (ix2 R K)) (∑ l : Fin 1024, x3 (ix2 R l) * x2 (ix2 K l)) := by
  pointwise [val_main_v8, val_main_call1_v1, val_main_call1_v2, val_main_call1_v0, val_main_v0_1, val_main_call0_v7,
    val_main_call0_v6, val_main_call0_cst_1, val_main_v7, s_at, v5_at]
  rfl

/-- The gradient of the product's left factor. -/
abbrev da (j : Fin 4) (R : Fin 4096) (k : Fin 704) : EReal := ∑ l : Fin 1024, x3 (ix2 R l) * x2 (ix2 (unitOf j k) l)

theorem v14_eq : val_main_v14 (F := Ideal) x0 x2 x3 = fun (i : Shape.Idx ⟨3, ![4, 4096, 704]⟩) =>
    da x2 x3 (i 0) (i 1) (i 2) * silu (x0 (ix2 (i 1) (unitOf (i 0) (i 2)))) := by
  funext i
  idx_vars i
  pointwise [val_main_v14, val_main_v13, val_main_v12, v6_at]
  have e : (⟨i0.val * 704 + i2.val, by omega⟩ : Fin 2816) = unitOf i0 i2 := Fin.ext (by unfold unitOf; simp only; omega)
  rw [e]
  exact mul_comm _ _

theorem v11_eq (h0 : ∀ i, IsReal (x0 i)) (h1 : ∀ i, IsReal (x1 i)) (h2 : ∀ i, IsReal (x2 i)) (h3 : ∀ i, IsReal (x3 i)) :
    val_main_v11 (F := Ideal) x0 x1 x2 x3 = fun (i : Shape.Idx ⟨3, ![4, 4096, 704]⟩) =>
      da x2 x3 (i 0) (i 1) (i 2) * slope (x0 (ix2 (i 1) (unitOf (i 0) (i 2)))) (x1 (ix2 (i 1) (unitOf (i 0) (i 2)))) := by
  funext i
  idx_vars i
  pointwise [val_main_v11, val_main_v10, val_main_v9, v8_at]
  have e : (⟨i0.val * 704 + i2.val, by omega⟩ : Fin 2816) = unitOf i0 i2 := Fin.ext (by unfold unitOf; simp only; omega)
  rw [e]
  exact chain_eq (h0 _) (h1 _) (IsReal.sum _ fun l => (h3 _).mul (h2 _))

theorem v4_eq : val_main_v4 (F := Ideal) x0 x1 x3 = fun (i : Shape.Idx ⟨2, ![2816, 1024]⟩) =>
    ∑ R : Fin 4096, silu (x0 (ix2 R (i 0))) * x1 (ix2 R (i 0)) * x3 (ix2 R (i 1)) := by
  funext i
  idx_vars i
  pointwise [val_main_v4, val_main_v3, v1_at]
  exact Finset.sum_congr rfl fun R _ => mul_comm _ _

end Cert.FfnARefIdeal.Stage

end
-- ==== Proof.GateBlock.lean ====
/-
  What one grid point of the gate projection's backward call computes, at an index, and what its two output blocks hold
  after it.
-/
module

public import proofs.«01_k».proof.Proof.NormProj
public import proofs.«01_k».proof.Proof.Gen.FfnGIdeal.Value
public import Idealize.ShloMosaic.Lib.Pipeline.ValueKit.Acc
public import Idealize.ShloMosaic.Lib.Pipeline.ReadBack
public import Idealize.ShloMosaic.Lib.Pointwise

@[expose] public section

noncomputable section

namespace Cert.FfnGIdeal.Block

open Cert.FfnGIdeal Cert.FfnGIdeal.Gen Idealize.ShloMosaic Idealize.ShloMosaic.TcCoe Cert.RowNorm Cert.Words Cert.NormProj

section Rows

variable (v : Vec Ideal S512x1024 .f32) (g b : Vec Ideal S1x1024 .f32) (p : Fin 512) (l : Fin 1024)
  (u : Vec Ideal S1x512x704 .bf16) (w : Vec Ideal S1x704x1024 .bf16)

/-- The normalised, scaled and shifted rows. -/
theorem pay5_at : k0_pay5 v g b (ix2 p l) = out (fun p l => v (ix2 p l)) (fun l => g (ix2 0 l)) (fun l => b (ix2 0 l)) p l := by
  pointwise [k0_pay5]
  rfl
/-- The residual's part of the gradient. -/
theorem pay6_at : k0_pay6 v (ix2 p l) = alpha * v (ix2 p l) := by
  pointwise [k0_pay6]

/-- The product of one chunk of the gradient with its chunk of the weight. -/
def chunk : EReal := ∑ k, u (ix3 0 p k) * w (ix3 0 k l)

theorem pay8_at : k0_pay8 u w (ix2 p l) = chunk p l u w := by
  pointwise [k0_pay8, k0_pay7]
  rfl
theorem pay13_at (d e : FVec Ideal S512x1024 .f32) (u' : Vec Ideal S1x512x704 .bf16) (w' : Vec Ideal S1x704x1024 .bf16) :
    k0_pay13 d e u w u' w' (ix2 p l) = d (ix2 p l) + e (ix2 p l) + chunk p l u w + chunk p l u' w' := by
  pointwise [k0_pay13, k0_pay10, k0_pay12]
  rfl
theorem pay3_at (d : FVec Ideal S512x1024 .f32) : k0_pay3 d u w (ix2 p l) = d (ix2 p l) + chunk p l u w := by
  pointwise [k0_pay3, k0_pay1]
  rfl

/-- The four row ranges of the weight's gradient, each added to what it held. -/
theorem weight_at (h : FVec Ideal S512x1024 .bf16) (acc : Vec Ideal S704x1024 .f32) (k : Fin 704) :
    k0_pay9 h (k0_pay7 u) acc (ix2 k l) = acc (ix2 k l) + ∑ p, u (ix3 0 p k) * h (ix2 p l)
    ∧ k0_pay11 h u acc (ix2 k l) = acc (ix2 k l) + ∑ p, u (ix3 0 p k) * h (ix2 p l)
    ∧ k0_pay14 h u acc (ix2 k l) = acc (ix2 k l) + ∑ p, u (ix3 0 p k) * h (ix2 p l)
    ∧ k0_pay2 h u acc (ix2 k l) = acc (ix2 k l) + ∑ p, u (ix3 0 p k) * h (ix2 p l) := by
  refine ⟨?_, ?_, ?_, ?_⟩
  · pointwise [k0_pay9, k0_pay7]
  · pointwise [k0_pay11, k0_pay10]
  · pointwise [k0_pay14, k0_pay12]
  · pointwise [k0_pay2, k0_pay1]

theorem zero_at (k : Fin 2816) : k0_pay4 (F := Ideal) (ix2 k l) = 0 := by
  pointwise [k0_pay4]

end Rows

variable {F : FTy → Type} [FloatOps F] (m : (ℓ : Loc nD τ sig) → Buf (Elt F) ℓ) (c : Dev nD) (t : Fin cfg0.N)

/-- The scaled and shifted rows. -/
def outb : FVec F S512x1024 .bf16 := k0_pay5 (iblk m c 2 t : Vec F S512x1024 .f32) (iblk m c 3 t) (iblk m c 4 t)
/-- The chunks of the gradient and of the weight. -/
abbrev du (j : ℕ) (inb : ∀ a, (![j, 0, 0] : Fin 3 → ℕ) a + (![1, 512, 704] : Fin 3 → ℕ) a ≤ S4x512x704.size a) : Vec F S1x512x704 .bf16 :=
  View.ld (iblk m c 1 t : Vec F S4x512x704 .bf16) (Rect.unit ![j, 0, 0] ![1, 512, 704] inb)
abbrev wu (j : ℕ) (inb : ∀ a, (![j, 0, 0] : Fin 3 → ℕ) a + (![1, 704, 1024] : Fin 3 → ℕ) a ≤ S4x704x1024.size a) : Vec F S1x704x1024 .bf16 :=
  View.ld (iblk m c 5 t : Vec F S4x704x1024 .bf16) (Rect.unit ![j, 0, 0] ![1, 704, 1024] inb)
/-- The gradient of the scaled and shifted rows. -/
def dout : FVec F S512x1024 .f32 :=
  k0_pay3 (k0_pay13 (k0_pay6 (iblk m c 0 t)) (k0_pay8 (du m c t 0 inb_S4x512x704_S1x512x704_0_0_0) (wu m c t 0 inb_S4x704x1024_S1x704x1024_0_0_0))
      (du m c t 1 inb_S4x512x704_S1x512x704_1_0_0) (wu m c t 1 inb_S4x704x1024_S1x704x1024_1_0_0)
      (du m c t 2 inb_S4x512x704_S1x512x704_2_0_0) (wu m c t 2 inb_S4x704x1024_S1x704x1024_2_0_0))
    (du m c t 3 inb_S4x512x704_S1x512x704_3_0_0) (wu m c t 3 inb_S4x704x1024_S1x704x1024_3_0_0)

/-- The weight's gradient's row ranges, from what the block held. -/
def range (acc : Vec F S2816x1024 .f32) : Fin 4 → Vec F S704x1024 .f32
  | 0 => k0_pay9 (outb m c t) (k0_pay7 (du m c t 0 inb_S4x512x704_S1x512x704_0_0_0))
      (View.ld acc (Rect.unit ![0, 0] ![704, 1024] inb_S2816x1024_S704x1024_0_0))
  | 1 => k0_pay11 (outb m c t) (du m c t 1 inb_S4x512x704_S1x512x704_1_0_0)
      (View.ld acc (Rect.unit ![704, 0] ![704, 1024] inb_S2816x1024_S704x1024_704_0))
  | 2 => k0_pay14 (outb m c t) (du m c t 2 inb_S4x512x704_S1x512x704_2_0_0)
      (View.ld acc (Rect.unit ![1408, 0] ![704, 1024] inb_S2816x1024_S704x1024_1408_0))
  | 3 => k0_pay2 (outb m c t) (du m c t 3 inb_S4x512x704_S1x512x704_3_0_0)
      (View.ld acc (Rect.unit ![2112, 0] ![704, 1024] inb_S2816x1024_S704x1024_2112_0))

def pieces (acc : Vec F S2816x1024 .f32) : List (View.Piece (Elt F) S2816x1024 .f32) :=
  [⟨Rect.unit ![2112, 0] ![704, 1024] inb_S2816x1024_S704x1024_2112_0, range m c t acc 3⟩,
    ⟨Rect.unit ![1408, 0] ![704, 1024] inb_S2816x1024_S704x1024_1408_0, range m c t acc 2⟩,
    ⟨Rect.unit ![704, 0] ![704, 1024] inb_S2816x1024_S704x1024_704_0, range m c t acc 1⟩,
    ⟨Rect.unit ![0, 0] ![704, 1024] inb_S2816x1024_S704x1024_0_0, range m c t acc 0⟩]

theorem w_first (h : t.val % 8 = 0) : (outsAt0 m c t.val t.isLt).2 = View.canon (pieces m c t k0_pay4 ++
    [⟨Rect.unit ![0, 0] ![2816, 1024] inb_S2816x1024_S2816x1024_0_0, k0_pay4⟩]) := by
  rw [outsAt0_A m c t h]; frame_out
  simp (disch := decide) only [↓ View.readCov_skip, ↓ View.readCov_fill]
  rfl
theorem w_next (h : ¬t.val % 8 = 0) : (outsAt0 m c t.val t.isLt).2 =
    View.canon (pieces m c t (outsAt0 m c (t.val - 1) (by omega)).2 ++ []) := by
  rw [outsAt0_B m c t h]; frame_out; rfl
theorem x_first (h : t.val % 8 = 0) : (outsAt0 m c t.val t.isLt).1 = dout m c t := by
  rw [outsAt0_A m c t h]; frame_out; rfl
theorem x_next (h : ¬t.val % 8 = 0) : (outsAt0 m c t.val t.isLt).1 = dout m c t := by
  rw [outsAt0_B m c t h]; frame_out; rfl

end Cert.FfnGIdeal.Block

end
-- ==== Proof.GateArray.lean ====
/-
  What the two result arrays of the gate projection's backward call hold after its run, as the functions of `NormProj` of
  the program's arguments.
-/
module

public import proofs.«01_k».proof.Proof.GateBlock
public import proofs.«01_k».proof.Proof.Chunks
public import proofs.«01_k».proof.Proof.Points
public import Idealize.ShloMosaic.Lib.Pipeline.ValueKit

@[expose] public section

set_option maxRecDepth 16384

noncomputable section

namespace Cert.FfnGIdeal.Block

open Cert.FfnGIdeal Cert.FfnGIdeal.Gen Idealize.ShloMosaic Idealize.ShloMosaic.TcCoe Cert.RowNorm Cert.Words Cert.Chunks

variable (m : (ℓ : Loc nD τ sig) → Buf (Elt Ideal) ℓ) (c : Dev nD)

/-- The arguments: rows, scale, shift, weight, the product's gradient and the residual's. -/
abbrev fx (R : Fin 4096) (l : Fin 1024) : EReal := (m ((c : Thread nD τ).loc main_arg0) : Vec Ideal S4096x1024 .f32) (ix2 R l)
abbrev fg (l : Fin 1024) : EReal := (m ((c : Thread nD τ).loc main_arg1) : Vec Ideal S1x1024 .f32) (ix2 0 l)
abbrev fb (l : Fin 1024) : EReal := (m ((c : Thread nD τ).loc main_arg2) : Vec Ideal S1x1024 .f32) (ix2 0 l)
abbrev fw (l : Fin 1024) (k : Fin 2816) : EReal := (m ((c : Thread nD τ).loc main_arg3) : Vec Ideal S1024x2816 .f32) (ix2 l k)
abbrev fd (R : Fin 4096) (k : Fin 2816) : EReal := (m ((c : Thread nD τ).loc main_arg4) : Vec Ideal S4096x2816 .f32) (ix2 R k)
abbrev fr (R : Fin 4096) (l : Fin 1024) : EReal := (m ((c : Thread nD τ).loc main_arg5) : Vec Ideal S4096x1024 .f32) (ix2 R l)

/-- Where each window's block stands in its array. -/
theorem idx : ∀ t : Fin grid0.N, win0_0.index t = ![t.val, 0] ∧ win0_1.index t = ![0, t.val, 0] ∧ win0_2.index t = ![t.val, 0]
    ∧ win0_3.index t = ![0, 0] ∧ win0_4.index t = ![0, 0] ∧ win0_5.index t = ![0, 0, 0] ∧ win0_6.index t = ![t.val, 0]
    ∧ win0_7.index t = ![0, 0] := by decide +kernel

theorem points : grid0.N = 8 := by decide +kernel

/-- The array's row that row `r` of point `t`'s block is. -/
def row (t : Fin cfg0.N) (r : Fin 512) : Fin 4096 := ⟨512 * t.val + r.val, by
  have := t.isLt; have h : cfg0.N = 8 := points; omega⟩

variable (t : Fin cfg0.N)

theorem x_at (r : Fin 512) (l : Fin 1024) : iblk m c 2 t (ix2 r l) = fx m c (row t r) l := by
  unfold row
  blk_ext [iblk, V, idx t]
theorem gain_at (l : Fin 1024) : iblk m c 3 t (ix2 0 l) = fg m c l := by
  blk_ext [iblk, V, idx t]
theorem shift_at (l : Fin 1024) : iblk m c 4 t (ix2 0 l) = fb m c l := by
  blk_ext [iblk, V, idx t]
theorem dres_at (r : Fin 512) (l : Fin 1024) : iblk m c 0 t (ix2 r l) = fr m c (row t r) l := by
  unfold row
  blk_ext [iblk, V, idx t]
theorem wu_at (j : Fin 4) (k : Fin 704) (l : Fin 1024) : iblk m c 5 t (ix3 j k l) = fw m c l (unitOf j k) := by
  unfold unitOf
  blk_ext! [iblk, V, idx t]
theorem du_at (j : Fin 4) (r : Fin 512) (k : Fin 704) : iblk m c 1 t (ix3 j r k) = fd m c (row t r) (unitOf j k) := by
  unfold row unitOf
  blk_ext! [iblk, V, idx t]

theorem du_ld (j : Fin 4) (inb) (r : Fin 512) (k : Fin 704) : du m c t j.val inb (ix3 0 r k) = fd m c (row t r) (unitOf j k) :=
  (ld_chunk _ j inb r k).trans (du_at m c t j r k)

theorem chunk_at (j : Fin 4) (inb) (inb') (r : Fin 512) (l : Fin 1024) : chunk r l (du m c t j.val inb) (wu m c t j.val inb') =
    ∑ k, fd m c (row t r) (unitOf j k) * fw m c l (unitOf j k) :=
  Finset.sum_congr rfl fun k _ => congrArg₂ (· * ·) (du_ld m c t j inb r k) ((ld_chunk _ j inb' k l).trans (wu_at m c t j k l))

theorem out_at (r : Fin 512) (l : Fin 1024) :
    outb m c t (ix2 r l) = NormProj.out (fx m c) (fg m c) (fb m c) (row t r) l := by
  unfold outb
  rw [pay5_at]
  unfold NormProj.out NormProj.nrm
  simp only [x_at, gain_at, shift_at]

/-- The residual's part of the gradient. -/
abbrev base (R : Fin 4096) (l : Fin 1024) : EReal := alpha * fr m c R l

theorem dout_at (r : Fin 512) (l : Fin 1024) :
    dout m c t (ix2 r l) = NormProj.dout (fw m c) (fd m c) (base m c) (row t r) l := by
  unfold dout NormProj.dout
  rw [pay3_at, pay13_at, pay8_at, pay6_at, sum_split, ← add_assoc, ← add_assoc, ← add_assoc, dres_at]
  exact congrArg₂ (· + ·) (congrArg₂ (· + ·) (congrArg₂ (· + ·) (congrArg _ (chunk_at m c t 0 _ _ r l))
    (chunk_at m c t 1 _ _ r l)) (chunk_at m c t 2 _ _ r l)) (chunk_at m c t 3 _ _ r l)

/-- One point adds its rows' part of the weight's gradient. -/
theorem range_at (acc : Vec Ideal S2816x1024 .f32) (j : Fin 4) (k : Fin 704) (l : Fin 1024) : range m c t acc j (ix2 k l) =
    acc (ix2 (unitOf j k) l) + ∑ r : Fin 512, fd m c (row t r) (unitOf j k) * NormProj.out (fx m c) (fg m c) (fb m c) (row t r) l := by
  have s (j : Fin 4) (inb) : ∑ r : Fin 512, du m c t j.val inb (ix3 0 r k) * outb m c t (ix2 r l) = ∑ r : Fin 512,
      fd m c (row t r) (unitOf j k) * NormProj.out (fx m c) (fg m c) (fb m c) (row t r) l :=
    Finset.sum_congr rfl fun r _ => congrArg₂ (· * ·) (du_ld m c t j inb r k) (out_at m c t r l)
  match j with
  | 0 => exact (weight_at _ _ _ _ _).1.trans (congrArg₂ (· + ·) (ld_rows _ 0 0 rfl _ _ _) (s 0 _))
  | 1 => exact (weight_at _ _ _ _ _).2.1.trans (congrArg₂ (· + ·) (ld_rows _ 1 704 rfl _ _ _) (s 1 _))
  | 2 => exact (weight_at _ _ _ _ _).2.2.1.trans (congrArg₂ (· + ·) (ld_rows _ 2 1408 rfl _ _ _) (s 2 _))
  | 3 => exact (weight_at _ _ _ _ _).2.2.2.trans (congrArg₂ (· + ·) (ld_rows _ 3 2112 rfl _ _ _) (s 3 _))

theorem canon_at (acc : Vec Ideal S2816x1024 .f32) (L : List (View.Piece (Elt Ideal) S2816x1024 .f32)) (K : Fin 2816) (l : Fin 1024) :
    View.canon (pieces m c t acc ++ L) (ix2 K l) = acc (ix2 K l) + ∑ r : Fin 512,
      fd m c (row t r) K * NormProj.out (fx m c) (fg m c) (fb m c) (row t r) l :=
  canon_rows (fun K l => acc (ix2 K l) + ∑ r : Fin 512, fd m c (row t r) K * NormProj.out (fx m c) (fg m c) (fb m c) (row t r) l)
    (range m c t acc) _ _ _ _ (range_at m c t acc) L K l

/-- The weight's gradient. -/
theorem final7 : (dats m 0 c).arrAt 7 cfg0.N = fun j =>
    NormProj.dweight (fx m c) (fg m c) (fb m c) (fd m c) (j 1) (j 0) := by
  refine (dats m 0 c).arrAt_eq_of_after_last 7 t0_7 (by decide +kernel) _ fun j => ?_
  idx_vars j
  blk_simp [idx]
  rw [after0_7]
  exact Points.fold points (fun n h l => (outsAt0 m c n h).2 (ix2 j0 l))
    (fun R l => fd m c R j0 * NormProj.out (fx m c) (fg m c) (fb m c) R l)
    (fun t h l => by rw [w_first m c t h, canon_at, zero_at]; rfl)
    (fun t h l => by rw [w_next m c t h, canon_at]; rfl) t0_7 rfl j1

/-- The normalised rows' gradient. -/
theorem final6 : (dats m 0 c).arrAt 6 cfg0.N = fun j => NormProj.dout (fw m c) (fd m c) (base m c) (j 0) (j 1) := by
  refine (dats m 0 c).arrAt_eq_of_covers 6 _ (by decide +kernel) fun t hf y => ?_
  blk_simp [idx]
  rw [after0_6]
  have e : (outsAt0 m c t.val t.isLt).1 = dout m c t := by
    by_cases h : t.val % 8 = 0
    · exact x_first m c t h
    · exact x_next m c t h
  rw [e]
  idx_vars y
  refine (dout_at m c t y0 y1).trans ?_
  congr 1
  · apply Fin.ext; unfold row; blk_simp [idx]; show 512 * t.val + y0.val = _; omega
  · apply Fin.ext; blk_simp [idx]

end Cert.FfnGIdeal.Block

end
-- ==== Proof.GateRef.lean ====
/-
  The reference of the gate projection's gradient: its two results as the functions of `NormProj`.
-/
module

public import proofs.«01_k».proof.Proof.NormProj
public import proofs.«01_k».proof.Proof.Gen.FfnGRefIdeal.Read
public import Idealize.ShloMosaic.Lib.Pointwise

@[expose] public section

noncomputable section

namespace Cert.FfnGRefIdeal.Stage

open Cert.FfnGRefIdeal Cert.FfnGRefIdeal.Gen Idealize.ShloMosaic Cert.RowNorm Cert.Words Cert.NormProj
open Cert.FfnGRefIdeal.Read

variable (x0 : Vec Ideal S4096x1024 .f32) (x1 x2 : Vec Ideal S1x1024 .f32) (x3 : Vec Ideal S1024x2816 .f32)
  (x4 : Vec Ideal S4096x2816 .f32) (x5 : Vec Ideal S4096x1024 .f32) (R : Fin 4096) (l : Fin 1024)

abbrev rows (R : Fin 4096) (l : Fin 1024) : EReal := x0 (ix2 R l)
abbrev lane (v : Vec Ideal S1x1024 .f32) (l : Fin 1024) : EReal := v (ix2 0 l)
abbrev wt (l : Fin 1024) (k : Fin 2816) : EReal := x3 (ix2 l k)
abbrev dp (R : Fin 4096) (k : Fin 2816) : EReal := x4 (ix2 R k)
abbrev base (R : Fin 4096) (l : Fin 1024) : EReal := alpha * x5 (ix2 R l)

theorem v5_at (q : Fin 1) : val_main_v5 x0 (ix2 R q) = mean cnt (rows x0 R) := by
  pointwise [val_main_v5, val_main_v4, val_main_v3, val_main_v2, val_main_cst, val_main_cst_0]
  rfl
theorem v7_at : val_main_v7 x0 (ix2 R l) = centred cnt (rows x0 R) l := by
  pointwise [val_main_v7, val_main_v6, v5_at]
  rfl
theorem v14_at : val_main_v14 x0 (ix2 R l) = centred cnt (rows x0 R) l := by
  pointwise [val_main_v14, val_main_v13, v5_at]
  rfl
theorem v16_at (q : Fin 1) : val_main_v16 x0 (ix2 R q) = spread cnt eps (rows x0 R) := by
  pointwise [val_main_v16, val_main_v15, val_main_v12, val_main_v11, val_main_v10, val_main_v9, val_main_v8,
    val_main_cst_1, val_main_cst_2, val_main_cst_3, v7_at]
  rfl
theorem v17_at (q : Fin 1) : val_main_v17 x0 (ix2 R q) = scale cnt eps (rows x0 R) := by
  pointwise [val_main_v17, v16_at]
  rfl
theorem v19_at : val_main_v19 x0 (ix2 R l) = nrm (rows x0) R l := by
  pointwise [val_main_v19, val_main_v18, v14_at, v17_at]
  rfl
theorem v25_at : val_main_v25 x0 x1 x2 (ix2 R l) = out (rows x0) (lane x1) (lane x2) R l := by
  pointwise [val_main_v25, val_main_v24, val_main_v23, val_main_v22, val_main_v21, val_main_v20, val_main_v0, val_main_v1, v19_at]
  rfl

/-- The normalised rows' gradient. -/
theorem v34_eq : val_main_v34 (F := Ideal) x3 x4 x5 = fun (j : Shape.Idx ⟨2, ![4096, 1024]⟩) =>
    dout (wt x3) (dp x4) (base x5) (j 0) (j 1) := by
  funext j
  idx_vars j
  pointwise [val_main_v34, val_main_v33, val_main_v32, val_main_v31, val_main_cst_5]
  exact add_comm _ _

/-- The weight's gradient. -/
theorem v35_eq : val_main_v35 (F := Ideal) x0 x1 x2 x4 = fun (j : Shape.Idx ⟨2, ![2816, 1024]⟩) =>
    dweight (rows x0) (lane x1) (lane x2) (dp x4) (j 1) (j 0) := by
  funext j
  idx_vars j
  pointwise [val_main_v35, val_main_v30, val_main_v29, v25_at]
  rfl

end Cert.FfnGRefIdeal.Stage

end
-- ==== Proof.OutArray.lean ====
/-
  The output projection's backward call: what one grid point computes, and the three arrays it ends with.
-/
module

public import proofs.«01_k».proof.Proof.Points
public import proofs.«01_k».proof.Proof.Gen.OutProjIdeal.Value
public import Idealize.ShloMosaic.Lib.Pipeline.ReadBack
public import Idealize.ShloMosaic.Lib.Pointwise

@[expose] public section

set_option maxRecDepth 16384

noncomputable section

namespace Cert.OutProjIdeal.Block

open Cert.OutProjIdeal Cert.OutProjIdeal.Gen Idealize.ShloMosaic Idealize.ShloMosaic.TcCoe

section Payloads

variable (d : Vec Ideal S512x1024 .f32) (p : Fin 512) (l k : Fin 1024)

theorem pay3_at (acc : Vec Ideal S1x1024 .f32) : k0_pay3 d acc (ix2 0 l) = acc (ix2 0 l) + ∑ p, d (ix2 p l) := by
  pointwise [k0_pay3]
theorem pay5_at (w : Vec Ideal S1024x1024 .bf16) : k0_pay5 d w (ix2 p k) = ∑ l, d (ix2 p l) * w (ix2 k l) := by
  pointwise [k0_pay5, k0_pay4]
theorem pay6_at (acc : Vec Ideal S1024x1024 .f32) (a : Vec Ideal S512x1024 .bf16) :
    k0_pay6 d acc a (ix2 k l) = acc (ix2 k l) + ∑ p, a (ix2 p k) * d (ix2 p l) := by
  pointwise [k0_pay6, k0_pay4]
theorem zero_at : k0_pay1 (F := Ideal) (ix2 k l) = 0 ∧ k0_pay2 (F := Ideal) (ix2 0 l) = 0 := by
  refine ⟨?_, ?_⟩
  · pointwise [k0_pay1]
  · pointwise [k0_pay2]

end Payloads

section Outs

variable {F : FTy → Type} [FloatOps F] (m : (ℓ : Loc nD τ sig) → Buf (Elt F) ℓ) (c : Dev nD) (t : Fin cfg0.N)

theorem x_first (h : t.val % 8 = 0) : (outsAt0 m c t.val t.isLt).1 = k0_pay5 (iblk m c 0 t) (iblk m c 2 t) := by
  rw [outsAt0_A m c t h]; frame_out
theorem x_next (h : ¬t.val % 8 = 0) : (outsAt0 m c t.val t.isLt).1 = k0_pay5 (iblk m c 0 t) (iblk m c 2 t) := by
  rw [outsAt0_B m c t h]; frame_out
theorem b_first (h : t.val % 8 = 0) : (outsAt0 m c t.val t.isLt).2.1 = k0_pay3 (iblk m c 0 t) k0_pay2 := by
  rw [outsAt0_A m c t h]; frame_out
theorem b_next (h : ¬t.val % 8 = 0) : (outsAt0 m c t.val t.isLt).2.1 =
    k0_pay3 (iblk m c 0 t) (outsAt0 m c (t.val - 1) (by omega)).2.1 := by
  rw [outsAt0_B m c t h]; frame_out
theorem w_first (h : t.val % 8 = 0) : (outsAt0 m c t.val t.isLt).2.2 = k0_pay6 (iblk m c 0 t) k0_pay1 (iblk m c 1 t) := by
  rw [outsAt0_A m c t h]; frame_out
theorem w_next (h : ¬t.val % 8 = 0) : (outsAt0 m c t.val t.isLt).2.2 =
    k0_pay6 (iblk m c 0 t) (outsAt0 m c (t.val - 1) (by omega)).2.2 (iblk m c 1 t) := by
  rw [outsAt0_B m c t h]; frame_out

end Outs

variable (m : (ℓ : Loc nD τ sig) → Buf (Elt Ideal) ℓ) (c : Dev nD)

/-- The arguments: the mixer's rows, the weight, and the gradient that arrives. -/
abbrev mixA : Vec Ideal S4096x1024 .f32 := m ((c : Thread nD τ).loc main_arg0)
abbrev weightA : Vec Ideal S1024x1024 .f32 := m ((c : Thread nD τ).loc main_arg1)
abbrev gradA : Vec Ideal S4096x1024 .f32 := m ((c : Thread nD τ).loc main_arg3)

/-- Where each window's block stands in its array. -/
theorem idx : ∀ t : Fin grid0.N, win0_0.index t = ![t.val, 0] ∧ win0_1.index t = ![t.val, 0] ∧ win0_2.index t = ![0, 0]
    ∧ win0_3.index t = ![t.val, 0] ∧ win0_4.index t = ![0, 0] ∧ win0_5.index t = ![0, 0] := by decide +kernel

theorem points : grid0.N = 8 := by decide +kernel

/-- The array's row that row `r` of point `t`'s block is. -/
def row (t : Fin cfg0.N) (r : Fin 512) : Fin 4096 := ⟨512 * t.val + r.val, by
  have := t.isLt; have h : cfg0.N = 8 := points; omega⟩

variable (t : Fin cfg0.N) (r : Fin 512) (k l : Fin 1024)

theorem grad_at : iblk m c 0 t (ix2 r l) = gradA m c (ix2 (row t r) l) := by
  unfold row
  blk_ext [iblk, V, idx t]
theorem mix_at : iblk m c 1 t (ix2 r l) = mixA m c (ix2 (row t r) l) := by
  unfold row
  blk_ext! [iblk, V, idx t]
theorem weight_at : iblk m c 2 t (ix2 k l) = weightA m c (ix2 k l) := by
  blk_ext! [iblk, V, idx t]

/-- The mixer's gradient. -/
theorem final3 : (dats m 0 c).arrAt 3 cfg0.N = fun j => ∑ l : Fin 1024, gradA m c (ix2 (j 0) l) * weightA m c (ix2 (j 1) l) := by
  refine (dats m 0 c).arrAt_eq_of_covers 3 _ (by decide +kernel) fun t hf y => ?_
  blk_simp [idx]
  rw [after0_3]
  have e : (outsAt0 m c t.val t.isLt).1 = k0_pay5 (iblk m c 0 t) (iblk m c 2 t) := by
    by_cases h : t.val % 8 = 0
    · exact x_first m c t h
    · exact x_next m c t h
  rw [e]
  idx_vars y
  refine (pay5_at _ y0 y1 _).trans (Finset.sum_congr rfl fun l _ => ?_)
  rw [grad_at, weight_at]
  congr 3
  · apply Fin.ext; unfold row; blk_simp [idx]; show 512 * t.val + y0.val = _; omega
  · apply Fin.ext; blk_simp [idx]

/-- The bias's gradient. -/
theorem final4 : (dats m 0 c).arrAt 4 cfg0.N = fun j => ∑ R : Fin 4096, gradA m c (ix2 R (j 1)) := by
  refine (dats m 0 c).arrAt_eq_of_after_last 4 t0_7 (by decide +kernel) _ fun j => ?_
  idx_vars j
  obtain rfl : j0 = 0 := Subsingleton.elim _ _
  blk_simp [idx]
  rw [after0_4]
  exact Points.fold points (fun n h l => (outsAt0 m c n h).2.1 (ix2 0 l)) (fun R l => gradA m c (ix2 R l))
    (fun t h l => by rw [b_first m c t h, pay3_at, (zero_at l 0).2]; simp only [grad_at]; rfl)
    (fun t h l => by rw [b_next m c t h, pay3_at]; simp only [grad_at]; rfl) t0_7 rfl j1

/-- The weight's gradient. -/
theorem final5 : (dats m 0 c).arrAt 5 cfg0.N = fun j => ∑ R : Fin 4096, mixA m c (ix2 R (j 0)) * gradA m c (ix2 R (j 1)) := by
  refine (dats m 0 c).arrAt_eq_of_after_last 5 t0_7 (by decide +kernel) _ fun j => ?_
  idx_vars j
  blk_simp [idx]
  rw [after0_5]
  exact Points.fold points (fun n h l => (outsAt0 m c n h).2.2 (ix2 j0 l)) (fun R l => mixA m c (ix2 R j0) * gradA m c (ix2 R l))
    (fun t h l => by rw [w_first m c t h, pay6_at, (zero_at l j0).1]; simp only [grad_at, mix_at]; rfl)
    (fun t h l => by rw [w_next m c t h, pay6_at]; simp only [grad_at, mix_at]; rfl) t0_7 rfl j1

end Cert.OutProjIdeal.Block

end
-- ==== Proof.OutRef.lean ====
/-
  The reference of the output projection's gradient: its three results at an index.
-/
module

public import proofs.«01_k».proof.Proof.Gen.OutProjRefIdeal.Read
public import Idealize.ShloMosaic.Lib.Pointwise

@[expose] public section

noncomputable section

namespace Cert.OutProjRefIdeal.Stage

open Cert.OutProjRefIdeal Cert.OutProjRefIdeal.Gen Idealize.ShloMosaic
open Cert.OutProjRefIdeal.Read

variable (x0 : Vec Ideal S4096x1024 .f32) (x1 : Vec Ideal S1024x1024 .f32) (x3 : Vec Ideal S4096x1024 .f32)

theorem v10_eq : val_main_v10 (F := Ideal) x1 x3 = fun (j : Shape.Idx ⟨2, ![4096, 1024]⟩) =>
    ∑ l : Fin 1024, x3 (ix2 (j 0) l) * x1 (ix2 (j 1) l) := by
  funext j
  idx_vars j
  pointwise [val_main_v10, val_main_v4]
theorem v11_eq : val_main_v11 (F := Ideal) x3 = fun (j : Shape.Idx ⟨2, ![1, 1024]⟩) => ∑ R : Fin 4096, x3 (ix2 R (j 1)) := by
  funext j
  idx_vars j
  pointwise [val_main_v11, val_main_v7, val_main_v6, val_main_v5, val_main_cst, val_main_cst_0]
  exact Fin.sum_univ_one _
theorem v9_eq : val_main_v9 (F := Ideal) x0 x3 = fun (j : Shape.Idx ⟨2, ![1024, 1024]⟩) =>
    ∑ R : Fin 4096, x0 (ix2 R (j 0)) * x3 (ix2 R (j 1)) := by
  funext j
  idx_vars j
  pointwise [val_main_v9, val_main_v8, val_main_v4]
  exact Finset.sum_congr rfl fun R _ => mul_comm _ _

end Cert.OutProjRefIdeal.Stage

end
-- ==== Proof.Band.lean ====
/-
  Attention inside a band with a sink, and the gate of the spatial mixing, over the extended reals.
-/
module

public import Idealize.ShloMosaic.PureOps.Ideal
public import Idealize.ShloMosaic.PureOps.Ideal.Laws

@[expose] public section

noncomputable section

namespace Cert.Band

open Idealize.ShloMosaic

/-- A number that is not negative and not infinite distributes over a sum of extended reals. -/
theorem sum_mul_of_nonneg {ι : Type*} (s : Finset ι) (f : ι → EReal) {c : EReal} (h : 0 ≤ c) (t : c ≠ ⊤) :
    (∑ i ∈ s, f i) * c = ∑ i ∈ s, f i * c := by
  classical
  induction s using Finset.induction_on with
  | empty => simp
  | insert a s ha ih => rw [Finset.sum_insert ha, Finset.sum_insert ha, EReal.right_distrib_of_nonneg_of_ne_top h t, ih]

section Attend

variable (ok : Fin 256 → Prop) [DecidablePred ok] (s v : Fin 256 → EReal) (sink : EReal)

/-- The scores that count, and minus infinity for the others. -/
def masked (k : Fin 256) : EReal := if ok k then s k else ⊥
/-- The largest score, the sink's included. -/
def top : EReal := max (Finset.univ.fold max ⊥ (masked ok s)) sink
/-- The sum of the weights, the sink's included. -/
def weight : EReal := ∑ k, Ideal.exp (masked ok s k - top ok s sink) + Ideal.exp (sink - top ok s sink)
/-- The values' mean under the weights. -/
def attend : EReal := ∑ k, Ideal.exp (masked ok s k - top ok s sink) * Ideal.div 1 (weight ok s sink) * v k

variable {ok s v}

/-- Only the scores and the values that count matter. -/
theorem attend_congr {ok' : Fin 256 → Prop} [DecidablePred ok'] {s' v' : Fin 256 → EReal} (ho : ∀ k, ok k ↔ ok' k)
    (hs : ∀ k, ok k → s k = s' k) (hv : ∀ k, ok k → v k = v' k) : attend ok s v sink = attend ok' s' v' sink := by
  have e : masked ok s = masked ok' s' := by
    funext k
    unfold masked
    by_cases h : ok k
    · rw [if_pos h, if_pos ((ho k).1 h), hs k h]
    · rw [if_neg h, if_neg fun h' => h ((ho k).2 h')]
  unfold attend weight top
  rw [e]
  refine Finset.sum_congr rfl fun k _ => ?_
  by_cases h : ok k
  · rw [hv k h]
  · have z : masked ok' s' k = ⊥ := if_neg fun h' => h ((ho k).2 h')
    rw [z, EReal.bot_sub, Ideal.exp_bot, zero_mul, zero_mul, zero_mul]

end Attend

/-- The error function is odd. -/
theorem erf_neg (x : EReal) : Ideal.erf (-x) = -Ideal.erf x := by
  induction x with
  | bot => simp
  | top => simp
  | coe r =>
    rw [← EReal.coe_neg, Ideal.erf_coe, Ideal.erf_coe, ← EReal.coe_neg]
    congr 1
    have h := intervalIntegral.integral_comp_neg (a := 0) (b := r) fun t : ℝ => Real.exp (-(t ^ 2))
    simp only [neg_sq, neg_zero] at h
    rw [intervalIntegral.integral_symm, ← h]
    ring

/-- The Gaussian error linear unit, `half` and `root` its two constants. -/
def gelu (half root x : EReal) : EReal := x * (half * (1 + Ideal.erf (x * root)))

/-- The same through the complementary function. -/
theorem gelu_eq (half root x : EReal) : half * x * Ideal.erfc (-x * root) = gelu half root x := by
  unfold gelu Ideal.erfc
  rw [EReal.neg_mul, erf_neg, sub_eq_add_neg, neg_neg, mul_comm half x, mul_assoc]

/-- One head's attention at one row: the row's query, the band's keys and values, and the head's sink. -/
def head (ok : Fin 256 → Prop) [DecidablePred ok] (q : Fin 64 → EReal) (k v : Fin 256 → Fin 64 → EReal) (sink : EReal)
    (h : Fin 64) : EReal := attend ok (fun j => ∑ x, k j x * q x) (fun j => v j h) sink

theorem head_congr {ok ok' : Fin 256 → Prop} [DecidablePred ok] [DecidablePred ok'] {q : Fin 64 → EReal}
    {k v k' v' : Fin 256 → Fin 64 → EReal} (sink : EReal) (h : Fin 64) (ho : ∀ j, ok j ↔ ok' j)
    (hk : ∀ j, ok j → ∀ x, k j x = k' j x) (hv : ∀ j, ok j → ∀ x, v j x = v' j x) :
    head ok q k v sink h = head ok' q k' v' sink h :=
  attend_congr sink ho (fun j o => Finset.sum_congr rfl fun x _ => by rw [hk j o x]) fun j o => hv j o h

/-- The keys that row `i` of block `B` reads, among the block's own and the block's before it. -/
def reads (B : ℕ) (i : Fin 128) (k : Fin 256) : Prop := i.val < k.val ∧ k.val ≤ i.val + 128 ∧ 128 ≤ 128 * B + k.val

instance (B : ℕ) (i : Fin 128) : DecidablePred (reads B i) := fun _ => inferInstanceAs (Decidable (_ ∧ _ ∧ _))

/-- One lane of the gate at row `i` of a block: the block's lanes of the normalised branch, mixed over the rows up to `i`,
    times the other branch. -/
def gate (u : EReal) (w : Fin 128 → EReal) (bias : EReal) (i : Fin 128) (v : Fin 128 → EReal) : EReal :=
  u * (∑ t : Fin 128, (if t.val ≤ i.val then w t * v t else 0) + bias)

end Cert.Band

end
-- ==== Proof.MixBlock.lean ====
/-
  What one grid point of the mixer's forward call computes for one block of 128 rows, at an index: eight heads of the
  banded attention, then the 512 lanes of the gate.
-/
module

public import proofs.«01_k».proof.Proof.Band
public import proofs.«01_k».proof.Proof.RowNorm
public import proofs.«01_k».proof.Proof.Gen.MixFwdIdeal.Value
public import Idealize.ShloMosaic.Lib.Pipeline.ReadBack
public import Idealize.ShloMosaic.Lib.Pointwise
public import Idealize.ShloMosaic.Lib.WordCmp

@[expose] public section

set_option maxRecDepth 16384

noncomputable section

namespace Cert.MixFwdIdeal.Block

open Cert.MixFwdIdeal Cert.MixFwdIdeal.Gen Idealize.ShloMosaic Idealize.ShloMosaic.TcCoe Cert.Band

/-- The lanes' number, the constant under the root, one half, and one over the root of two. -/
abbrev cnt : EReal := Ideal.ofBits .f32 0x44000000#32
abbrev eps : EReal := Ideal.ofBits .f32 0x3727C5AC#32
abbrev half : EReal := Ideal.ofBits .f32 0x3F000000#32
abbrev root : EReal := Ideal.ofBits .f32 0x3F3504F3#32

section Attention

variable (kp kc vp vc : Vec Ideal S128x128 .bf16) (q : Vec Ideal S128x512 .bf16) (mask : IVec S256x512 1)

/-- The band's row `k`: the block's before, then the block's own. -/
def band (k : Fin 256) (x : Fin 128) : EReal :=
  if h : k.val < 128 then kp (ix2 ⟨k.val, h⟩ x) else kc (ix2 ⟨k.val - 128, by omega⟩ x)

/-- One head group's attention, from its scores. -/
theorem core_at (v : FVec Ideal S256x64 .bf16) (sk : FVec Ideal S1x512 .f32) (s : FVec Ideal S256x512 .f32)
    (r : Fin 512) (h : Fin 64) : k0_pay19 mask v sk s (Named.named κ "mask" 0xF149F2CA#32) (ix2 r h) =
      attend (fun k => mask (ix2 k r) = 1) (fun k => s (ix2 k r)) (fun k => v (ix2 k h)) (sk (ix2 0 r)) := by
  pointwise [k0_pay19]
  rfl

/-- The scores of the two head groups. -/
def scores : Fin 2 → FVec Ideal S256x512 .f32
  | 0 => matmul dot_S256x64_S512x64_S256x512_1_1_0_0_n_n none (k0_pay6 kp kc) (k0_pay8 q) (constant S256x512 .f32 0x00000000#32)
  | 1 => k0_pay18 (k0_pay2 kp kc) (k0_pay4 q)
/-- The values of the two head groups. -/
def values : Fin 2 → FVec Ideal S256x64 .bf16
  | 0 => k0_pay7 vp vc
  | 1 => k0_pay16 (k0_pay3 vp vc)

/-- The row of the stacked heads that row `i` of head `a` of a group is, the lane of a head group, and a head's lane. -/
def stack (a : Fin 4) (i : Fin 128) : Fin 512 := ⟨128 * a.val + i.val, by omega⟩
def klane (g : Fin 2) (x : Fin 64) : Fin 128 := ⟨64 * g.val + x.val, by omega⟩
def qlane (g : Fin 2) (a : Fin 4) (x : Fin 64) : Fin 512 := ⟨256 * g.val + 64 * a.val + x.val, by omega⟩

theorem scores_at (g : Fin 2) (a : Fin 4) (i : Fin 128) (k : Fin 256) :
    scores kp kc q g (ix2 k (stack a i)) = ∑ x : Fin 64, band kp kc k (klane g x) * q (ix2 i (qlane g a x)) := by
  unfold scores band stack klane qlane
  match g with
  | 0 =>
    pointwise [k0_pay6, k0_pay8, k0_pay2, k0_pay4]
    refine Finset.sum_congr rfl fun x _ => congrArg₂ (· * ·) ?_ ?_
    · congr
    · split_ifs <;> refine congrArg q (congrArg₂ ix2 (Fin.ext ?_) (Fin.ext ?_)) <;> simp <;> omega
  | 1 =>
    pointwise [k0_pay18, k0_pay2, k0_pay4]
    refine Finset.sum_congr rfl fun x _ => congrArg₂ (· * ·) ?_ ?_
    · congr
    · split_ifs <;> refine congrArg q (congrArg₂ ix2 (Fin.ext ?_) (Fin.ext ?_)) <;> simp <;> omega

theorem values_at (g : Fin 2) (k : Fin 256) (h : Fin 64) : values vp vc g (ix2 k h) = band vp vc k (klane g h) := by
  unfold values band klane
  match g with
  | 0 =>
    pointwise [k0_pay7, k0_pay3]
  | 1 =>
    pointwise [k0_pay16, k0_pay3]

theorem sinks_at (s : Fin 4 → EReal) (a : Fin 4) (i : Fin 128) : k0_pay17 (F := Ideal) (s 0) (s 1) (s 2) (s 3) (ix2 0 (stack a i)) = s a := by
  unfold stack
  pointwise [k0_pay17]
  split_ifs <;> refine congrArg s (Fin.ext ?_) <;> simp <;> omega

end Attention

end Cert.MixFwdIdeal.Block

end
-- ==== Proof.MixGate.lean ====
/-
  What one grid point of the mixer's forward call computes for one block of 128 rows: the block's 1024 lanes, the heads'
  and the gate's.
-/
module

public import proofs.«01_k».proof.Proof.MixBlock

@[expose] public section

set_option maxRecDepth 16384

noncomputable section

namespace Cert.MixFwdIdeal.Block

open Cert.MixFwdIdeal Cert.MixFwdIdeal.Gen Idealize.ShloMosaic Idealize.ShloMosaic.TcCoe Cert.Band

section Whole

variable {F : FTy → Type} [FloatOps F] [Named F]

/-- The two head groups' attention. -/
def group (mask : IVec S256x512 1) (kp kc vp vc : Vec F S128x128 .bf16) (q : Vec F S128x512 .bf16) (s : Fin 8 → Elt F .f32) :
    Fin 2 → FVec F S512x64 .f32
  | 0 => k0_pay11 mask (k0_pay6 kp kc) (k0_pay7 vp vc) (k0_pay8 q) (k0_pay9 (s 0)) (k0_pay10 (s 1)) (s 2) (s 3)
  | 1 => k0_pay19 mask (k0_pay16 (k0_pay3 vp vc)) (k0_pay17 (s 4) (s 5) (s 6) (s 7)) (k0_pay18 (k0_pay2 kp kc) (k0_pay4 q))
      (Named.named κ "mask" 0xF149F2CA#32)

/-- A block's 1024 lanes. -/
def block (mask : IVec S256x512 1) (kp kc vp vc : Vec F S128x128 .bf16) (q : Vec F S128x512 .bf16) (s : Fin 8 → Elt F .f32)
    (u v : Vec F S128x512 .f32) (g b : Vec F S1x512 .f32) (w : Fin 4 → Vec F S1x128x128 .f32) (bs : Fin 4 → Vec F S128x1 .f32) :
    Vec F S128x1024 .bf16 :=
  have kk := k0_pay6 kp kc
  have vv := k0_pay7 vp vc
  have qq := k0_pay8 q
  have s0 := k0_pay9 (s 0)
  have s1 := k0_pay10 (s 1)
  have v1 := k0_pay16 (k0_pay3 vp vc)
  have sk := k0_pay17 (s 4) (s 5) (s 6) (s 7)
  have sc := k0_pay18 (k0_pay2 kp kc) (k0_pay4 q)
  have c : F .f32 := Named.named κ "mask" 0xF149F2CA#32
  k0_pay31 (k0_pay30 (k0_pay12 mask kk vv qq s0 s1 (s 2) (s 3)) (k0_pay13 mask kk vv qq s0 s1 (s 2) (s 3))
    (k0_pay14 mask kk vv qq s0 s1 (s 2) (s 3)) (k0_pay15 mask kk vv qq s0 s1 (s 2) (s 3))
    (k0_pay20 mask v1 sk sc c) (k0_pay21 mask v1 sk sc c) (k0_pay22 mask v1 sk sc c) (k0_pay23 mask v1 sk sc c)
    (k0_pay24 u) (k0_pay26 (k0_pay25 v) g b) (k0_pay27 (k0_pay25 v) g b (w 0) (bs 0)) k0_pay28 (k0_pay29 (w 1)) (bs 1)
    (w 2) (bs 2) (w 3) (bs 3))

/-- The four heads of a group. -/
def heads (x : FVec F S512x64 .f32) : Fin 4 → FVec F S128x64 .f32
  | 0 => extractStridedSlice S128x64 ![0, 0] x slices_S512x64_o0_0_S128x64
  | 1 => extractStridedSlice S128x64 ![128, 0] x slices_S512x64_o128_0_S128x64
  | 2 => extractStridedSlice S128x64 ![256, 0] x slices_S512x64_o256_0_S128x64
  | 3 => extractStridedSlice S128x64 ![384, 0] x slices_S512x64_o384_0_S128x64

/-- The lanes of one gate's head before the product with the other branch. -/
def mixed (x : FVec F S128x512 .bf16) (w : Vec F S1x128x128 .f32) (b : Vec F S128x1 .f32) (o : Fin 2 → ℕ)
    (h : S128x512.Slices o S128x128) : FVec F S128x128 .f32 :=
  addf (matmul dot_S128x128_S128x128_S128x128_1_0_0_1_n_n none
      (truncf .bf16 (select k0_pay28 (k0_pay29 w) (broadcast S128x128 (Scalar.ofBits .f32 0x00000000#32))) bitsLt_bf16_f32)
      (extractStridedSlice S128x128 o x h) (constant S128x128 .f32 0x00000000#32))
    (broadcastTo S128x128 (shapeCast S128x1 b shapeCasts_S128x1_S128x1) broadcasts_S128x1_S128x128)

def mixes (v : FVec F S128x512 .f32) (g b : Vec F S1x512 .f32) (w : Fin 4 → Vec F S1x128x128 .f32) (bs : Fin 4 → Vec F S128x1 .f32) :
    Fin 4 → FVec F S128x128 .f32
  | 0 => mixed (k0_pay26 v g b) (w 0) (bs 0) ![0, 0] slices_S128x512_o0_0_S128x128
  | 1 => mixed (k0_pay26 v g b) (w 1) (bs 1) ![0, 128] slices_S128x512_o0_128_S128x128
  | 2 => mixed (k0_pay26 v g b) (w 2) (bs 2) ![0, 256] slices_S128x512_o0_256_S128x128
  | 3 => mixed (k0_pay26 v g b) (w 3) (bs 3) ![0, 384] slices_S128x512_o0_384_S128x128

/-- The gates' heads side by side, and all the lanes side by side. -/
def beside (y : Fin 4 → FVec F S128x128 .f32) : FVec F S128x512 .f32 :=
  concatenate S128x512 1 [⟨S128x128, y 0⟩, ⟨S128x128, y 1⟩, ⟨S128x128, y 2⟩, ⟨S128x128, y 3⟩]
    concatenates_S128x128_S128x128_S128x128_S128x128_S128x512_d1
def lanes (x x' : Fin 4 → FVec F S128x64 .f32) (y : FVec F S128x512 .f32) : FVec F S128x1024 .f32 :=
  concatenate S128x1024 1 [⟨S128x64, x 0⟩, ⟨S128x64, x 1⟩, ⟨S128x64, x 2⟩, ⟨S128x64, x 3⟩, ⟨S128x64, x' 0⟩, ⟨S128x64, x' 1⟩,
    ⟨S128x64, x' 2⟩, ⟨S128x64, x' 3⟩, ⟨S128x512, y⟩]
    concatenates_S128x64_S128x64_S128x64_S128x64_S128x64_S128x64_S128x64_S128x64_S128x512_S128x1024_d1

theorem block_eq (mask : IVec S256x512 1) (kp kc vp vc : Vec F S128x128 .bf16) (q : Vec F S128x512 .bf16) (s : Fin 8 → Elt F .f32)
    (u v : Vec F S128x512 .f32) (g b : Vec F S1x512 .f32) (w : Fin 4 → Vec F S1x128x128 .f32) (bs : Fin 4 → Vec F S128x1 .f32) :
    block mask kp kc vp vc q s u v g b w bs = shapeCast S128x1024 (truncf .bf16 (lanes (heads (group mask kp kc vp vc q s 0))
      (heads (group mask kp kc vp vc q s 1)) (mulf (k0_pay24 u) (beside (mixes (k0_pay25 v) g b w bs)))) bitsLt_bf16_f32) shapeCasts_S128x1024_S128x1024 := rfl

end Whole

variable (mask : IVec S256x512 1) (kp kc vp vc : Vec Ideal S128x128 .bf16) (q : Vec Ideal S128x512 .bf16) (s : Fin 8 → EReal)
  (u v : Vec Ideal S128x512 .f32) (g b : Vec Ideal S1x512 .f32) (w : Fin 4 → Vec Ideal S1x128x128 .f32)
  (bs : Fin 4 → Vec Ideal S128x1 .f32) (i : Fin 128)

set_option maxHeartbeats 1000000 in
/-- A row's lane is a lane of one of the three pieces side by side: two groups of heads and the gating. -/
theorem lanes_at (x x' : Fin 4 → FVec Ideal S128x64 .f32) (y : FVec Ideal S128x512 .f32) :
    (∀ (a : Fin 4) (h : Fin 64), lanes x x' y (ix2 i ⟨64 * a.val + h.val, by omega⟩) = x a (ix2 i h))
    ∧ (∀ (a : Fin 4) (h : Fin 64), lanes x x' y (ix2 i ⟨256 + (64 * a.val + h.val), by omega⟩) = x' a (ix2 i h))
    ∧ ∀ l : Fin 512, lanes x x' y (ix2 i ⟨512 + l.val, by omega⟩) = y (ix2 i l) := by
  refine ⟨fun a h => ?_, fun a h => ?_, fun l => ?_⟩
  · pointwise [lanes]
    split_ifs <;> first
      | omega
      | (refine congr (congrArg x (Fin.ext ?_)) (congrArg₂ ix2 (Fin.ext ?_) (Fin.ext ?_)) <;> simp <;> omega)
  · pointwise [lanes]
    split_ifs <;> first
      | omega
      | (refine congr (congrArg x' (Fin.ext ?_)) (congrArg₂ ix2 (Fin.ext ?_) (Fin.ext ?_)) <;> simp <;> omega)
  · pointwise [lanes]
    split_ifs <;> first
      | omega
      | (refine congrArg y (congrArg₂ ix2 (Fin.ext ?_) (Fin.ext ?_)) <;> simp <;> omega)

theorem heads_at (x : FVec Ideal S512x64 .f32) (a : Fin 4) (h : Fin 64) : heads x a (ix2 i h) = x (ix2 (stack a i) h) := by
  have e (o : ℕ) (hs : S512x64.Slices ![o, 0] S128x64) (ho : o + 128 ≤ 512) :
      extractStridedSlice S128x64 ![o, 0] x hs (ix2 i h) = x (ix2 ⟨o + i.val, by omega⟩ h) := by
    pointwise []
  match a with
  | 0 => exact e 0 slices_S512x64_o0_0_S128x64 (by decide)
  | 1 => exact e 128 slices_S512x64_o128_0_S128x64 (by decide)
  | 2 => exact e 256 slices_S512x64_o256_0_S128x64 (by decide)
  | 3 => exact e 384 slices_S512x64_o384_0_S128x64 (by decide)

/-- The lane of a block that lane `h` of head `a` of a group is. -/
def alane (e : Fin 2) (a : Fin 4) (h : Fin 64) : Fin 1024 := ⟨256 * e.val + (64 * a.val + h.val), by omega⟩

/-- The heads' lanes. -/
theorem att_at (e : Fin 2) (a : Fin 4) (h : Fin 64) :
    block mask kp kc vp vc q s u v g b w bs (ix2 i (alane e a h)) = group mask kp kc vp vc q s e (ix2 (stack a i) h) := by
  rw [block_eq]
  pointwise []
  match e with
  | 0 =>
    refine Eq.trans (congrArg (fun l => lanes _ _ _ (ix2 i l)) (Fin.ext ?_)) (((lanes_at i _ _ _).1 a h).trans (heads_at i _ a h))
    show 256 * 0 + (64 * a.val + h.val) = 64 * a.val + h.val
    omega
  | 1 => exact ((lanes_at i _ _ _).2.1 a h).trans (heads_at i _ a h)

/-- The lane of a gate's head. -/
def glane (c : Fin 4) (l : Fin 128) : Fin 512 := ⟨128 * c.val + l.val, by omega⟩

theorem gelu_at (l : Fin 512) : k0_pay24 u (ix2 i l) = gelu half root (u (ix2 i l)) ∧ k0_pay25 v (ix2 i l) = gelu half root (v (ix2 i l)) := by
  refine ⟨?_, ?_⟩
  · pointwise [k0_pay24]
    rfl
  · pointwise [k0_pay25]
    rfl

/-- The normalised branch's lanes. -/
def norm (v : Fin 512 → EReal) (g b : Fin 512 → EReal) (l : Fin 512) : EReal := RowNorm.unit cnt eps v l * g l + b l

theorem norm_at (x : FVec Ideal S128x512 .f32) (l : Fin 512) :
    k0_pay26 x g b (ix2 i l) = norm (fun l => x (ix2 i l)) (fun l => g (ix2 0 l)) (fun l => b (ix2 0 l)) l := by
  pointwise [k0_pay26]
  rfl

theorem before (x i : Fin 128) : IntOp.cmpi .sle (BitVec.ofNat 32 x.val) (BitVec.ofNat 32 i.val) = BitVec.ofBool (decide (x.val ≤ i.val)) :=
  WordCmp.cmpi_sle_ofNat (lt_of_lt_of_le x.isLt (by decide)) (lt_of_lt_of_le i.isLt (by decide))

theorem mixed_at (o : ℕ) (x : FVec Ideal S128x512 .bf16) (hs : S128x512.Slices ![0, o] S128x128) (ho : o + 128 ≤ 512)
    (w : Vec Ideal S1x128x128 .f32) (b : Vec Ideal S128x1 .f32) (l : Fin 128) : mixed x w b ![0, o] hs (ix2 i l) =
    ∑ t : Fin 128, (if t.val ≤ i.val then w (ix3 0 i t) * x (ix2 t ⟨o + l.val, by omega⟩) else 0) + b (ix2 i 0) := by
  pointwise [mixed, k0_pay28, k0_pay29, before]
  simp only [ite_mul, zero_mul]

theorem mixes_at (x : FVec Ideal S128x512 .f32) (c : Fin 4) (l : Fin 128) : mixes x g b w bs c (ix2 i l) =
    ∑ t : Fin 128, (if t.val ≤ i.val then w c (ix3 0 i t) *
      norm (fun l => x (ix2 t l)) (fun l => g (ix2 0 l)) (fun l => b (ix2 0 l)) (glane c l) else 0) + bs c (ix2 i 0) := by
  simp only [← norm_at]
  fin_cases c
  · exact (mixed_at i 0 _ _ (by decide) _ _ l).trans rfl
  · exact (mixed_at i 128 _ _ (by decide) _ _ l).trans rfl
  · exact (mixed_at i 256 _ _ (by decide) _ _ l).trans rfl
  · exact (mixed_at i 384 _ _ (by decide) _ _ l).trans rfl

theorem beside_at (y : Fin 4 → FVec Ideal S128x128 .f32) (c : Fin 4) (l : Fin 128) : beside y (ix2 i (glane c l)) = y c (ix2 i l) := by
  unfold glane
  pointwise [beside]
  split_ifs <;> first
    | omega
    | (refine congr (congrArg y (Fin.ext ?_)) (congrArg₂ ix2 (Fin.ext ?_) (Fin.ext ?_)) <;> simp <;> omega)

/-- The gate's lanes. -/
theorem gate_at (c : Fin 4) (l : Fin 128) :
    block mask kp kc vp vc q s u v g b w bs (ix2 i ⟨512 + (128 * c.val + l.val), by omega⟩) =
      gate (gelu half root (u (ix2 i (glane c l)))) (fun t => w c (ix3 0 i t)) (bs c (ix2 i 0)) i
        fun t => norm (fun l => gelu half root (v (ix2 t l))) (fun l => g (ix2 0 l)) (fun l => b (ix2 0 l)) (glane c l) := by
  rw [block_eq]
  pointwise []
  refine ((lanes_at i _ _ _).2.2 (glane c l)).trans ?_
  show k0_pay24 u (ix2 i (glane c l)) * beside _ (ix2 i (glane c l)) = _
  rw [beside_at, mixes_at, (gelu_at u v i _).1]
  simp only [(gelu_at u v _ _).2]
  rfl

end Cert.MixFwdIdeal.Block

end
-- ==== Proof.MixHead.lean ====
/-
  One head of a block's attention, at an index.
-/
module

public import proofs.«01_k».proof.Proof.MixGate

@[expose] public section

set_option maxRecDepth 16384

noncomputable section

namespace Cert.MixFwdIdeal.Block

open Cert.MixFwdIdeal Cert.MixFwdIdeal.Gen Idealize.ShloMosaic Idealize.ShloMosaic.TcCoe Cert.Band

variable (mask : IVec S256x512 1) (kp kc vp vc : Vec Ideal S128x128 .bf16) (q : Vec Ideal S128x512 .bf16) (s : Fin 8 → EReal)

theorem first_eq : group mask kp kc vp vc q s 0 = k0_pay19 mask (values vp vc 0) (k0_pay17 (F := Ideal) (s 0) (s 1) (s 2) (s 3))
    (scores kp kc q 0) (Named.named κ "mask" 0xF149F2CA#32) := by rfl
theorem second_eq : group mask kp kc vp vc q s 1 = k0_pay19 mask (values vp vc 1) (k0_pay17 (F := Ideal) (s 4) (s 5) (s 6) (s 7))
    (scores kp kc q 1) (Named.named κ "mask" 0xF149F2CA#32) := by rfl
theorem first_at (a : Fin 4) (i : Fin 128) (h : Fin 64) : group mask kp kc vp vc q s 0 (ix2 (stack a i) h) =
    attend (fun k => mask (ix2 k (stack a i)) = 1) (fun k => scores kp kc q 0 (ix2 k (stack a i))) (fun k => values vp vc 0 (ix2 k h))
      (s ⟨a.val, by omega⟩) := by
  rw [first_eq, core_at]
  exact congrArg (attend _ _ _) (sinks_at (fun a => s ⟨a.val, by omega⟩) a i)
theorem second_at (a : Fin 4) (i : Fin 128) (h : Fin 64) : group mask kp kc vp vc q s 1 (ix2 (stack a i) h) =
    attend (fun k => mask (ix2 k (stack a i)) = 1) (fun k => scores kp kc q 1 (ix2 k (stack a i))) (fun k => values vp vc 1 (ix2 k h))
      (s ⟨4 + a.val, by omega⟩) := by
  rw [second_eq, core_at]
  exact congrArg (attend _ _ _) (sinks_at (fun a => s ⟨4 + a.val, by omega⟩) a i)

/-- One head of a block. -/
theorem group_at (e : Fin 2) (a : Fin 4) (i : Fin 128) (h : Fin 64) : group mask kp kc vp vc q s e (ix2 (stack a i) h) =
    head (fun k => mask (ix2 k (stack a i)) = 1) (fun x => q (ix2 i (qlane e a x))) (fun k x => band kp kc k (klane e x))
      (fun k x => band vp vc k (klane e x)) (s ⟨4 * e.val + a.val, by omega⟩) h := by
  have m : group mask kp kc vp vc q s e (ix2 (stack a i) h) = attend (fun k => mask (ix2 k (stack a i)) = 1)
      (fun k => scores kp kc q e (ix2 k (stack a i))) (fun k => values vp vc e (ix2 k h)) (s ⟨4 * e.val + a.val, by omega⟩) := by
    match e with
    | 0 => exact (first_at mask kp kc vp vc q s a i h).trans (congrArg (attend _ _ _) (congrArg s (Fin.ext (by simp))))
    | 1 => exact (second_at mask kp kc vp vc q s a i h).trans (congrArg (attend _ _ _) (congrArg s (Fin.ext (by simp))))
  rw [m]
  unfold head
  simp only [scores_at, values_at]

end Cert.MixFwdIdeal.Block

end
-- ==== Proof.MixSpec.lean ====
/-
  The mixer's forward call as a function of its ten arguments: at each of 4096 rows eight heads' attention over the band of
  up to 128 keys that ends at the row, then the gate's 512 lanes.
-/
module

public import proofs.«01_k».proof.Proof.MixHead

@[expose] public section

set_option maxRecDepth 16384

noncomputable section

namespace Cert.MixSpec

open Idealize.ShloMosaic Idealize.ShloMosaic.TcCoe Cert.Band
open Cert.MixFwdIdeal.Block (half root norm glane alane klane qlane stack group block att_at group_at gate_at band)

/-- One eighth: one over the root of a head's width. -/
abbrev eighth : EReal := Ideal.ofBits .f32 0x3E000000#32

/-- Row `i` of block `B`, and the row that key `k` of the block's band is (for the first block only its own keys are any). -/
def rowOf (B : Fin 32) (i : Fin 128) : Fin 4096 := ⟨128 * B.val + i.val, by omega⟩
def keyOf (B : Fin 32) (k : Fin 256) : Fin 4096 := ⟨128 * B.val + k.val - 128, by omega⟩

variable (Q : FVec Ideal ⟨4, ![1, 4096, 8, 64]⟩ .f32) (K V : FVec Ideal ⟨4, ![1, 4096, 2, 64]⟩ .f32)
  (U W : FVec Ideal ⟨3, ![1, 4096, 512]⟩ .f32) (s : FVec Ideal ⟨1, ![8]⟩ .f32) (g b : FVec Ideal ⟨1, ![512]⟩ .f32)
  (M : FVec Ideal ⟨3, ![4, 128, 128]⟩ .f32) (N : FVec Ideal ⟨2, ![4, 128]⟩ .f32)
  (B : Fin 32) (i : Fin 128)

/-- Head `a` of group `e`. -/
def attn (e : Fin 2) (a : Fin 4) (h : Fin 64) : EReal :=
  head (reads B.val i) (fun x => Q (ix4 0 (rowOf B i) ⟨4 * e.val + a.val, by omega⟩ x) * eighth) (fun k x => K (ix4 0 (keyOf B k) e x))
    (fun k x => V (ix4 0 (keyOf B k) e x)) (s (ix1 ⟨4 * e.val + a.val, by omega⟩)) h

/-- Lane `l` of the gate's head `c`. -/
def gates (c : Fin 4) (l : Fin 128) : EReal :=
  gate (gelu half root (U (ix3 0 (rowOf B i) (glane c l)))) (fun t => M (ix3 c i t)) (N (ix2 c i)) i fun t =>
    norm (fun l => gelu half root (W (ix3 0 (rowOf B t) l))) (fun l => g (ix1 l)) (fun l => b (ix1 l)) (glane c l)

/-- The row's 1024 lanes. -/
def out (L : Fin 1024) : EReal :=
  if h : L.val < 512 then attn Q K V s B i ⟨L.val / 256, by omega⟩ ⟨L.val / 64 % 4, by omega⟩ ⟨L.val % 64, by omega⟩
  else gates U W g b M N B i ⟨(L.val - 512) / 128, by omega⟩ ⟨(L.val - 512) % 128, by omega⟩

variable {Q K V U W s g b M N B i}

theorem out_ext {f : Fin 1024 → EReal} (ha : ∀ e a h, f (alane e a h) = attn Q K V s B i e a h)
    (hg : ∀ (c : Fin 4) (l : Fin 128), f ⟨512 + (128 * c.val + l.val), by omega⟩ = gates U W g b M N B i c l) (L : Fin 1024) :
    f L = out Q K V U W s g b M N B i L := by
  unfold out
  split_ifs with h
  · rw [← ha]
    exact congrArg f (Fin.ext (by unfold alane; simp only; omega))
  · rw [← hg]
    exact congrArg f (Fin.ext (by simp only; omega))

section Kernel

variable (mask : IVec ⟨2, ![256, 512]⟩ 1) (kp kc vp vc : Vec Ideal ⟨2, ![128, 128]⟩ .bf16) (q : Vec Ideal ⟨2, ![128, 512]⟩ .bf16)
  (sk : Fin 8 → EReal) (u v : Vec Ideal ⟨2, ![128, 512]⟩ .f32) (gr br : Vec Ideal ⟨2, ![1, 512]⟩ .f32)
  (w : Fin 4 → Vec Ideal ⟨3, ![1, 128, 128]⟩ .f32) (bs : Fin 4 → Vec Ideal ⟨2, ![128, 1]⟩ .f32)

/-- The keys of a block's band: those before the block matter for a later block only. -/
theorem band_read {X : FVec Ideal ⟨4, ![1, 4096, 2, 64]⟩ .f32} {kp kc : Vec Ideal ⟨2, ![128, 128]⟩ .bf16}
    (hp : 0 < B.val → ∀ (r : Fin 128) e x, kp (ix2 r (klane e x)) = X (ix4 0 (keyOf B ⟨r.val, by omega⟩) e x))
    (hc : ∀ (r : Fin 128) e x, kc (ix2 r (klane e x)) = X (ix4 0 (rowOf B r) e x))
    (k : Fin 256) (hk : reads B.val i k) (e : Fin 2) (x : Fin 64) : band kp kc k (klane e x) = X (ix4 0 (keyOf B k) e x) := by
  unfold band
  unfold reads at hk
  split_ifs with h
  · exact hp (by omega) ⟨k.val, h⟩ e x
  · refine (hc ⟨k.val - 128, by omega⟩ e x).trans (congrArg X (congrArg (fun r => ix4 0 r e x) (Fin.ext ?_)))
    unfold rowOf keyOf
    simp only
    omega

theorem block_out (hm : ∀ k a, mask (ix2 k (stack a i)) = 1 ↔ reads B.val i k)
    (hq : ∀ e a x, q (ix2 i (qlane e a x)) = Q (ix4 0 (rowOf B i) ⟨4 * e.val + a.val, by omega⟩ x) * eighth)
    (hkp : 0 < B.val → ∀ (r : Fin 128) e x, kp (ix2 r (klane e x)) = K (ix4 0 (keyOf B ⟨r.val, by omega⟩) e x))
    (hkc : ∀ (r : Fin 128) e x, kc (ix2 r (klane e x)) = K (ix4 0 (rowOf B r) e x))
    (hvp : 0 < B.val → ∀ (r : Fin 128) e x, vp (ix2 r (klane e x)) = V (ix4 0 (keyOf B ⟨r.val, by omega⟩) e x))
    (hvc : ∀ (r : Fin 128) e x, vc (ix2 r (klane e x)) = V (ix4 0 (rowOf B r) e x))
    (hs : ∀ h, sk h = s (ix1 h)) (hu : ∀ r l, u (ix2 r l) = U (ix3 0 (rowOf B r) l)) (hv : ∀ r l, v (ix2 r l) = W (ix3 0 (rowOf B r) l))
    (hg : ∀ l, gr (ix2 0 l) = g (ix1 l)) (hb : ∀ l, br (ix2 0 l) = b (ix1 l)) (hw : ∀ c i j, w c (ix3 0 i j) = M (ix3 c i j))
    (hbs : ∀ c i, bs c (ix2 i 0) = N (ix2 c i)) (L : Fin 1024) :
    block mask kp kc vp vc q sk u v gr br w bs (ix2 i L) = out Q K V U W s g b M N B i L := by
  refine out_ext (f := fun L => block mask kp kc vp vc q sk u v gr br w bs (ix2 i L)) (fun e a h => ?_) (fun c l => ?_) L
  · refine (att_at ..).trans ((group_at ..).trans ?_)
    unfold attn
    simp only [hq, hs]
    exact head_congr _ _ (fun k => hm k a) (fun k hk x => band_read hkp hkc k ((hm k a).1 hk) e x)
      fun k hk x => band_read hvp hvc k ((hm k a).1 hk) e x
  · refine (gate_at ..).trans ?_
    unfold gates
    simp only [hu, hv, hg, hb, hw, hbs]

end Kernel

end Cert.MixSpec

end
-- ==== Proof.MixMask.lean ====
/-
  Which keys of the band a row of a block reads, as the kernel's words say it.
-/
module

public import proofs.«01_k».proof.Proof.MixGate

@[expose] public section

set_option maxRecDepth 16384

noncomputable section

namespace Cert.MixFwdIdeal.Block

open Cert.MixFwdIdeal Cert.MixFwdIdeal.Gen Idealize.ShloMosaic Idealize.ShloMosaic.TcCoe Cert.Band

/-- Key `k` counts for row `j`: among the keys before the block, those after `j` (none where `off` puts them out of
    reach); among the block's own, those up to `j`. -/
def counts (off : BitVec 32) (j k : ℕ) : BitVec 1 :=
  IntOp.ori
    (IntOp.andi (IntOp.cmpi .slt (BitVec.ofNat 32 k) 128#32) (IntOp.cmpi .sgt (BitVec.ofNat 32 k) (IntOp.addi (BitVec.ofNat 32 j) off)))
    (IntOp.andi (IntOp.cmpi .sge (BitVec.ofNat 32 k) 128#32)
      (IntOp.cmpi .sle (IntOp.subi (BitVec.ofNat 32 k) 128#32) (BitVec.ofNat 32 j)))

theorem counts_later : ∀ (j : Fin 128) (k : Fin 256), counts 0#32 j.val k.val = 1 ↔ (j.val < k.val ∧ k.val ≤ j.val + 128) := by
  decide +kernel
theorem counts_first : ∀ (j : Fin 128) (k : Fin 256), counts 256#32 j.val k.val = 1 ↔ (128 ≤ k.val ∧ k.val ≤ j.val + 128) := by
  decide +kernel

theorem stack_read {α : Type} (f : ℕ → α) (a : Fin 4) (i : Fin 128) :
    (if _ : (stack a i).val < 128 then f (stack a i).val else if _ : (stack a i).val - 128 < 128 then f ((stack a i).val - 128)
      else if _ : (stack a i).val - 128 - 128 < 128 then f ((stack a i).val - 128 - 128)
      else f ((stack a i).val - 128 - 128 - 128)) = f i.val := by
  unfold stack
  split_ifs <;> exact congrArg f (by simp only at *; omega)

theorem pay35_at (k : Fin 256) (a : Fin 4) (i : Fin 128) : k0_pay35 (ix2 k (stack a i)) = counts 0#32 i.val k.val := by
  refine Eq.trans ?_ (stack_read (fun j => counts 0#32 j k.val) a i)
  pointwise [k0_pay35]
  rfl
theorem pay5_at (c : grid0.Coords) (k : Fin 256) (a : Fin 4) (i : Fin 128) : k0_pay5 c (ix2 k (stack a i)) =
    counts (Scalar.select (Scalar.cmpi .eq (BitVec.ofNat 32 (c 0).val) 0#32) 256#32 0#32) i.val k.val := by
  refine Eq.trans ?_ (stack_read (fun j => counts _ j k.val) a i)
  pointwise [k0_pay5]
  rfl

/-- A grid point's second block is never the first of all. -/
theorem odd_reads (n : ℕ) (k : Fin 256) (a : Fin 4) (i : Fin 128) : k0_pay35 (ix2 k (stack a i)) = 1 ↔ reads (2 * n + 1) i k := by
  rw [pay35_at, counts_later]
  unfold reads
  omega
/-- Its first block is the first of all at the first point. -/
theorem even_reads (c : grid0.Coords) (k : Fin 256) (a : Fin 4) (i : Fin 128) :
    k0_pay5 c (ix2 k (stack a i)) = 1 ↔ reads (2 * (c 0).val) i k := by
  rw [pay5_at]
  unfold reads
  have hc : (c 0).val < 16 := (c 0).isLt
  by_cases h : (c 0).val = 0
  · rw [h]
    exact (counts_first i k).trans (by omega)
  · have e : Scalar.select (Scalar.cmpi .eq (BitVec.ofNat 32 (c 0).val) 0#32) 256#32 0#32 = 0#32 := by
      revert h
      generalize (c 0).val = n at hc
      interval_cases n <;> decide
    rw [e, counts_later]
    omega

end Cert.MixFwdIdeal.Block

end
-- ==== Proof.MixOuts.lean ====
/-
  The mixer's forward call: what one grid point leaves in its output block, two blocks of 128 rows.
-/
module

public import proofs.«01_k».proof.Proof.MixGate
public import proofs.«01_k».proof.Proof.Gen.MixFwdIdeal.Value
public import Idealize.ShloMosaic.Lib.Pipeline.ValueKit
public import Idealize.ShloMosaic.Lib.Pipeline.ValueKit.Acc
public import Idealize.ShloMosaic.Lib.Pipeline.ReadBack

@[expose] public section

set_option maxRecDepth 16384

noncomputable section

namespace Cert.MixFwdIdeal.Block

open Cert.MixFwdIdeal Cert.MixFwdIdeal.Gen Idealize.ShloMosaic Idealize.ShloMosaic.TcCoe

variable {F : FTy → Type} [FloatOps F] [Named F]

/-- The eight sink logits, the four heads' mixing weights and their biases, as a point loads them. -/
def sinks (x : Vec F S8 .f32) : Fin 8 → Elt F .f32
  | 0 => View.ld x (Rect.unit (s := S8) ![0] S1.size inb_S8_S1_0) (Shape.Idx.first (numel1_S1.symm ▸ Nat.one_pos))
  | 1 => View.ld x (Rect.unit (s := S8) ![1] S1.size inb_S8_S1_1) (Shape.Idx.first (numel1_S1.symm ▸ Nat.one_pos))
  | 2 => View.ld x (Rect.unit (s := S8) ![2] S1.size inb_S8_S1_2) (Shape.Idx.first (numel1_S1.symm ▸ Nat.one_pos))
  | 3 => View.ld x (Rect.unit (s := S8) ![3] S1.size inb_S8_S1_3) (Shape.Idx.first (numel1_S1.symm ▸ Nat.one_pos))
  | 4 => View.ld x (Rect.unit (s := S8) ![4] S1.size inb_S8_S1_4) (Shape.Idx.first (numel1_S1.symm ▸ Nat.one_pos))
  | 5 => View.ld x (Rect.unit (s := S8) ![5] S1.size inb_S8_S1_5) (Shape.Idx.first (numel1_S1.symm ▸ Nat.one_pos))
  | 6 => View.ld x (Rect.unit (s := S8) ![6] S1.size inb_S8_S1_6) (Shape.Idx.first (numel1_S1.symm ▸ Nat.one_pos))
  | 7 => View.ld x (Rect.unit (s := S8) ![7] S1.size inb_S8_S1_7) (Shape.Idx.first (numel1_S1.symm ▸ Nat.one_pos))
def weights (x : Vec F S4x128x128 .f32) : Fin 4 → Vec F S1x128x128 .f32
  | 0 => View.ld x (Rect.unit (s := S4x128x128) ![0, 0, 0] S1x128x128.size inb_S4x128x128_S1x128x128_0_0_0)
  | 1 => View.ld x (Rect.unit (s := S4x128x128) ![1, 0, 0] S1x128x128.size inb_S4x128x128_S1x128x128_1_0_0)
  | 2 => View.ld x (Rect.unit (s := S4x128x128) ![2, 0, 0] S1x128x128.size inb_S4x128x128_S1x128x128_2_0_0)
  | 3 => View.ld x (Rect.unit (s := S4x128x128) ![3, 0, 0] S1x128x128.size inb_S4x128x128_S1x128x128_3_0_0)
def biases (x : Vec F S128x4 .f32) : Fin 4 → Vec F S128x1 .f32
  | 0 => View.ld x (Rect.unit (s := S128x4) ![0, 0] S128x1.size inb_S128x4_S128x1_0_0)
  | 1 => View.ld x (Rect.unit (s := S128x4) ![0, 1] S128x1.size inb_S128x4_S128x1_0_1)
  | 2 => View.ld x (Rect.unit (s := S128x4) ![0, 2] S128x1.size inb_S128x4_S128x1_0_2)
  | 3 => View.ld x (Rect.unit (s := S128x4) ![0, 3] S128x1.size inb_S128x4_S128x1_0_3)

variable (m : (ℓ : Loc nD τ sig) → Buf (Elt F) ℓ) (c : Dev nD) (t : Fin cfg0.N)

/-- The upper and the lower 128 of 256 rows. -/
abbrev up128 {e : EltTy} (x : Vec F S256x128 e) : Vec F S128x128 e :=
  View.ld x (Rect.unit (s := S256x128) ![0, 0] S128x128.size inb_S256x128_S128x128_0_0)
abbrev lo128 {e : EltTy} (x : Vec F S256x128 e) : Vec F S128x128 e :=
  View.ld x (Rect.unit (s := S256x128) ![128, 0] S128x128.size inb_S256x128_S128x128_128_0)
abbrev up512 {e : EltTy} (x : Vec F S256x512 e) : Vec F S128x512 e :=
  View.ld x (Rect.unit (s := S256x512) ![0, 0] S128x512.size inb_S256x512_S128x512_0_0)
abbrev lo512 {e : EltTy} (x : Vec F S256x512 e) : Vec F S128x512 e :=
  View.ld x (Rect.unit (s := S256x512) ![128, 0] S128x512.size inb_S256x512_S128x512_128_0)

/-- The point's two blocks. -/
def first : Vec F S128x1024 .bf16 :=
  block (k0_pay5 (grid0.coords t)) (iblk m c 2 t) (up128 (iblk m c 1 t)) (iblk m c 4 t) (up128 (iblk m c 3 t)) (up512 (iblk m c 0 t))
    (sinks (iblk m c 7 t)) (up512 (iblk m c 5 t)) (up512 (iblk m c 6 t)) (iblk m c 8 t) (iblk m c 9 t) (weights (iblk m c 10 t))
    (biases (iblk m c 11 t))
def second : Vec F S128x1024 .bf16 :=
  block k0_pay35 (up128 (iblk m c 1 t)) (lo128 (iblk m c 1 t)) (up128 (iblk m c 3 t)) (lo128 (iblk m c 3 t)) (lo512 (iblk m c 0 t))
    (sinks (iblk m c 7 t)) (lo512 (iblk m c 5 t)) (lo512 (iblk m c 6 t)) (iblk m c 8 t) (iblk m c 9 t) (weights (iblk m c 10 t))
    (biases (iblk m c 11 t))

theorem outs_eq : outsAt0 m c t = View.canon
    [⟨Rect.unit ![128, 0] ![128, 1024] inb_S256x1024_S128x1024_128_0, second m c t⟩,
      ⟨Rect.unit ![0, 0] ![128, 1024] inb_S256x1024_S128x1024_0_0, first m c t⟩] := by
  unfold outsAt0
  frame_out
  rfl

end Cert.MixFwdIdeal.Block

end
-- ==== Proof.MixReads.lean ====
/-
  The mixer's forward call: what a grid point's blocks hold, as entries of the arguments.
-/
module

public import proofs.«01_k».proof.Proof.Gen.MixFwdIdeal.Value
public import Idealize.ShloMosaic.Lib.Pipeline.ValueKit
public import Idealize.ShloMosaic.Lib.Pipeline.ValueKit.Acc
public import Idealize.ShloMosaic.Lib.Pipeline.ReadBack
public import Idealize.ShloMosaic.Lib.Pointwise

@[expose] public section

set_option maxRecDepth 16384

noncomputable section

namespace Cert.MixFwdIdeal.Block

open Cert.MixFwdIdeal Cert.MixFwdIdeal.Gen Idealize.ShloMosaic Idealize.ShloMosaic.TcCoe

section Host

/-- The arrays that the host prepares. -/
def qH (q : FVec Ideal S1x4096x8x64 .f32) : FVec Ideal S4096x512 .bf16 :=
  truncf (F := Ideal) .bf16 (mulf (F := Ideal) (shapeCast S4096x512 q shapeCasts_S1x4096x8x64_S4096x512)
    (broadcastInDim S4096x512 ![] bcast_S_S4096x512 (constant (F := Ideal) S_ .f32 0x3E000000#32))) bitsLt_bf16_f32
def kvH (k : FVec Ideal S1x4096x2x64 .f32) : FVec Ideal S4096x128 .bf16 :=
  truncf (F := Ideal) .bf16 (shapeCast S4096x128 k shapeCasts_S1x4096x2x64_S4096x128) bitsLt_bf16_f32
def suH (u : FVec Ideal S1x4096x512 .f32) : FVec Ideal S4096x512 .f32 := shapeCast S4096x512 u shapeCasts_S1x4096x512_S4096x512
def rowH (g : FVec Ideal S512 .f32) : FVec Ideal S1x512 .f32 := broadcastInDim S1x512 ![1] bcast_S512_S1x512_1 g
def bsH (b : FVec Ideal S4x128 .f32) : FVec Ideal S128x4 .f32 := transpose S128x4 [1, 0] b transposes_S4x128_S128x4_1_0

variable (R : Fin 4096)

theorem qH_at (q : FVec Ideal S1x4096x8x64 .f32) (l : Fin 512) : qH q (ix2 R l) =
    q (ix4 0 R ⟨l.val / 64, by omega⟩ ⟨l.val % 64, by omega⟩) * Ideal.ofBits .f32 0x3E000000#32 := by
  pointwise [qH]
theorem kvH_at (k : FVec Ideal S1x4096x2x64 .f32) (l : Fin 128) : kvH k (ix2 R l) =
    k (ix4 0 R ⟨l.val / 64, by omega⟩ ⟨l.val % 64, by omega⟩) := by
  pointwise [kvH]
theorem suH_at (u : FVec Ideal S1x4096x512 .f32) (l : Fin 512) : suH u (ix2 R l) = u (ix3 0 R l) := by
  pointwise [suH]
theorem rowH_at (g : FVec Ideal S512 .f32) (l : Fin 512) : rowH g (ix2 0 l) = g (ix1 l) := by
  pointwise [rowH]
theorem bsH_at (b : FVec Ideal S4x128 .f32) (i : Fin 128) (h : Fin 4) : bsH b (ix2 i h) = b (ix2 h i) := by
  pointwise [bsH]

end Host

variable (m : (ℓ : Loc nD τ sig) → Buf (Elt Ideal) ℓ) (c : Dev nD)

/-- The arguments: queries, keys, values, the gate's two branches, sinks, the norm's scale and shift, the mixing weights
    and their biases. -/
abbrev qA : FVec Ideal S1x4096x8x64 .f32 := m ((c : Thread nD τ).loc main_arg0)
abbrev kA : FVec Ideal S1x4096x2x64 .f32 := m ((c : Thread nD τ).loc main_arg1)
abbrev vA : FVec Ideal S1x4096x2x64 .f32 := m ((c : Thread nD τ).loc main_arg2)
abbrev uA : FVec Ideal S1x4096x512 .f32 := m ((c : Thread nD τ).loc main_arg3)
abbrev wA : FVec Ideal S1x4096x512 .f32 := m ((c : Thread nD τ).loc main_arg4)
abbrev sinkA : FVec Ideal S8 .f32 := m ((c : Thread nD τ).loc main_arg5)
abbrev gainA : FVec Ideal S512 .f32 := m ((c : Thread nD τ).loc main_arg6)
abbrev shiftA : FVec Ideal S512 .f32 := m ((c : Thread nD τ).loc main_arg7)
abbrev mixA : FVec Ideal S4x128x128 .f32 := m ((c : Thread nD τ).loc main_arg8)
abbrev biasA : FVec Ideal S4x128 .f32 := m ((c : Thread nD τ).loc main_arg9)

theorem q_eq : StableHlo.after hostOps0 (fun b => m (c, b)) (Proc.tc.devRef main_v3) = qH (qA m c) := by rfl
theorem k_eq : StableHlo.after hostOps0 (fun b => m (c, b)) (Proc.tc.devRef main_v5) = kvH (kA m c) := by rfl
theorem v_eq : StableHlo.after hostOps0 (fun b => m (c, b)) (Proc.tc.devRef main_v7) = kvH (vA m c) := by rfl
theorem u_eq : StableHlo.after hostOps0 (fun b => m (c, b)) (Proc.tc.devRef main_v8) = suH (uA m c) := by rfl
theorem w_eq : StableHlo.after hostOps0 (fun b => m (c, b)) (Proc.tc.devRef main_v9) = suH (wA m c) := by rfl
theorem g_eq : StableHlo.after hostOps0 (fun b => m (c, b)) (Proc.tc.devRef main_v10) = rowH (gainA m c) := by rfl
theorem b_eq : StableHlo.after hostOps0 (fun b => m (c, b)) (Proc.tc.devRef main_v11) = rowH (shiftA m c) := by rfl
theorem bs_eq : StableHlo.after hostOps0 (fun b => m (c, b)) (Proc.tc.devRef main_v12) = bsH (biasA m c) := by rfl

/-- Where each window's block stands in its array. -/
theorem idx : ∀ t : Fin grid0.N, win0_0.index t = ![t.val, 0] ∧ win0_1.index t = ![t.val, 0] ∧ win0_2.index t = ![2 * t.val - 1, 0]
    ∧ win0_3.index t = ![t.val, 0] ∧ win0_4.index t = ![2 * t.val - 1, 0] ∧ win0_5.index t = ![t.val, 0] ∧ win0_6.index t = ![t.val, 0]
    ∧ win0_7.index t = ![0] ∧ win0_8.index t = ![0, 0] ∧ win0_9.index t = ![0, 0] ∧ win0_10.index t = ![0, 0, 0]
    ∧ win0_11.index t = ![0, 0] ∧ win0_12.index t = ![t.val, 0] ∧ (grid0.coords t 0).val = t.val := by decide +kernel

theorem points : grid0.N = 16 := by decide +kernel

variable (t : Fin cfg0.N)

/-- The array's row that row `r` of point `t`'s block is, and of the 128 rows before it (at the first point, its own). -/
def row (r : Fin 256) : Fin 4096 := ⟨256 * t.val + r.val, by
  have := t.isLt; have h : cfg0.N = 16 := points; omega⟩
def rowPrev (r : Fin 128) : Fin 4096 := ⟨128 * (2 * t.val - 1) + r.val, by
  have := t.isLt; have h : cfg0.N = 16 := points; omega⟩

variable (r : Fin 256) (p : Fin 128) (l : Fin 512)

theorem q_at : iblk m c 0 t (ix2 r l) = qH (qA m c) (ix2 (row t r) l) := by
  unfold row
  blk_ext [iblk, V, q_eq, idx t]
theorem k_at (x : Fin 128) : iblk m c 1 t (ix2 r x) = kvH (kA m c) (ix2 (row t r) x) := by
  unfold row
  blk_ext [iblk, V, k_eq, idx t]
theorem kp_at (x : Fin 128) : iblk m c 2 t (ix2 p x) = kvH (kA m c) (ix2 (rowPrev t p) x) := by
  unfold rowPrev
  blk_ext [iblk, V, k_eq, idx t]
theorem v_at (x : Fin 128) : iblk m c 3 t (ix2 r x) = kvH (vA m c) (ix2 (row t r) x) := by
  unfold row
  blk_ext [iblk, V, v_eq, idx t]
theorem vp_at (x : Fin 128) : iblk m c 4 t (ix2 p x) = kvH (vA m c) (ix2 (rowPrev t p) x) := by
  unfold rowPrev
  blk_ext [iblk, V, v_eq, idx t]
theorem u_at : iblk m c 5 t (ix2 r l) = suH (uA m c) (ix2 (row t r) l) := by
  unfold row
  blk_ext [iblk, V, u_eq, idx t]
theorem w_at : iblk m c 6 t (ix2 r l) = suH (wA m c) (ix2 (row t r) l) := by
  unfold row
  blk_ext [iblk, V, w_eq, idx t]
theorem s_at (h : Fin 8) : iblk m c 7 t (ix1 h) = sinkA m c (ix1 h) := by
  blk_ext [iblk, V, idx t]
theorem g_at : iblk m c 8 t (ix2 0 l) = rowH (gainA m c) (ix2 0 l) := by
  blk_ext [iblk, V, g_eq, idx t]
theorem b_at : iblk m c 9 t (ix2 0 l) = rowH (shiftA m c) (ix2 0 l) := by
  blk_ext [iblk, V, b_eq, idx t]
theorem mix_at (h : Fin 4) (i j : Fin 128) : iblk m c 10 t (ix3 h i j) = mixA m c (ix3 h i j) := by
  blk_ext [iblk, V, idx t]
theorem bs_at (i : Fin 128) (h : Fin 4) : iblk m c 11 t (ix2 i h) = bsH (biasA m c) (ix2 i h) := by
  blk_ext [iblk, V, bs_eq, idx t]

end Cert.MixFwdIdeal.Block

end
-- ==== Proof.MixHalves.lean ====
/-
  An array of 256 rows that is written as two ranges of 128 rows, and the loads of one range.
-/
module

public import Idealize.ShloMosaic.Lib.Pipeline.ValueKit
public import Idealize.ShloMosaic.Lib.Pipeline.ValueKit.Acc
public import Idealize.ShloMosaic.Lib.Pointwise
public import Idealize.ShloMosaic.Lib.Ring
public import Idealize.ShloMosaic.Lib.Pipeline.ReadBack

@[expose] public section

set_option maxRecDepth 16384

noncomputable section

namespace Cert.Halves

open Idealize.ShloMosaic Idealize.ShloMosaic.TcCoe

/-- Row `r` of range `e`. -/
def rowOf (e : Fin 2) (r : Fin 128) : Fin 256 := ⟨128 * e.val + r.val, by omega⟩

theorem ld_rows {ty : EltTy} {n : ℕ} (X : Vec Ideal ⟨2, ![256, n]⟩ ty) (e : Fin 2) (o : ℕ) (ho : o = 128 * e.val) (inb) (r : Fin 128)
    (l : Fin n) : View.ld X (Rect.unit (s := ⟨2, ![256, n]⟩) ![o, 0] ![128, n] inb) (ix2 r l) = X (ix2 (rowOf e r) l) := by
  subst ho
  exact View.ld_unit_apply_of _ _ _ _ _ _ fun a => by unfold rowOf; fin_cases a <;> simp

theorem emb_rows (e : Fin 2) (o : ℕ) (ho : o = 128 * e.val) (inb) (r : Fin 128) (l : Fin 1024) :
    (Rect.unit (s := ⟨2, ![256, 1024]⟩) ![o, 0] ![128, 1024] inb).emb (ix2 r l) = ix2 (rowOf e r) l := by
  subst ho
  funext a
  refine Fin.ext ((show _ = ((![128 * e.val, 0] : Fin 2 → ℕ) a + (ix2 r l a : ℕ)) from
    Rect.idx_unit_val (![128 * e.val, 0] : Fin 2 → ℕ) ![128, 1024] inb (ix2 r l) a).trans ?_)
  unfold rowOf
  fin_cases a <;> simp

/-- Two ranges that hold a function's values: together they hold all of them. -/
theorem canon_halves (f : Fin 256 → Fin 1024 → EReal) (v0 v1 : Vec Ideal ⟨2, ![128, 1024]⟩ .bf16) (i0 i1)
    (h0 : ∀ r l, v0 (ix2 r l) = f (rowOf 0 r) l) (h1 : ∀ r l, v1 (ix2 r l) = f (rowOf 1 r) l) (r : Fin 256) (l : Fin 1024) :
    View.canon (Val := Elt Ideal) (s := ⟨2, ![256, 1024]⟩) (e := .bf16)
      [⟨Rect.unit ![128, 0] ![128, 1024] i1, v1⟩, ⟨Rect.unit ![0, 0] ![128, 1024] i0, v0⟩] (ix2 r l) = f r l := by
  have p : View.PiecesOf (Val := Elt Ideal) (s := ⟨2, ![256, 1024]⟩) (e := .bf16) (fun y => f (y 0) (y 1))
      [⟨Rect.unit ![128, 0] ![128, 1024] i1, v1⟩, ⟨Rect.unit ![0, 0] ![128, 1024] i0, v0⟩] := by
    refine ⟨fun x => ?_, fun x => ?_, trivial⟩
    · idx_vars x
      rw [emb_rows 1 128 rfl]
      exact h1 _ _
    · idx_vars x
      rw [emb_rows 0 0 rfl]
      exact h0 _ _
  refine (congrFun (congrArg View.canon (List.append_nil _).symm) _).trans ?_
  exact View.canon_append_of_piecesOf _ [] _ p _ (View.cover_of_tiledBy _ ![128, 1024] (by sl_kernel_rfl) _)

end Cert.Halves

end
-- ==== Proof.MixArray.lean ====
/-
  The array that the mixer's forward call ends with.
-/
module

public import proofs.«01_k».proof.Proof.MixSpec
public import proofs.«01_k».proof.Proof.MixMask
public import proofs.«01_k».proof.Proof.MixOuts
public import proofs.«01_k».proof.Proof.MixReads
public import proofs.«01_k».proof.Proof.MixHalves

@[expose] public section

set_option maxRecDepth 16384

noncomputable section

namespace Cert.MixFwdIdeal.Block

open Cert.MixFwdIdeal Cert.MixFwdIdeal.Gen Idealize.ShloMosaic Idealize.ShloMosaic.TcCoe Cert.Band Cert.MixSpec

section Loads

theorem sinks_read (x : Vec Ideal S8 .f32) (h : Fin 8) : sinks x h = x (ix1 h) := by
  have e (o : ℕ) (ho : o < 8) (inb) (y) : View.ld x (Rect.unit (s := S8) ![o] S1.size inb) y = x (ix1 ⟨o, ho⟩) := by
    refine View.ld_unit_apply_of _ _ _ _ _ _ fun a => ?_
    have := (y a).isLt
    fin_cases a
    simp at this ⊢
  match h with
  | 0 | 1 | 2 | 3 | 4 | 5 | 6 | 7 => exact e _ (by decide) _ _
theorem weights_read (x : Vec Ideal S4x128x128 .f32) (c : Fin 4) (i j : Fin 128) : weights x c (ix3 0 i j) = x (ix3 c i j) := by
  have e (o : ℕ) (ho : o < 4) (inb) : View.ld x (Rect.unit (s := S4x128x128) ![o, 0, 0] S1x128x128.size inb) (ix3 0 i j) = x (ix3 ⟨o, ho⟩ i j) :=
    View.ld_unit_apply_of _ _ _ _ _ _ fun a => by fin_cases a <;> simp
  match c with
  | 0 | 1 | 2 | 3 => exact e _ (by decide) _
theorem biases_read (x : Vec Ideal S128x4 .f32) (c : Fin 4) (i : Fin 128) : biases x c (ix2 i 0) = x (ix2 i c) := by
  have e (o : ℕ) (ho : o < 4) (inb) : View.ld x (Rect.unit (s := S128x4) ![0, o] S128x1.size inb) (ix2 i 0) = x (ix2 i ⟨o, ho⟩) :=
    View.ld_unit_apply_of _ _ _ _ _ _ fun a => by fin_cases a <;> simp
  match c with
  | 0 | 1 | 2 | 3 => exact e _ (by decide) _

end Loads

variable (m : (ℓ : Loc nD τ sig) → Buf (Elt Ideal) ℓ) (c : Dev nD) (t : Fin cfg0.N)

/-- The two blocks of a point. -/
def blockOf (e : Fin 2) : Fin 32 := ⟨2 * t.val + e.val, by
  have := t.isLt; have h : cfg0.N = 16 := points; omega⟩

theorem row_eq (e : Fin 2) (r : Fin 128) : row t (Halves.rowOf e r) = rowOf (blockOf t e) r :=
  Fin.ext (by unfold row Halves.rowOf rowOf blockOf; simp only; omega)
theorem prev_first (h : 0 < (blockOf t 0).val) (r : Fin 128) : rowPrev t r = keyOf (blockOf t 0) ⟨r.val, by omega⟩ := by
  unfold blockOf at h
  exact Fin.ext (by unfold rowPrev keyOf blockOf; simp at h ⊢; omega)
theorem prev_second (r : Fin 128) : row t (Halves.rowOf 0 r) = keyOf (blockOf t 1) ⟨r.val, by omega⟩ :=
  Fin.ext (by unfold row Halves.rowOf keyOf blockOf; simp; omega)

theorem kv_read (x : FVec Ideal S1x4096x2x64 .f32) (R : Fin 4096) (e : Fin 2) (y : Fin 64) :
    kvH x (ix2 R (klane e y)) = x (ix4 0 R e y) := by
  rw [kvH_at]
  unfold klane
  refine congrArg x (congrArg₂ (ix4 0 R) (Fin.ext ?_) (Fin.ext ?_)) <;> simp only <;> omega
theorem q_read (x : FVec Ideal S1x4096x8x64 .f32) (R : Fin 4096) (e : Fin 2) (a : Fin 4) (y : Fin 64) :
    qH x (ix2 R (qlane e a y)) = x (ix4 0 R ⟨4 * e.val + a.val, by omega⟩ y) * eighth := by
  rw [qH_at]
  unfold qlane
  refine congrArg (fun z => z * eighth) (congrArg x (congrArg₂ (ix4 0 R) (Fin.ext ?_) (Fin.ext ?_))) <;> simp only <;> omega

/-- The output's entry at row `i` of block `B`. -/
abbrev outM (B : Fin 32) (i : Fin 128) (L : Fin 1024) : EReal := MixSpec.out (qA m c) (kA m c) (vA m c) (uA m c) (wA m c) (sinkA m c)
  (gainA m c) (shiftA m c) (mixA m c) (biasA m c) B i L

theorem first_out (r : Fin 128) (L : Fin 1024) : first m c t (ix2 r L) = outM m c (blockOf t 0) r L := by
  unfold first
  refine block_out _ _ _ _ _ _ _ _ _ _ _ _ _ (fun k a => ?_) (fun e a x => ?_) (fun h r e x => ?_) (fun r e x => ?_) (fun h r e x => ?_)
    (fun r e x => ?_) (fun h => ?_) (fun r l => ?_) (fun r l => ?_) (fun l => ?_) (fun l => ?_) (fun h i j => ?_) (fun h i => ?_) L
  · refine (even_reads _ k a r).trans ?_
    rw [(idx t).2.2.2.2.2.2.2.2.2.2.2.2.2]
    rfl
  · exact (Halves.ld_rows _ 0 0 rfl _ _ _).trans (by rw [q_at, row_eq, q_read])
  · rw [kp_at, prev_first t h, kv_read]
  · exact (Halves.ld_rows _ 0 0 rfl _ _ _).trans (by rw [k_at, row_eq, kv_read])
  · rw [vp_at, prev_first t h, kv_read]
  · exact (Halves.ld_rows _ 0 0 rfl _ _ _).trans (by rw [v_at, row_eq, kv_read])
  · rw [sinks_read, s_at]
  · exact (Halves.ld_rows _ 0 0 rfl _ _ _).trans (by rw [u_at, row_eq, suH_at])
  · exact (Halves.ld_rows _ 0 0 rfl _ _ _).trans (by rw [w_at, row_eq, suH_at])
  · rw [g_at, rowH_at]
  · rw [b_at, rowH_at]
  · rw [weights_read, mix_at]
  · rw [biases_read, bs_at, bsH_at]
theorem second_out (r : Fin 128) (L : Fin 1024) : second m c t (ix2 r L) = outM m c (blockOf t 1) r L := by
  unfold second
  refine block_out _ _ _ _ _ _ _ _ _ _ _ _ _ (fun k a => ?_) (fun e a x => ?_) (fun h r e x => ?_) (fun r e x => ?_) (fun h r e x => ?_)
    (fun r e x => ?_) (fun h => ?_) (fun r l => ?_) (fun r l => ?_) (fun l => ?_) (fun l => ?_) (fun h i j => ?_) (fun h i => ?_) L
  · exact odd_reads t.val k a r
  · exact (Halves.ld_rows _ 1 128 rfl _ _ _).trans (by rw [q_at, row_eq, q_read])
  · exact (Halves.ld_rows _ 0 0 rfl _ _ _).trans (by rw [k_at, prev_second, kv_read])
  · exact (Halves.ld_rows _ 1 128 rfl _ _ _).trans (by rw [k_at, row_eq, kv_read])
  · exact (Halves.ld_rows _ 0 0 rfl _ _ _).trans (by rw [v_at, prev_second, kv_read])
  · exact (Halves.ld_rows _ 1 128 rfl _ _ _).trans (by rw [v_at, row_eq, kv_read])
  · rw [sinks_read, s_at]
  · exact (Halves.ld_rows _ 1 128 rfl _ _ _).trans (by rw [u_at, row_eq, suH_at])
  · exact (Halves.ld_rows _ 1 128 rfl _ _ _).trans (by rw [w_at, row_eq, suH_at])
  · rw [g_at, rowH_at]
  · rw [b_at, rowH_at]
  · rw [weights_read, mix_at]
  · rw [biases_read, bs_at, bsH_at]

/-- The block and the row in it of an array's row. -/
def blockAt (R : Fin 4096) : Fin 32 := ⟨R.val / 128, by omega⟩
def inBlock (R : Fin 4096) : Fin 128 := ⟨R.val % 128, by omega⟩

theorem block_eq_of (e : Fin 2) (r : Fin 128) : blockOf t e = blockAt (row t (Halves.rowOf e r)) :=
  Fin.ext (by unfold blockOf blockAt row Halves.rowOf; simp only; omega)
theorem inBlock_eq_of (e : Fin 2) (r : Fin 128) : r = inBlock (row t (Halves.rowOf e r)) :=
  Fin.ext (by unfold inBlock row Halves.rowOf; simp only; omega)

theorem outs_at (r : Fin 256) (L : Fin 1024) : outsAt0 m c t (ix2 r L) = outM m c (blockAt (row t r)) (inBlock (row t r)) L := by
  rw [outs_eq]
  refine Halves.canon_halves (fun r L => outM m c (blockAt (row t r)) (inBlock (row t r)) L) _ _ _ _ (fun r l => ?_) (fun r l => ?_) r L
  · exact (first_out m c t r l).trans (congrArg₂ (fun B i => outM m c B i l) (block_eq_of t 0 r) (inBlock_eq_of t 0 r))
  · exact (second_out m c t r l).trans (congrArg₂ (fun B i => outM m c B i l) (block_eq_of t 1 r) (inBlock_eq_of t 1 r))

/-- The output. -/
theorem final12 : (dats m 0 c).arrAt 12 cfg0.N = fun j => outM m c (blockAt (j 0)) (inBlock (j 0)) (j 1) := by
  refine (dats m 0 c).arrAt_eq_of_covers 12 _ (by decide +kernel) fun t hf y => ?_
  blk_simp [idx]
  rw [after0_12]
  idx_vars y
  refine (outs_at m c t y0 y1).trans ?_
  have e : ∀ R R' : Fin 4096, R = R' → ∀ l l' : Fin 1024, l = l' →
      outM m c (blockAt R) (inBlock R) l = outM m c (blockAt R') (inBlock R') l' := by
    rintro R _ rfl l _ rfl; rfl
  refine e _ _ (Fin.ext ?_) _ _ (Fin.ext ?_)
  · unfold row; blk_simp [idx]; show 256 * t.val + y0.val = _; omega
  · blk_simp [idx]

end Cert.MixFwdIdeal.Block

end
-- ==== Proof.MixSoft.lean ====
/-
  The softmax over a band's scores and a sink, written as one row of 257 numbers, is the band's attention.
-/
module

public import proofs.«01_k».proof.Proof.Band
public import proofs.«01_k».proof.Proof.Finite

@[expose] public section

noncomputable section

namespace Cert.Soft

open Idealize.ShloMosaic Cert.Band Cert.Finite

variable {ok : Fin 256 → Prop} [DecidablePred ok] {s v : Fin 256 → EReal} {sink : EReal}

/-- Real scores and a real sink have a real largest. -/
theorem top_real (hs : ∀ k, IsReal (s k)) (hk : IsReal sink) : IsReal (top ok s sink) := by
  obtain ⟨r, rfl⟩ := hk
  have lt : top ok s (r : EReal) < ⊤ := by
    refine max_lt (Finset.fold_max_lt _ |>.2 ⟨bot_lt_top, fun k _ => ?_⟩) (EReal.coe_lt_top r)
    unfold masked
    split_ifs
    · obtain ⟨x, hx⟩ := hs k
      rw [hx]
      exact EReal.coe_lt_top x
    · exact bot_lt_top
  have gt : ⊥ < top ok s (r : EReal) := lt_of_lt_of_le (EReal.bot_lt_coe r) (le_max_right _ _)
  exact ⟨_, (EReal.coe_toReal lt.ne gt.ne').symm⟩

theorem exp_nonneg (x : EReal) : 0 ≤ Ideal.exp x := by
  induction x with
  | bot => simp
  | top => simp
  | coe r => rw [Ideal.exp_coe]; exact EReal.coe_nonneg.2 (Real.exp_pos r).le

/-- The sum of the weights is not zero: the sink's own is not. -/
theorem weight_ne (hs : ∀ k, IsReal (s k)) (hk : IsReal sink) : weight ok s sink ≠ 0 := by
  obtain ⟨t, ht⟩ := top_real (ok := ok) hs hk
  obtain ⟨r, rfl⟩ := hk
  have p : 0 < Ideal.exp ((r : EReal) - top ok s (r : EReal)) := by
    rw [ht, ← EReal.coe_sub, Ideal.exp_coe]
    exact EReal.coe_pos.2 (Real.exp_pos _)
  exact (lt_of_lt_of_le p (le_add_of_nonneg_left (Finset.sum_nonneg fun k _ => exp_nonneg _))).ne'

/-- Division by a number that is not zero is multiplication by one over it. -/
theorem div_eq {y : EReal} (h : y ≠ 0) (x : EReal) : Ideal.div x y = x * Ideal.div 1 y := by
  unfold Ideal.div
  rw [if_neg h, if_neg h, one_mul]

variable {f : Fin 257 → EReal}

theorem max_eq (hf : ∀ k : Fin 256, f ⟨k.val, by omega⟩ = masked ok s k) (hl : f ⟨256, by omega⟩ = sink) :
    max ⊥ (Finset.univ.fold max ⊥ f) = top ok s sink := by
  refine le_antisymm (max_le bot_le (Finset.fold_max_le _ |>.2 ⟨bot_le, fun k _ => ?_⟩))
    (le_max_of_le_right (max_le (Finset.fold_max_le _ |>.2 ⟨bot_le, fun k _ => ?_⟩) ?_))
  · rcases k with ⟨k, h⟩
    by_cases h' : k < 256
    · rw [hf ⟨k, h'⟩]
      exact le_max_of_le_left (Finset.le_fold_max _ |>.2 (Or.inr ⟨_, Finset.mem_univ _, le_rfl⟩))
    · obtain rfl : k = 256 := by omega
      rw [hl]
      exact le_max_right _ _
  · rw [← hf k]
    exact Finset.le_fold_max _ |>.2 (Or.inr ⟨_, Finset.mem_univ _, le_rfl⟩)
  · rw [← hl]
    exact Finset.le_fold_max _ |>.2 (Or.inr ⟨_, Finset.mem_univ _, le_rfl⟩)

theorem sum_eq (hf : ∀ k : Fin 256, f ⟨k.val, by omega⟩ = masked ok s k) (hl : f ⟨256, by omega⟩ = sink) :
    ∑ k, Ideal.exp (f k - top ok s sink) = weight ok s sink := by
  rw [Fin.sum_univ_castSucc]
  exact congrArg₂ (· + ·) (Finset.sum_congr rfl fun k _ => by rw [← hf k]; rfl) (by rw [← hl]; rfl)

theorem attend_eq (hs : ∀ k, IsReal (s k)) (hk : IsReal sink) :
    ∑ k, v k * Ideal.div (Ideal.exp (masked ok s k - top ok s sink)) (weight ok s sink) = attend ok s v sink :=
  Finset.sum_congr rfl fun k _ => by rw [div_eq (weight_ne hs hk), mul_comm]

end Cert.Soft

end
-- ==== Proof.MixRefBand.lean ====
/-
  The reference's attention stage: the windows, the mask, the scores, the softmax with the sink, and the values' mean.
-/
module

public import proofs.«01_k».proof.Proof.MixSpec
public import proofs.«01_k».proof.Proof.MixSoft
public import proofs.«01_k».proof.Proof.Gen.MixFwdRefIdeal.Read
public import Idealize.ShloMosaic.Lib.Pointwise

@[expose] public section

set_option maxRecDepth 16384

noncomputable section

namespace Cert.MixFwdRefIdeal.Stages

open Cert.MixFwdRefIdeal Cert.MixFwdRefIdeal.Gen Idealize.ShloMosaic Idealize.ShloMosaic.TcCoe
open Cert.MixFwdRefIdeal.Read Cert.Band Cert.MixSpec Cert.Finite

variable (x0 : Vec Ideal S1x4096x8x64 .f32) (x1 x2 : Vec Ideal S1x4096x2x64 .f32) (x5 : Vec Ideal S8 .f32)
  (B : Fin 32) (i : Fin 128) (e : Fin 2) (a : Fin 4) (k : Fin 256) (x : Fin 64)

theorem v0_at : val_main_v0 x0 (ix6 0 B i e a x) = x0 (ix4 0 (rowOf B i) ⟨4 * e.val + a.val, by omega⟩ x) := by
  pointwise [val_main_v0]
  exact congrArg x0 (by
    rw [show (⟨B.val * 128 + i.val, by omega⟩ : Fin 4096) = rowOf B i from Fin.ext (by unfold rowOf; simp only; omega),
      show (⟨e.val * 4 + a.val, by omega⟩ : Fin 8) = ⟨4 * e.val + a.val, by omega⟩ from Fin.ext (by simp only; omega)])

/-- A window of a block and the block before it, zero before the first, at a key that counts. -/
theorem window_at (y : Vec Ideal S1x4096x2x64 .f32) (h : reads B.val i k) :
    (if h1 : k.val < 128 then if h2 : B.val < 1 then 0 else y (ix4 0 ⟨(B.val - 1) * 128 + k.val, by omega⟩ e x)
      else y (ix4 0 ⟨B.val * 128 + (k.val - 128), by omega⟩ e x)) = y (ix4 0 (keyOf B k) e x) := by
  obtain ⟨h1, h2, h3⟩ := h
  split_ifs with c1 c2
  · omega
  · rw [show (⟨(B.val - 1) * 128 + k.val, by omega⟩ : Fin 4096) = keyOf B k from Fin.ext (by unfold keyOf; simp only; omega)]
  · rw [show (⟨B.val * 128 + (k.val - 128), by omega⟩ : Fin 4096) = keyOf B k from Fin.ext (by unfold keyOf; simp only; omega)]

theorem v6_at (h : reads B.val i k) : val_main_v6 x1 (ix5 0 B k e x) = x1 (ix4 0 (keyOf B k) e x) := by
  refine Eq.trans ?_ (window_at B i e k x x1 h)
  pointwise [val_main_v6, val_main_v5, val_main_v4, val_main_v3, val_main_cst, val_main_v1]
  done

theorem v12_at (h : reads B.val i k) : val_main_v12 x2 (ix5 0 B k e x) = x2 (ix4 0 (keyOf B k) e x) := by
  refine Eq.trans ?_ (window_at B i e k x x2 h)
  pointwise [val_main_v12, val_main_v11, val_main_v10, val_main_v9, val_main_cst_0, val_main_v7]
  done

theorem v16_at (h : reads B.val i k) : val_main_v16 x0 x1 (ix6 0 B e a i k)
    = ∑ x, x1 (ix4 0 (keyOf B k) e x) * (x0 (ix4 0 (rowOf B i) ⟨4 * e.val + a.val, by omega⟩ x) * eighth) := by
  have n : (0 : EReal) ≤ eighth ∧ eighth ≠ ⊤ := by
    have : eighth = ((1 / 8 : ℝ) : EReal) := by simp [eighth, Ideal.ofBits, Ideal.ieee, -EReal.coe_mul]; norm_num
    rw [this]
    exact ⟨EReal.coe_nonneg.2 (by norm_num), EReal.coe_ne_top _⟩
  have e1 : val_main_v16 x0 x1 (ix6 0 B e a i k)
      = (∑ x, val_main_v6 x1 (ix5 0 B k e x) * val_main_v0 x0 (ix6 0 B i e a x)) * eighth := by
    pointwise [val_main_v16, val_main_v15, val_main_v14, val_main_v13, val_main_cst_1]
    done
  rw [e1, sum_mul_of_nonneg _ _ n.1 n.2]
  exact Finset.sum_congr rfl fun x _ => by rw [v6_at x1 B i e k x h, v0_at, mul_assoc]

end Cert.MixFwdRefIdeal.Stages

end
-- ==== Proof.MixWords.lean ====
/-
  What the comparisons of positions in a band say, the positions being 32-bit words.
-/
module

public import Idealize.ShloMosaic.Lib.Pointwise

@[expose] public section

noncomputable section

namespace Cert.MixWords

open Idealize.ShloMosaic

/-- The key lies at most 127 rows before the row, and not after it. -/
theorem near_word : ∀ (i : Fin 128) (k : Fin 256),
    (IntOp.andi (IntOp.cmpi .sge (IntOp.subi (IntOp.addi (BitVec.ofNat 32 i.val) 128#32) (BitVec.ofNat 32 k.val)) 0#32)
      (IntOp.cmpi .slt (IntOp.subi (IntOp.addi (BitVec.ofNat 32 i.val) 128#32) (BitVec.ofNat 32 k.val)) 128#32) = 1#1)
      = (i.val < k.val ∧ k.val ≤ i.val + 128) := by decide +kernel

/-- The key is not before the first row. -/
theorem begun_word : ∀ (B : Fin 32) (k : Fin 256),
    (IntOp.cmpi .sge (IntOp.subi (IntOp.addi (IntOp.muli (BitVec.ofNat 32 B.val) 128#32) (BitVec.ofNat 32 k.val)) 128#32) 0#32 = 1#1)
      = (128 ≤ 128 * B.val + k.val) := by decide +kernel

/-- The column is not after the row. -/
theorem lower_word : ∀ i t : Fin 128,
    (IntOp.cmpi .sge (IntOp.addi (BitVec.ofNat 32 i.val) 0#32) (BitVec.ofNat 32 t.val) = 1#1) = (t.val ≤ i.val) := by decide +kernel

theorem and_word (p q : BitVec 1) : (IntOp.andi p q = 1#1) = (p = 1#1 ∧ q = 1#1) := by
  revert p q
  decide

end Cert.MixWords

end
-- ==== Proof.MixRefSoft.lean ====
/-
  The reference's mask, softmax with the sink, and the values' mean under it.
-/
module

public import proofs.«01_k».proof.Proof.MixRefBand
public import proofs.«01_k».proof.Proof.MixWords

@[expose] public section

set_option maxRecDepth 16384

noncomputable section

namespace Cert.MixFwdRefIdeal.Stages

open Cert.MixFwdRefIdeal Cert.MixFwdRefIdeal.Gen Idealize.ShloMosaic Idealize.ShloMosaic.TcCoe
open Cert.MixFwdRefIdeal.Read Cert.Band Cert.MixSpec Cert.Finite Cert.MixWords

theorem lowest_eq : Ideal.ofBits .f32 0xFF800000#32 = ⊥ := by simp [Ideal.ofBits, Ideal.ieee]

variable (x0 : Vec Ideal S1x4096x8x64 .f32) (x1 x2 : Vec Ideal S1x4096x2x64 .f32) (x5 : Vec Ideal S8 .f32)
  (B : Fin 32) (i : Fin 128) (e : Fin 2) (a : Fin 4) (k : Fin 256) (x : Fin 64)

theorem v47_at : (val_main_v47 (F := Ideal) (ix6 0 B 0 0 i k) = 1#1) = reads B.val i k := by
  refine Eq.trans ?_ ((and_word _ _).trans (congrArg₂ And (near_word i k) (begun_word B k))) |>.trans and_assoc.eq
  pointwise [val_main_v47, val_main_v46, val_main_v45, val_main_v44, val_main_v43, val_main_v42, val_main_v41, val_main_v40,
    val_main_v39, val_main_v38, val_main_v37, val_main_v36, val_main_v35, val_main_v34, val_main_v33, val_main_v32, val_main_v31,
    val_main_v30, val_main_v29, val_main_v28, val_main_v27, val_main_v26, val_main_v25, val_main_v24, val_main_v23, val_main_v22,
    val_main_v21, val_main_v20, val_main_v19, val_main_v18, val_main_v17, val_main_c, val_main_c_2, val_main_c_3, val_main_c_4,
    val_main_c_5, val_main_c_6]
  done

/-- A row's scores against the keys of its band. -/
abbrev score (k : Fin 256) : EReal :=
  ∑ x, x1 (ix4 0 (keyOf B k) e x) * (x0 (ix4 0 (rowOf B i) ⟨4 * e.val + a.val, by omega⟩ x) * eighth)

theorem v48_at : val_main_v48 x0 x1 (ix6 0 B e a i k) = masked (reads B.val i) (score x0 x1 B i e a) k := by
  have e1 : val_main_v48 x0 x1 (ix6 0 B e a i k)
      = Scalar.select (val_main_v47 (F := Ideal) (ix6 0 B 0 0 i k)) (val_main_v16 x0 x1 (ix6 0 B e a i k)) (⊥ : EReal) := by
    pointwise [val_main_v48, val_main_call0_v1, val_main_call0_v2, val_main_call0_v0, val_main_cst_7]
    exact congrArg (Scalar.select _ _) lowest_eq
  rw [e1]
  unfold masked
  by_cases h : reads B.val i k
  · rw [if_pos h]
    exact (if_pos ((v47_at B i k).mpr h)).trans (v16_at x0 x1 B i e a k h)
  · rw [if_neg h]
    exact if_neg fun h' => h ((v47_at B i k).mp h')

theorem v51_at (z : Fin 1) : val_main_v51 x5 (ix6 0 B e a i z) = x5 (ix1 ⟨4 * e.val + a.val, by omega⟩) := by
  pointwise [val_main_v51, val_main_v50, val_main_v49]
  exact congrArg x5 (by
    rw [show (⟨e.val * 4 + a.val, by omega⟩ : Fin 8) = ⟨4 * e.val + a.val, by omega⟩ from Fin.ext (by simp only; omega)])

/-- The scores and, last, the sink. -/
abbrev lanes (k : Fin 257) : EReal := val_main_v52 x0 x1 x5 (ix6 0 B e a i k)

theorem lanes_band : lanes x0 x1 x5 B i e a ⟨k.val, by omega⟩ = masked (reads B.val i) (score x0 x1 B i e a) k := by
  rw [← v48_at]
  unfold lanes
  pointwise [val_main_v52]
  done

theorem lanes_sink : lanes x0 x1 x5 B i e a ⟨256, by omega⟩ = x5 (ix1 ⟨4 * e.val + a.val, by omega⟩) := by
  rw [← v51_at x5 B i e a 0]
  unfold lanes
  pointwise [val_main_v52]
  done

/-- The largest of a row's lanes. -/
theorem v53_at : val_main_v53 x0 x1 x5 (ix5 0 B e a i) = Finset.univ.fold max ⊥ (lanes x0 x1 x5 B i e a) := by
  unfold val_main_v53
  refine (Host.reduce_eq_fold_single FloatOps.maximumf _ _ reducesTo_S1x32x2x4x128x257_S1x32x2x4x128_d5 (by decide) h_S_ _).trans ?_
  refine congrArg (Finset.univ.fold max ⊥) (funext fun k => congrArg (val_main_v52 x0 x1 x5) ?_)
  exact funext fun b => Fin.ext (by
    match b with
    | ⟨0, _⟩ => rfl
    | ⟨1, _⟩ => rfl
    | ⟨2, _⟩ => rfl
    | ⟨3, _⟩ => rfl
    | ⟨4, _⟩ => rfl
    | ⟨5, _⟩ => rfl)

/-- The band's largest score, the sink's included. -/
abbrev most : EReal := top (reads B.val i) (score x0 x1 B i e a) (x5 (ix1 ⟨4 * e.val + a.val, by omega⟩))

theorem v55_at : val_main_v55 x0 x1 x5 (ix5 0 B e a i) = most x0 x1 x5 B i e a := by
  have e1 : val_main_v54 (F := Ideal) (ix5 0 B e a i) = ⊥ := by
    rw [val_main_v54_apply, val_main_cst_9_apply]
    exact lowest_eq
  rw [val_main_v55_apply, e1, v53_at]
  exact Soft.max_eq (lanes_band x0 x1 x5 B i e a) (lanes_sink x0 x1 x5 B i e a)

theorem v59_at (k : Fin 257) : val_main_v59 x0 x1 x5 (ix6 0 B e a i k)
    = Ideal.exp (lanes x0 x1 x5 B i e a k - most x0 x1 x5 B i e a) := by
  have e1 : val_main_v59 x0 x1 x5 (ix6 0 B e a i k)
      = Ideal.exp (val_main_v52 x0 x1 x5 (ix6 0 B e a i k) - val_main_v55 x0 x1 x5 (ix5 0 B e a i)) := by
    pointwise [val_main_v59, val_main_v58, val_main_v57, val_main_v56]
    done
  rw [e1, v55_at]

/-- The sum of a row's weights. -/
theorem v60_at : val_main_v60 x0 x1 x5 (ix5 0 B e a i)
    = weight (reads B.val i) (score x0 x1 B i e a) (x5 (ix1 ⟨4 * e.val + a.val, by omega⟩)) := by
  rw [val_main_v60_apply, val_main_cst_10_apply]
  refine (congrArg₂ (· + ·) (show _ = (0 : EReal) by simp) (Finset.sum_congr rfl fun k _ => ?_)).trans
    ((zero_add _).trans (Soft.sum_eq (lanes_band x0 x1 x5 B i e a) (lanes_sink x0 x1 x5 B i e a)))
  exact (congrArg (val_main_v59 x0 x1 x5) (funext fun b => Fin.ext (by
    match b with
    | ⟨0, _⟩ => rfl
    | ⟨1, _⟩ => rfl
    | ⟨2, _⟩ => rfl
    | ⟨3, _⟩ => rfl
    | ⟨4, _⟩ => rfl
    | ⟨5, _⟩ => rfl))).trans (v59_at x0 x1 x5 B i e a k)

theorem v64_at : val_main_v64 x0 x1 x5 (ix6 0 B e a i k)
    = Ideal.div (Ideal.exp (masked (reads B.val i) (score x0 x1 B i e a) k - most x0 x1 x5 B i e a))
        (weight (reads B.val i) (score x0 x1 B i e a) (x5 (ix1 ⟨4 * e.val + a.val, by omega⟩))) := by
  have e1 : val_main_v64 x0 x1 x5 (ix6 0 B e a i k)
      = Ideal.div (val_main_v59 x0 x1 x5 (ix6 0 B e a i ⟨k.val, by omega⟩)) (val_main_v60 x0 x1 x5 (ix5 0 B e a i)) := by
    pointwise [val_main_v64, val_main_v63, val_main_v62, val_main_v61]
    done
  rw [e1, v59_at, v60_at, lanes_band]

/-- One head's attention at one row. -/
theorem v65_at (h0 : ∀ j, IsReal (x0 j)) (h1 : ∀ j, IsReal (x1 j)) (h5 : ∀ j, IsReal (x5 j)) :
    val_main_v65 x0 x1 x2 x5 (ix6 0 B e x a i) = attn x0 x1 x2 x5 B i e a x := by
  have e1 : val_main_v65 x0 x1 x2 x5 (ix6 0 B e x a i)
      = ∑ k : Fin 256, val_main_v12 x2 (ix5 0 B k e x) * val_main_v64 x0 x1 x5 (ix6 0 B e a i k) := by
    pointwise [val_main_v65]
    done
  have n : IsReal eighth := ⟨1 / 8, by simp [eighth, Ideal.ofBits, Ideal.ieee, -EReal.coe_mul]; norm_num⟩
  rw [e1]
  refine (Finset.sum_congr rfl fun k _ => by rw [v64_at]).trans
    ((Soft.attend_eq (fun k => IsReal.sum _ fun x => (h1 _).mul ((h0 _).mul n)) (h5 _)).trans ?_)
  exact attend_congr _ (fun _ => Iff.rfl) (fun _ _ => rfl) fun k h => v12_at x2 B i e k x h

end Cert.MixFwdRefIdeal.Stages

end
-- ==== Proof.MixRefGate.lean ====
/-
  The reference's gating stage: the two branches' units, the normalisation, the mixing over the rows before, and the bias.
-/
module

public import proofs.«01_k».proof.Proof.MixSpec
public import proofs.«01_k».proof.Proof.MixWords
public import proofs.«01_k».proof.Proof.Gen.MixFwdRefIdeal.Read
public import Idealize.ShloMosaic.Lib.Pointwise

@[expose] public section

set_option maxRecDepth 16384

noncomputable section

namespace Cert.MixFwdRefIdeal.Stages

open Cert.MixFwdRefIdeal Cert.MixFwdRefIdeal.Gen Idealize.ShloMosaic Idealize.ShloMosaic.TcCoe
open Cert.MixFwdRefIdeal.Read Cert.Band Cert.MixSpec Cert.MixWords
open Cert.MixFwdIdeal.Block (half root cnt eps glane)

variable (x3 x4 : Vec Ideal S1x4096x512 .f32) (x6 x7 : Vec Ideal S512 .f32) (x8 : Vec Ideal S4x128x128 .f32) (x9 : Vec Ideal S4x128 .f32)
  (R : Fin 4096) (l : Fin 512) (B : Fin 32) (i t : Fin 128) (c : Fin 4) (d : Fin 128)

theorem v74_at : val_main_v74 x3 (ix3 0 R l) = gelu half root (x3 (ix3 0 R l)) := by
  rw [← gelu_eq]
  pointwise [val_main_v74, val_main_v73, val_main_v72, val_main_v71, val_main_v70, val_main_v69, val_main_v68, val_main_cst_11, val_main_cst_12]
  done

theorem v81_at : val_main_v81 x4 (ix3 0 R l) = gelu half root (x4 (ix3 0 R l)) := by
  rw [← gelu_eq]
  pointwise [val_main_v81, val_main_v80, val_main_v79, val_main_v78, val_main_v77, val_main_v76, val_main_v75, val_main_cst_13, val_main_cst_14]
  done

/-- The row's mean. -/
theorem v85_at : val_main_v85 x4 (ix3 0 R 0) = RowNorm.mean cnt fun l => gelu half root (x4 (ix3 0 R l)) := by
  unfold RowNorm.mean
  simp only [← v81_at]
  pointwise [val_main_v85, val_main_v84, val_main_v83, val_main_v82, val_main_cst_15, val_main_cst_16]
  done

/-- The mean of the squares of the centred row. -/
theorem v92_at : val_main_v92 x4 (ix3 0 R 0) = RowNorm.mean cnt fun l => RowNorm.centred cnt (fun l => gelu half root (x4 (ix3 0 R l))) l
    * RowNorm.centred cnt (fun l => gelu half root (x4 (ix3 0 R l))) l := by
  unfold RowNorm.centred
  rw [← v85_at]
  unfold RowNorm.mean
  simp only [← v81_at]
  pointwise [val_main_v92, val_main_v91, val_main_v90, val_main_v89, val_main_v88, val_main_v87, val_main_v86, val_main_cst_17, val_main_cst_18]
  done

/-- The normalised branch. -/
theorem v105_at : val_main_v105 x4 x6 x7 (ix3 0 R l)
    = Cert.MixFwdIdeal.Block.norm (fun l => gelu half root (x4 (ix3 0 R l))) (fun l => x6 (ix1 l)) (fun l => x7 (ix1 l)) l := by
  unfold Cert.MixFwdIdeal.Block.norm RowNorm.unit RowNorm.scale RowNorm.spread
  rw [← v92_at]
  unfold RowNorm.centred
  rw [← v85_at]
  beta_reduce
  rw [← v81_at]
  pointwise [val_main_v105, val_main_v104, val_main_v103, val_main_v102, val_main_v101, val_main_v100, val_main_v99, val_main_v98,
    val_main_v97, val_main_v96, val_main_v95, val_main_v94, val_main_v93, val_main_cst_19]
  done

theorem v106_at : val_main_v106 x4 x6 x7 (ix5 0 B i c d) = val_main_v105 x4 x6 x7 (ix3 0 (rowOf B i) (glane c d)) := by
  pointwise [val_main_v106]
  rw [show (⟨B.val * 128 + i.val, by omega⟩ : Fin 4096) = rowOf B i from Fin.ext (by unfold rowOf; simp only; omega),
    show (⟨c.val * 128 + d.val, by omega⟩ : Fin 512) = glane c d from Fin.ext (by unfold glane; simp only; omega)]

/-- The mixing weights, none for a later row. -/
theorem v111_at : val_main_v111 x8 (ix3 c i t) = if t.val ≤ i.val then x8 (ix3 c i t) else 0 := by
  have e1 : val_main_v111 x8 (ix3 c i t)
      = Scalar.select (IntOp.cmpi .sge (IntOp.addi (BitVec.ofNat 32 i.val) 0#32) (BitVec.ofNat 32 t.val)) (x8 (ix3 c i t)) 0 := by
    pointwise [val_main_v111, val_main_v110, val_main_v109, val_main_v108, val_main_v107, val_main_call1_v0, val_main_call1_v1,
      val_main_call1_v2, val_main_call1_v3, val_main_call1_v4, val_main_call1_v5, val_main_call1_c, val_main_call1_cst, val_main_cst_20]
    done
  rw [e1]
  by_cases h : t.val ≤ i.val
  · rw [if_pos h]
    exact if_pos ((lower_word i t).mpr h)
  · rw [if_neg h]
    exact if_neg fun h' => h ((lower_word i t).mp h')

theorem v118_at : val_main_v118 x4 x6 x7 x8 x9 (ix5 0 B i c d)
    = ∑ t, (if t.val ≤ i.val then x8 (ix3 c i t) * val_main_v105 x4 x6 x7 (ix3 0 (rowOf B t) (glane c d)) else 0) + x9 (ix2 c i) := by
  have e1 : val_main_v118 x4 x6 x7 x8 x9 (ix5 0 B i c d)
      = ∑ t, val_main_v106 x4 x6 x7 (ix5 0 B t c d) * val_main_v111 x8 (ix3 c i t) + x9 (ix2 c i) := by
    pointwise [val_main_v118, val_main_v117, val_main_v116, val_main_v115, val_main_v114, val_main_v113, val_main_v112]
    done
  rw [e1]
  refine congrArg (· + _) (Finset.sum_congr rfl fun t _ => ?_)
  rw [v106_at, v111_at, mul_comm, ite_mul, zero_mul]

/-- One lane of the gate. -/
theorem v120_at : val_main_v120 x3 x4 x6 x7 x8 x9 (ix3 0 (rowOf B i) (glane c d)) = gates x3 x4 x6 x7 x8 x9 B i c d := by
  have e1 (R : Fin 4096) (l : Fin 512) : val_main_v120 x3 x4 x6 x7 x8 x9 (ix3 0 R l) = val_main_v74 x3 (ix3 0 R l)
      * val_main_v118 x4 x6 x7 x8 x9 (ix5 0 ⟨R.val / 128, by omega⟩ ⟨R.val % 128, by omega⟩ ⟨l.val / 128, by omega⟩ ⟨l.val % 128, by omega⟩) := by
    pointwise [val_main_v120, val_main_v119]
    done
  rw [e1, v74_at, show (⟨(rowOf B i).val / 128, by omega⟩ : Fin 32) = B from Fin.ext (by unfold rowOf; simp only; omega),
    show (⟨(rowOf B i).val % 128, by omega⟩ : Fin 128) = i from Fin.ext (by unfold rowOf; simp only; omega),
    show (⟨(glane c d).val / 128, by omega⟩ : Fin 4) = c from Fin.ext (by unfold glane; simp only; omega),
    show (⟨(glane c d).val % 128, by omega⟩ : Fin 128) = d from Fin.ext (by unfold glane; simp only; omega), v118_at]
  unfold gates gate
  exact congrArg (_ * ·) (congrArg (· + _) (Finset.sum_congr rfl fun t _ => by rw [v105_at]))

end Cert.MixFwdRefIdeal.Stages

end
-- ==== Proof.MixRef.lean ====
/-
  The reference's result is the mixer's function of its ten arguments, where the queries, the keys and the sinks are finite.
-/
module

public import proofs.«01_k».proof.Proof.MixRefSoft
public import proofs.«01_k».proof.Proof.MixRefGate
public import proofs.«01_k».proof.Proof.MixArray

@[expose] public section

set_option maxRecDepth 16384

noncomputable section

namespace Cert.MixFwdRefIdeal.Stages

open Cert.MixFwdRefIdeal Cert.MixFwdRefIdeal.Gen Idealize.ShloMosaic Idealize.ShloMosaic.TcCoe
open Cert.MixFwdRefIdeal.Read Cert.Band Cert.MixSpec Cert.Finite
open Cert.MixFwdIdeal.Block (alane glane)

variable (x0 : Vec Ideal S1x4096x8x64 .f32) (x1 x2 : Vec Ideal S1x4096x2x64 .f32) (x3 x4 : Vec Ideal S1x4096x512 .f32)
  (x5 : Vec Ideal S8 .f32) (x6 x7 : Vec Ideal S512 .f32) (x8 : Vec Ideal S4x128x128 .f32) (x9 : Vec Ideal S4x128 .f32)

/-- The attention's lanes, put side by side. -/
theorem v67_at (B : Fin 32) (i : Fin 128) (e : Fin 2) (a : Fin 4) (h : Fin 64) :
    val_main_v67 x0 x1 x2 x5 (ix3 0 (rowOf B i) ⟨(alane e a h).val, by unfold alane; simp only; omega⟩)
      = val_main_v65 x0 x1 x2 x5 (ix6 0 B e h a i) := by
  have e1 (R : Fin 4096) (l : Fin 512) : val_main_v67 x0 x1 x2 x5 (ix3 0 R l)
      = val_main_v65 x0 x1 x2 x5 (ix6 0 ⟨R.val / 128, by omega⟩ ⟨l.val / 256, by omega⟩ ⟨l.val % 64, by omega⟩
          ⟨l.val / 64 % 4, by omega⟩ ⟨R.val % 128, by omega⟩) := by
    pointwise [val_main_v67, val_main_v66]
    done
  rw [e1, show (⟨(rowOf B i).val / 128, by omega⟩ : Fin 32) = B from Fin.ext (by unfold rowOf; simp only; omega),
    show (⟨(rowOf B i).val % 128, by omega⟩ : Fin 128) = i from Fin.ext (by unfold rowOf; simp only; omega)]
  exact congrArg (val_main_v65 x0 x1 x2 x5) (by
    rw [show (⟨(alane e a h).val / 256, by unfold alane; simp only; omega⟩ : Fin 2) = e from Fin.ext (by unfold alane; simp only; omega),
      show (⟨(alane e a h).val % 64, by omega⟩ : Fin 64) = h from Fin.ext (by unfold alane; simp only; omega),
      show (⟨(alane e a h).val / 64 % 4, by omega⟩ : Fin 4) = a from Fin.ext (by unfold alane; simp only; omega)])

theorem v123_at (R : Fin 4096) (L : Fin 1024) : val_main_v123 x0 x1 x2 x3 x4 x5 x6 x7 x8 x9 (ix2 R L)
    = if h : L.val < 512 then val_main_v67 x0 x1 x2 x5 (ix3 0 R ⟨L.val, h⟩)
      else val_main_v120 x3 x4 x6 x7 x8 x9 (ix3 0 R ⟨L.val - 512, by omega⟩) := by
  pointwise [val_main_v123, val_main_v122, val_main_v121]
  done

/-- One row of the result. -/
theorem row_eq (h0 : ∀ j, IsReal (x0 j)) (h1 : ∀ j, IsReal (x1 j)) (h5 : ∀ j, IsReal (x5 j)) (B : Fin 32) (i : Fin 128) (L : Fin 1024) :
    val_main_v123 x0 x1 x2 x3 x4 x5 x6 x7 x8 x9 (ix2 (rowOf B i) L) = out x0 x1 x2 x3 x4 x5 x6 x7 x8 x9 B i L := by
  refine out_ext (f := fun L => val_main_v123 x0 x1 x2 x3 x4 x5 x6 x7 x8 x9 (ix2 (rowOf B i) L)) (fun e a h => ?_) (fun c l => ?_) L
  · have lt : (alane e a h).val < 512 := by unfold alane; simp only; omega
    exact (v123_at ..).trans ((dif_pos lt).trans ((v67_at x0 x1 x2 x5 B i e a h).trans (v65_at x0 x1 x2 x5 B i e a h h0 h1 h5)))
  · refine (v123_at ..).trans ((dif_neg (by simp only; omega)).trans (Eq.trans ?_ (v120_at x3 x4 x6 x7 x8 x9 B i c l)))
    exact congrArg (fun z => val_main_v120 x3 x4 x6 x7 x8 x9 (ix3 0 (rowOf B i) z)) (Fin.ext (by unfold glane; simp only; omega))

/-- The result. -/
theorem v123_eq (h0 : ∀ j, IsReal (x0 j)) (h1 : ∀ j, IsReal (x1 j)) (h5 : ∀ j, IsReal (x5 j)) (j : S4096x1024.Idx) :
    val_main_v123 x0 x1 x2 x3 x4 x5 x6 x7 x8 x9 j
      = out x0 x1 x2 x3 x4 x5 x6 x7 x8 x9 (Cert.MixFwdIdeal.Block.blockAt (j 0)) (Cert.MixFwdIdeal.Block.inBlock (j 0)) (j 1) := by
  refine Eq.trans ?_ (row_eq x0 x1 x2 x3 x4 x5 x6 x7 x8 x9 h0 h1 h5 _ _ _)
  refine congrArg (val_main_v123 x0 x1 x2 x3 x4 x5 x6 x7 x8 x9) (funext fun b => Fin.ext ?_)
  match b with
  | ⟨0, _⟩ =>
    show (j 0).val = 128 * ((j 0).val / 128) + (j 0).val % 128
    omega
  | ⟨1, _⟩ => rfl

end Cert.MixFwdRefIdeal.Stages

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.FfnU
public import proofs.«01_k».proof.Proof.Gen.FfnU.Skeleton
public import proofs.«01_k».proof.Proof.Gen.FfnU.Launch
public import proofs.«01_k».proof.Proof.Gen.FfnU.Points
public import proofs.«01_k».proof.Proof.Gen.FfnU.Frame
public import proofs.«01_k».proof.Proof.Gen.FfnUIdeal
public import proofs.«01_k».proof.Proof.Gen.FfnUIdeal.Skeleton
public import proofs.«01_k».proof.Proof.Gen.FfnUIdeal.Launch
public import proofs.«01_k».proof.Proof.Gen.FfnUIdeal.Points
public import proofs.«01_k».proof.Proof.Gen.FfnUIdeal.Frame
public import proofs.«01_k».proof.Proof.Gen.FfnUIdeal.Value
public import proofs.«01_k».proof.Proof.Gen.FfnURefIdeal
public import proofs.«01_k».proof.Proof.Gen.FfnURefIdeal.Run
public import proofs.«01_k».proof.Proof.Gen.FfnURefIdeal.Read
public import proofs.«01_k».proof.Proof.Gen.Pre_finite
public import proofs.«01_k».proof.Proof.Gen.Pre_finite_inproj
public import proofs.«01_k».proof.Proof.Gen.Pre_finite_u
public import proofs.«01_k».proof.Proof.Gen.FfnA
public import proofs.«01_k».proof.Proof.Gen.FfnA.Skeleton
public import proofs.«01_k».proof.Proof.Gen.FfnA.Launch
public import proofs.«01_k».proof.Proof.Gen.FfnA.Points
public import proofs.«01_k».proof.Proof.Gen.FfnA.Frame
public import proofs.«01_k».proof.Proof.Gen.FfnAIdeal
public import proofs.«01_k».proof.Proof.Gen.FfnAIdeal.Skeleton
public import proofs.«01_k».proof.Proof.Gen.FfnAIdeal.Launch
public import proofs.«01_k».proof.Proof.Gen.FfnAIdeal.Points
public import proofs.«01_k».proof.Proof.Gen.FfnAIdeal.Frame
public import proofs.«01_k».proof.Proof.Gen.FfnAIdeal.Value
public import proofs.«01_k».proof.Proof.Gen.FfnARefIdeal
public import proofs.«01_k».proof.Proof.Gen.FfnARefIdeal.Run
public import proofs.«01_k».proof.Proof.Gen.FfnARefIdeal.Read
public import proofs.«01_k».proof.Proof.Gen.FfnG
public import proofs.«01_k».proof.Proof.Gen.FfnG.Skeleton
public import proofs.«01_k».proof.Proof.Gen.FfnG.Launch
public import proofs.«01_k».proof.Proof.Gen.FfnG.Points
public import proofs.«01_k».proof.Proof.Gen.FfnG.Frame
public import proofs.«01_k».proof.Proof.Gen.FfnGIdeal
public import proofs.«01_k».proof.Proof.Gen.FfnGIdeal.Skeleton
public import proofs.«01_k».proof.Proof.Gen.FfnGIdeal.Launch
public import proofs.«01_k».proof.Proof.Gen.FfnGIdeal.Points
public import proofs.«01_k».proof.Proof.Gen.FfnGIdeal.Frame
public import proofs.«01_k».proof.Proof.Gen.FfnGIdeal.Value
public import proofs.«01_k».proof.Proof.Gen.FfnGRefIdeal
public import proofs.«01_k».proof.Proof.Gen.FfnGRefIdeal.Run
public import proofs.«01_k».proof.Proof.Gen.FfnGRefIdeal.Read
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.Pre_finite_a
public import proofs.«01_k».proof.Proof.Gen.MixFwd
public import proofs.«01_k».proof.Proof.Gen.MixFwd.Skeleton
public import proofs.«01_k».proof.Proof.Gen.MixFwd.Launch
public import proofs.«01_k».proof.Proof.Gen.MixFwd.Points
public import proofs.«01_k».proof.Proof.Gen.MixFwd.Frame
public import proofs.«01_k».proof.Proof.Gen.MixFwdIdeal
public import proofs.«01_k».proof.Proof.Gen.MixFwdIdeal.Skeleton
public import proofs.«01_k».proof.Proof.Gen.MixFwdIdeal.Launch
public import proofs.«01_k».proof.Proof.Gen.MixFwdIdeal.Points
public import proofs.«01_k».proof.Proof.Gen.MixFwdIdeal.Frame
public import proofs.«01_k».proof.Proof.Gen.MixFwdIdeal.Value
public import proofs.«01_k».proof.Proof.Gen.MixFwdRefIdeal
public import proofs.«01_k».proof.Proof.Gen.MixFwdRefIdeal.Run
public import proofs.«01_k».proof.Proof.Gen.MixFwdRefIdeal.Read
public import proofs.«01_k».proof.Proof.Gen.Pre_finite_mix
public import proofs.«01_k».proof.Proof.DownArray
public import proofs.«01_k».proof.Proof.DownEq
public import proofs.«01_k».proof.Proof.InArray
public import proofs.«01_k».proof.Proof.InRef
public import proofs.«01_k».proof.Proof.UpArray
public import proofs.«01_k».proof.Proof.UpRef
public import proofs.«01_k».proof.Proof.ActArray
public import proofs.«01_k».proof.Proof.ActRef
public import proofs.«01_k».proof.Proof.GateArray
public import proofs.«01_k».proof.Proof.GateRef
public import proofs.«01_k».proof.Proof.OutArray
public import proofs.«01_k».proof.Proof.OutRef
public import proofs.«01_k».proof.Proof.MixArray
public import proofs.«01_k».proof.Proof.MixRef
public import Idealize.ShloMosaic.Adequacy
public import Idealize.ShloMosaic.Init

@[expose] public section

noncomputable section

-- The frames also say that every semaphore counter ends at zero.

namespace Cert.Proof

open Idealize.ShloMosaic Idealize.SL.Sem Cert.Finite

section Down

open Cert.KernelIdeal.Down (act wdown inp gainA shiftA target)

/-- On finite arguments the down product's call and its reference end with the same four results. -/
theorem down : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  have hfin (c) : (∀ i, IsReal (act m c i)) ∧ (∀ i, IsReal (wdown m c i)) ∧ (∀ i, IsReal (inp m c i)) ∧
      (∀ i, IsReal (gainA m c i)) ∧ (∀ i, IsReal (shiftA m c i)) ∧ ∀ i, IsReal (target m c i) := by
    obtain ⟨p0, p1, p2, p3, p4, p5⟩ := hpre c
    exact ⟨isReal_of_lt _ _ _ p0, isReal_of_lt _ _ _ p1, isReal_of_lt _ _ _ p2, isReal_of_lt _ _ _ p3,
      isReal_of_lt _ _ _ p4, isReal_of_lt _ _ _ p5⟩
  refine ⟨fun c => (Cert.KernelIdeal.Gen.dats m 0 c).arrAt 6 Cert.KernelIdeal.cfg0.N, fun c => (Cert.KernelIdeal.Gen.dats m 0 c).arrAt 7 Cert.KernelIdeal.cfg0.N,
    fun c => (Cert.KernelIdeal.Gen.dats m 0 c).arrAt 8 Cert.KernelIdeal.cfg0.N, fun c => (Cert.KernelIdeal.Gen.dats m 0 c).arrAt 9 Cert.KernelIdeal.cfg0.N,
    Cert.KernelIdeal.Value.run_blocks m g, ?_⟩
  refine (θ_run Cert.ReferenceIdeal.defs _ _).mono (fun _ h c => ?_) (Cert.ReferenceIdeal.Value.run m' g')
  obtain ⟨r82, r86, r84, r83, hkeep⟩ := h c
  obtain ⟨a0, a1, a2, a3, a4, a5⟩ := hargs c
  obtain ⟨f0, f1, f2, f3, f4, f5⟩ := hfin c
  refine ⟨r82.trans ?_, r86.trans ?_, r84.trans ?_, r83.trans ?_, hkeep⟩
  · rw [Cert.ReferenceIdeal.Read.val_main_v82_eq, a0, a1, a2, a3, a4, a5]
    exact (Cert.ReferenceIdeal.Down.v82_eq f0 f1 f2 f3 f4 f5).trans (Cert.KernelIdeal.Down.final6 m c).symm
  · rw [Cert.ReferenceIdeal.Read.val_main_v86_eq, a0, a1, a2, a3, a4, a5]
    exact (Cert.ReferenceIdeal.Down.v86_eq).trans (Cert.KernelIdeal.Down.final7 m c).symm
  · rw [Cert.ReferenceIdeal.Read.val_main_v84_eq, a0, a1, a2, a3, a4, a5]
    exact (Cert.ReferenceIdeal.Down.v84_eq f0 f1 f2 f3 f4 f5).trans (Cert.KernelIdeal.Down.final8 m c).symm
  · rw [Cert.ReferenceIdeal.Read.val_main_v83_eq, a0, a1, a2, a3, a4, a5]
    exact (Cert.ReferenceIdeal.Down.v83_eq f0 f1 f2 f3 f4 f5).trans (Cert.KernelIdeal.Down.final9 m c).symm

end Down

section Input

open Cert.InProjIdeal.Block

/-- On finite arguments the call that goes back through the input projection and its normalisation and its reference end with the same four results. -/
theorem input : Cert.algebraic_InProjIdeal_InProjRefIdeal_pre_finite_inproj (hInProjIdeal := Cert.InProjIdeal.Gen.facts)
    (hInProjRefIdeal := Cert.InProjRefIdeal.Gen.facts) (hPre_finite_inproj := Cert.Pre_finite_inproj.Gen.facts) := by
  intro m g m' g' hpre hargs
  have hfin (c) : (∀ i, IsReal (rowsA m c i)) ∧ (∀ i, IsReal (gainA m c i)) ∧ (∀ i, IsReal (weightA m c i)) ∧
      (∀ i, IsReal (dprojA m c i)) ∧ ∀ i, IsReal (dresA m c i) := by
    obtain ⟨p0, p1, _, p3, p4, p5⟩ := hpre c
    exact ⟨isReal_of_lt _ _ _ p0, isReal_of_lt _ _ _ p1, isReal_of_lt _ _ _ p3, isReal_of_lt _ _ _ p4, isReal_of_lt _ _ _ p5⟩
  refine ⟨fun c => (Cert.InProjIdeal.Gen.dats m 0 c).arrAt 11 Cert.InProjIdeal.cfg0.N,
    fun c => (Cert.InProjIdeal.Gen.dats m 0 c).arrAt 12 Cert.InProjIdeal.cfg0.N,
    fun c => (Cert.InProjIdeal.Gen.dats m 0 c).arrAt 13 Cert.InProjIdeal.cfg0.N,
    fun c => (Cert.InProjIdeal.Gen.dats m 0 c).arrAt 14 Cert.InProjIdeal.cfg0.N,
    Cert.InProjIdeal.Value.run_blocks m g, ?_⟩
  refine (θ_run Cert.InProjRefIdeal.defs _ _).mono (fun _ h c => ?_) (Cert.InProjRefIdeal.Value.run m' g')
  obtain ⟨r0, r1, r2, r3, hkeep⟩ := h c
  obtain ⟨a0, a1, a2, a3, a4, a5⟩ := hargs c
  obtain ⟨f0, f1, f3, f4, f5⟩ := hfin c
  refine ⟨r0.trans ?_, r1.trans ?_, r2.trans ?_, r3.trans ?_, hkeep⟩
  · rw [Cert.InProjRefIdeal.Read.val_main_v72_eq, a0, a1, a3, a4, a5]
    exact (Cert.InProjRefIdeal.Stage.v72_eq _ _ _ _ _ f0 f1 f3 f4 f5).trans (Cert.InProjIdeal.Block.final11 m c).symm
  · refine (Cert.InProjRefIdeal.Read.val_main_v75_eq ..).trans ?_
    rw [a0, a1, a2, a4]
    exact (Cert.InProjRefIdeal.Stage.v75_eq ..).trans (Cert.InProjIdeal.Block.final12 m c).symm
  · refine (Cert.InProjRefIdeal.Read.val_main_v74_eq ..).trans ?_
    rw [a0, a3, a4, a5]
    exact (Cert.InProjRefIdeal.Stage.v74_eq ..).trans (Cert.InProjIdeal.Block.final13 m c).symm
  · refine (Cert.InProjRefIdeal.Read.val_main_v73_eq ..).trans ?_
    rw [a3, a4, a5]
    exact (Cert.InProjRefIdeal.Stage.v73_eq ..).trans (Cert.InProjIdeal.Block.final14 m c).symm

end Input

section Up

open Cert.FfnUIdeal.Block

/-- On finite arguments the call that goes back through the up projection and its normalisation and its reference end with the same four results. -/
theorem up : Cert.algebraic_FfnUIdeal_FfnURefIdeal_pre_finite_u (hFfnUIdeal := Cert.FfnUIdeal.Gen.facts)
    (hFfnURefIdeal := Cert.FfnURefIdeal.Gen.facts) (hPre_finite_u := Cert.Pre_finite_u.Gen.facts) := by
  intro m g m' g' hpre hargs
  have hfin (c) : (∀ i, IsReal (rowsA m c i)) ∧ (∀ i, IsReal (gainA m c i)) ∧ (∀ i, IsReal (weightA m c i)) ∧
      (∀ i, IsReal (dprojA m c i)) ∧ ∀ i, IsReal (dresA m c i) := by
    obtain ⟨p0, p1, _, p3, p4, p5⟩ := hpre c
    exact ⟨isReal_of_lt _ _ _ p0, isReal_of_lt _ _ _ p1, isReal_of_lt _ _ _ p3, isReal_of_lt _ _ _ p4, isReal_of_lt _ _ _ p5⟩
  refine ⟨fun c => (Cert.FfnUIdeal.Gen.dats m 0 c).arrAt 6 Cert.FfnUIdeal.cfg0.N,
    fun c => (Cert.FfnUIdeal.Gen.dats m 0 c).arrAt 7 Cert.FfnUIdeal.cfg0.N,
    fun c => (Cert.FfnUIdeal.Gen.dats m 0 c).arrAt 8 Cert.FfnUIdeal.cfg0.N,
    fun c => (Cert.FfnUIdeal.Gen.dats m 0 c).arrAt 9 Cert.FfnUIdeal.cfg0.N,
    Cert.FfnUIdeal.Value.run_blocks m g, ?_⟩
  refine (θ_run Cert.FfnURefIdeal.defs _ _).mono (fun _ h c => ?_) (Cert.FfnURefIdeal.Value.run m' g')
  obtain ⟨r0, r1, r2, r3, hkeep⟩ := h c
  obtain ⟨a0, a1, a2, a3, a4, a5⟩ := hargs c
  obtain ⟨f0, f1, f3, f4, f5⟩ := hfin c
  refine ⟨r0.trans ?_, r1.trans ?_, r2.trans ?_, r3.trans ?_, hkeep⟩
  · rw [Cert.FfnURefIdeal.Read.val_main_v69_eq, a0, a1, a3, a4, a5]
    exact (Cert.FfnURefIdeal.Stage.v69_eq _ _ _ _ _ f0 f1 f3 f4 f5).trans (Cert.FfnUIdeal.Block.final6 m c).symm
  · refine (Cert.FfnURefIdeal.Read.val_main_v72_eq ..).trans ?_
    rw [a0, a1, a2, a4]
    exact (Cert.FfnURefIdeal.Stage.v72_eq ..).trans (Cert.FfnUIdeal.Block.final7 m c).symm
  · refine (Cert.FfnURefIdeal.Read.val_main_v71_eq ..).trans ?_
    rw [a0, a3, a4, a5]
    exact (Cert.FfnURefIdeal.Stage.v71_eq ..).trans (Cert.FfnUIdeal.Block.final8 m c).symm
  · refine (Cert.FfnURefIdeal.Read.val_main_v70_eq ..).trans ?_
    rw [a3, a4, a5]
    exact (Cert.FfnURefIdeal.Stage.v70_eq ..).trans (Cert.FfnUIdeal.Block.final9 m c).symm

end Up

/-- On finite arguments the call that goes back through the gated activation and its reference end with the same three results. -/
theorem gated : Cert.algebraic_FfnAIdeal_FfnARefIdeal_pre_finite_a (hFfnAIdeal := Cert.FfnAIdeal.Gen.facts)
    (hFfnARefIdeal := Cert.FfnARefIdeal.Gen.facts) (hPre_finite_a := Cert.Pre_finite_a.Gen.facts) := by
  intro m g m' g' hpre hargs
  refine ⟨fun c => (Cert.FfnAIdeal.Gen.dats m 0 c).arrAt 5 Cert.FfnAIdeal.cfg0.N,
    fun c => (Cert.FfnAIdeal.Gen.dats m 0 c).arrAt 6 Cert.FfnAIdeal.cfg0.N,
    fun c => (Cert.FfnAIdeal.Gen.dats m 0 c).arrAt 7 Cert.FfnAIdeal.cfg0.N, Cert.FfnAIdeal.Value.run_blocks m g, ?_⟩
  refine (θ_run Cert.FfnARefIdeal.defs _ _).mono (fun _ h c => ?_) (Cert.FfnARefIdeal.Value.run m' g')
  obtain ⟨r0, r1, r2, hkeep⟩ := h c
  obtain ⟨a0, a1, a2, a3⟩ := hargs c
  obtain ⟨p0, p1, p2, p3⟩ := hpre c
  refine ⟨r0.trans ?_, r1.trans ?_, r2.trans ?_, hkeep⟩
  · refine (Cert.FfnARefIdeal.Read.val_main_v11_eq ..).trans ?_
    rw [a0, a1, a2, a3]
    exact (Cert.FfnARefIdeal.Stage.v11_eq _ _ _ _ (isReal_of_lt _ _ _ p0) (isReal_of_lt _ _ _ p1) (isReal_of_lt _ _ _ p2)
      (isReal_of_lt _ _ _ p3)).trans (Cert.FfnAIdeal.Block.final5 m c).symm
  · refine (Cert.FfnARefIdeal.Read.val_main_v14_eq ..).trans ?_
    rw [a0, a2, a3]
    exact (Cert.FfnARefIdeal.Stage.v14_eq ..).trans (Cert.FfnAIdeal.Block.final6 m c).symm
  · refine (Cert.FfnARefIdeal.Read.val_main_v4_eq ..).trans ?_
    rw [a0, a1, a3]
    exact (Cert.FfnARefIdeal.Stage.v4_eq ..).trans (Cert.FfnAIdeal.Block.final7 m c).symm

/-- The call that goes back through the gate projection and its reference end with the same two results. -/
theorem gate : Cert.algebraic_FfnGIdeal_FfnGRefIdeal (hFfnGIdeal := Cert.FfnGIdeal.Gen.facts)
    (hFfnGRefIdeal := Cert.FfnGRefIdeal.Gen.facts) := by
  intro m g m' g' _ hargs
  refine ⟨fun c => (Cert.FfnGIdeal.Gen.dats m 0 c).arrAt 6 Cert.FfnGIdeal.cfg0.N,
    fun c => (Cert.FfnGIdeal.Gen.dats m 0 c).arrAt 7 Cert.FfnGIdeal.cfg0.N, Cert.FfnGIdeal.Value.run_blocks m g, ?_⟩
  refine (θ_run Cert.FfnGRefIdeal.defs _ _).mono (fun _ h c => ?_) (Cert.FfnGRefIdeal.Value.run m' g')
  obtain ⟨r0, r1, hkeep⟩ := h c
  obtain ⟨a0, a1, a2, a3, a4, a5⟩ := hargs c
  refine ⟨r0.trans ?_, r1.trans ?_, hkeep⟩
  · refine (Cert.FfnGRefIdeal.Read.val_main_v34_eq ..).trans ?_
    rw [a3, a4, a5]
    exact (Cert.FfnGRefIdeal.Stage.v34_eq ..).trans (Cert.FfnGIdeal.Block.final6 m c).symm
  · refine (Cert.FfnGRefIdeal.Read.val_main_v35_eq ..).trans ?_
    rw [a0, a1, a2, a4]
    exact (Cert.FfnGRefIdeal.Stage.v35_eq ..).trans (Cert.FfnGIdeal.Block.final7 m c).symm

/-- The call that goes back through the output projection and its reference end with the same three results. -/
theorem output : Cert.algebraic_OutProjIdeal_OutProjRefIdeal (hOutProjIdeal := Cert.OutProjIdeal.Gen.facts)
    (hOutProjRefIdeal := Cert.OutProjRefIdeal.Gen.facts) := by
  intro m g m' g' _ hargs
  refine ⟨fun c => (Cert.OutProjIdeal.Gen.dats m 0 c).arrAt 3 Cert.OutProjIdeal.cfg0.N,
    fun c => (Cert.OutProjIdeal.Gen.dats m 0 c).arrAt 4 Cert.OutProjIdeal.cfg0.N,
    fun c => (Cert.OutProjIdeal.Gen.dats m 0 c).arrAt 5 Cert.OutProjIdeal.cfg0.N, Cert.OutProjIdeal.Value.run_blocks m g, ?_⟩
  refine (θ_run Cert.OutProjRefIdeal.defs _ _).mono (fun _ h c => ?_) (Cert.OutProjRefIdeal.Value.run m' g')
  obtain ⟨r0, r1, r2, hkeep⟩ := h c
  obtain ⟨a0, a1, a2, a3⟩ := hargs c
  refine ⟨r0.trans ?_, r1.trans ?_, r2.trans ?_, hkeep⟩
  · refine (Cert.OutProjRefIdeal.Read.val_main_v10_eq ..).trans ?_
    rw [a1, a3]
    exact (Cert.OutProjRefIdeal.Stage.v10_eq ..).trans (Cert.OutProjIdeal.Block.final3 m c).symm
  · refine (Cert.OutProjRefIdeal.Read.val_main_v11_eq ..).trans ?_
    rw [a3]
    exact (Cert.OutProjRefIdeal.Stage.v11_eq ..).trans (Cert.OutProjIdeal.Block.final4 m c).symm
  · refine (Cert.OutProjRefIdeal.Read.val_main_v9_eq ..).trans ?_
    rw [a0, a3]
    exact (Cert.OutProjRefIdeal.Stage.v9_eq ..).trans (Cert.OutProjIdeal.Block.final5 m c).symm

section Mix

open Cert.MixFwdIdeal.Block

/-- On finite queries, keys and sinks the mixer's forward call and its reference end with the same result. -/
theorem mix : Cert.algebraic_MixFwdIdeal_MixFwdRefIdeal_pre_finite_mix (hMixFwdIdeal := Cert.MixFwdIdeal.Gen.facts)
    (hMixFwdRefIdeal := Cert.MixFwdRefIdeal.Gen.facts) (hPre_finite_mix := Cert.Pre_finite_mix.Gen.facts) := by
  intro m g m' g' hpre hargs
  refine ⟨fun c => (Cert.MixFwdIdeal.Gen.dats m 0 c).arrAt 12 Cert.MixFwdIdeal.cfg0.N, Cert.MixFwdIdeal.Value.run_blocks m g, ?_⟩
  refine (θ_run Cert.MixFwdRefIdeal.defs _ _).mono (fun _ h c => ?_) (Cert.MixFwdRefIdeal.Value.run m' g')
  obtain ⟨r0, hkeep⟩ := h c
  obtain ⟨a0, a1, a2, a3, a4, a5, a6, a7, a8, a9⟩ := hargs c
  obtain ⟨p0, p1, p5⟩ := hpre c
  refine ⟨r0.trans ?_, hkeep⟩
  refine (Cert.MixFwdRefIdeal.Read.val_main_v123_eq ..).trans ?_
  rw [a0, a1, a2, a3, a4, a5, a6, a7, a8, a9]
  exact (funext (Cert.MixFwdRefIdeal.Stages.v123_eq _ _ _ _ _ _ _ _ _ _ (isReal_of_lt _ _ _ p0) (isReal_of_lt _ _ _ p1)
    (isReal_of_lt _ _ _ p5))).trans (final12 m c).symm

end Mix

/-- The references run, keep their arguments and leave every counter at zero. -/
theorem down_frame : Cert.quiescent_ReferenceIdeal (hReferenceIdeal := Cert.ReferenceIdeal.Gen.facts) := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)
theorem input_frame : Cert.quiescent_InProjRefIdeal (hInProjRefIdeal := Cert.InProjRefIdeal.Gen.facts) := fun m ρ _ =>
  (θ_run Cert.InProjRefIdeal.defs _ _).mono (fun r h => ⟨fun c => (h c).2.2.2.2, sem_eq_zero_of_no_sems (by decide) r.2⟩)
    (Cert.InProjRefIdeal.Value.run (F := Ideal) m ρ)
theorem up_frame : Cert.quiescent_FfnURefIdeal (hFfnURefIdeal := Cert.FfnURefIdeal.Gen.facts) := fun m ρ _ =>
  (θ_run Cert.FfnURefIdeal.defs _ _).mono (fun r h => ⟨fun c => (h c).2.2.2.2, sem_eq_zero_of_no_sems (by decide) r.2⟩)
    (Cert.FfnURefIdeal.Value.run (F := Ideal) m ρ)
theorem gated_frame : Cert.quiescent_FfnARefIdeal (hFfnARefIdeal := Cert.FfnARefIdeal.Gen.facts) := fun m ρ _ =>
  (θ_run Cert.FfnARefIdeal.defs _ _).mono (fun r h => ⟨fun c => (h c).2.2.2, sem_eq_zero_of_no_sems (by decide) r.2⟩)
    (Cert.FfnARefIdeal.Value.run (F := Ideal) m ρ)
theorem gate_frame : Cert.quiescent_FfnGRefIdeal (hFfnGRefIdeal := Cert.FfnGRefIdeal.Gen.facts) := fun m ρ _ =>
  (θ_run Cert.FfnGRefIdeal.defs _ _).mono (fun r h => ⟨fun c => (h c).2.2, sem_eq_zero_of_no_sems (by decide) r.2⟩)
    (Cert.FfnGRefIdeal.Value.run (F := Ideal) m ρ)
theorem output_frame : Cert.quiescent_OutProjRefIdeal (hOutProjRefIdeal := Cert.OutProjRefIdeal.Gen.facts) := fun m ρ _ =>
  (θ_run Cert.OutProjRefIdeal.defs _ _).mono (fun r h => ⟨fun c => (h c).2.2.2, sem_eq_zero_of_no_sems (by decide) r.2⟩)
    (Cert.OutProjRefIdeal.Value.run (F := Ideal) m ρ)
theorem mix_frame : Cert.quiescent_MixFwdRefIdeal (hMixFwdRefIdeal := Cert.MixFwdRefIdeal.Gen.facts) := fun m ρ _ =>
  (θ_run Cert.MixFwdRefIdeal.defs _ _).mono (fun r h => ⟨fun c => (h c).2, sem_eq_zero_of_no_sems (by decide) r.2⟩)
    (Cert.MixFwdRefIdeal.Value.run (F := Ideal) m ρ)

theorem claim : Cert.Claim := ⟨Cert.Kernel.Gen.facts, Cert.KernelIdeal.Gen.facts, Cert.ReferenceIdeal.Gen.facts, Cert.InProj.Gen.facts,
  Cert.InProjIdeal.Gen.facts, Cert.InProjRefIdeal.Gen.facts, Cert.FfnU.Gen.facts, Cert.FfnUIdeal.Gen.facts, Cert.FfnURefIdeal.Gen.facts,
  Cert.FfnA.Gen.facts, Cert.FfnAIdeal.Gen.facts, Cert.FfnARefIdeal.Gen.facts, Cert.FfnG.Gen.facts, Cert.FfnGIdeal.Gen.facts,
  Cert.FfnGRefIdeal.Gen.facts, Cert.OutProj.Gen.facts, Cert.OutProjIdeal.Gen.facts, Cert.OutProjRefIdeal.Gen.facts,
  Cert.MixFwd.Gen.facts, Cert.MixFwdIdeal.Gen.facts, Cert.MixFwdRefIdeal.Gen.facts,
  Cert.Pre_finite.Gen.facts, Cert.Pre_finite_inproj.Gen.facts, Cert.Pre_finite_u.Gen.facts, Cert.Pre_finite_a.Gen.facts, Cert.Pre_finite_mix.Gen.facts,
  fun m ρ _ => Cert.Kernel.Gen.frame m ρ, fun m ρ _ => Cert.KernelIdeal.Gen.frame m ρ, fun m ρ _ => Cert.KernelIdeal.Gen.frame m ρ,
  down_frame, fun m ρ _ => down_frame m ρ trivial,
  fun m ρ _ => Cert.InProj.Gen.frame m ρ, fun m ρ _ => Cert.InProjIdeal.Gen.frame m ρ, fun m ρ _ => Cert.InProjIdeal.Gen.frame m ρ,
  input_frame, fun m ρ _ => input_frame m ρ trivial,
  fun m ρ _ => Cert.FfnU.Gen.frame m ρ, fun m ρ _ => Cert.FfnUIdeal.Gen.frame m ρ, fun m ρ _ => Cert.FfnUIdeal.Gen.frame m ρ,
  up_frame, fun m ρ _ => up_frame m ρ trivial,
  fun m ρ _ => Cert.FfnA.Gen.frame m ρ, fun m ρ _ => Cert.FfnAIdeal.Gen.frame m ρ, fun m ρ _ => Cert.FfnAIdeal.Gen.frame m ρ,
  gated_frame, fun m ρ _ => gated_frame m ρ trivial,
  fun m ρ _ => Cert.FfnG.Gen.frame m ρ, fun m ρ _ => Cert.FfnGIdeal.Gen.frame m ρ, gate_frame,
  fun m ρ _ => Cert.OutProj.Gen.frame m ρ, fun m ρ _ => Cert.OutProjIdeal.Gen.frame m ρ, output_frame,
  fun m ρ _ => Cert.MixFwd.Gen.frame m ρ, fun m ρ _ => Cert.MixFwdIdeal.Gen.frame m ρ, fun m ρ _ => Cert.MixFwdIdeal.Gen.frame m ρ,
  mix_frame, fun m ρ _ => mix_frame m ρ trivial,
  trivial, down, trivial, input, trivial, up, trivial, gated, trivial, gate, trivial, output,
  IdealRules.named_const.statement Cert.MixFwdIdeal.κ "mask" .f32 0xF149F2CA#32 ⊥ rfl, mix⟩

end Cert.Proof

end
